-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_RefDgradIdeal (m : (ℓ : Loc Cert.RefDgradIdeal.nD Cert.RefDgradIdeal.τ Cert.RefDgradIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_RefAmaxIdeal (m : (ℓ : Loc Cert.RefAmaxIdeal.nD Cert.RefAmaxIdeal.τ Cert.RefAmaxIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_RefQuantIdeal (m : (ℓ : Loc Cert.RefQuantIdeal.nD Cert.RefQuantIdeal.τ Cert.RefQuantIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ r.2.sem = fun _ => 0)

def quiescent_RefDgradIdeal [hRefDgradIdeal : Cert.RefDgradIdeal.Facts] : Prop :=
  ∀ (m : (ℓ : Loc Cert.RefDgradIdeal.nD Cert.RefDgradIdeal.τ Cert.RefDgradIdeal.sig) → Buf (Elt Ideal) ℓ) (g : Dev Cert.RefDgradIdeal.nD → PrngReg), Pre_RefDgradIdeal m →
    θ_run (Cert.RefDgradIdeal.defs (F := Ideal)) (onTc (τ := Cert.RefDgradIdeal.τ) (Cert.RefDgradIdeal.main (F := Ideal))) ⟨m, fun _ => 0, g⟩ (fun r => (∀ c : Dev Cert.RefDgradIdeal.nD,
      r.2.mem ((c.tc : Thread Cert.RefDgradIdeal.nD Cert.RefDgradIdeal.τ).loc Cert.RefDgradIdeal.main_arg0) = m ((c.tc : Thread Cert.RefDgradIdeal.nD Cert.RefDgradIdeal.τ).loc Cert.RefDgradIdeal.main_arg0)
      ∧ r.2.mem ((c.tc : Thread Cert.RefDgradIdeal.nD Cert.RefDgradIdeal.τ).loc Cert.RefDgradIdeal.main_arg1) = m ((c.tc : Thread Cert.RefDgradIdeal.nD Cert.RefDgradIdeal.τ).loc Cert.RefDgradIdeal.main_arg1)
      ∧ r.2.mem ((c.tc : Thread Cert.RefDgradIdeal.nD Cert.RefDgradIdeal.τ).loc Cert.RefDgradIdeal.main_arg2) = m ((c.tc : Thread Cert.RefDgradIdeal.nD Cert.RefDgradIdeal.τ).loc Cert.RefDgradIdeal.main_arg2))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_RefAmaxIdeal [hRefAmaxIdeal : Cert.RefAmaxIdeal.Facts] : Prop :=
  ∀ (m : (ℓ : Loc Cert.RefAmaxIdeal.nD Cert.RefAmaxIdeal.τ Cert.RefAmaxIdeal.sig) → Buf (Elt Ideal) ℓ) (g : Dev Cert.RefAmaxIdeal.nD → PrngReg), Pre_RefAmaxIdeal m →
    θ_run (Cert.RefAmaxIdeal.defs (F := Ideal)) (onTc (τ := Cert.RefAmaxIdeal.τ) (Cert.RefAmaxIdeal.main (F := Ideal))) ⟨m, fun _ => 0, g⟩ (fun r => (∀ c : Dev Cert.RefAmaxIdeal.nD,
      r.2.mem ((c.tc : Thread Cert.RefAmaxIdeal.nD Cert.RefAmaxIdeal.τ).loc Cert.RefAmaxIdeal.main_arg0) = m ((c.tc : Thread Cert.RefAmaxIdeal.nD Cert.RefAmaxIdeal.τ).loc Cert.RefAmaxIdeal.main_arg0))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_RefQuantIdeal [hRefQuantIdeal : Cert.RefQuantIdeal.Facts] : Prop :=
  ∀ (m : (ℓ : Loc Cert.RefQuantIdeal.nD Cert.RefQuantIdeal.τ Cert.RefQuantIdeal.sig) → Buf (Elt Ideal) ℓ) (g : Dev Cert.RefQuantIdeal.nD → PrngReg), Pre_RefQuantIdeal m →
    θ_run (Cert.RefQuantIdeal.defs (F := Ideal)) (onTc (τ := Cert.RefQuantIdeal.τ) (Cert.RefQuantIdeal.main (F := Ideal))) ⟨m, fun _ => 0, g⟩ (fun r => (∀ c : Dev Cert.RefQuantIdeal.nD,
      r.2.mem ((c.tc : Thread Cert.RefQuantIdeal.nD Cert.RefQuantIdeal.τ).loc Cert.RefQuantIdeal.main_arg0) = m ((c.tc : Thread Cert.RefQuantIdeal.nD Cert.RefQuantIdeal.τ).loc Cert.RefQuantIdeal.main_arg0)
      ∧ r.2.mem ((c.tc : Thread Cert.RefQuantIdeal.nD Cert.RefQuantIdeal.τ).loc Cert.RefQuantIdeal.main_arg1) = m ((c.tc : Thread Cert.RefQuantIdeal.nD Cert.RefQuantIdeal.τ).loc Cert.RefQuantIdeal.main_arg1))
      ∧ r.2.sem = fun _ => 0)

def preserves_Fwd_FwdIdeal : Prop :=
  True

def algebraic_FwdIdeal_RefFwdIdeal [hFwdIdeal : Cert.FwdIdeal.Facts] [hRefFwdIdeal : Cert.RefFwdIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v1) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v5) = v0 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2))

def preserves_Dgrad_DgradIdeal : Prop :=
  True

def algebraic_DgradIdeal_RefDgradIdeal [hDgradIdeal : Cert.DgradIdeal.Facts] [hRefDgradIdeal : Cert.RefDgradIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.RefDgradIdeal.nD Cert.RefDgradIdeal.τ Cert.RefDgradIdeal.sig) → Buf (Elt Ideal) ℓ) (g' : Dev Cert.RefDgradIdeal.nD → PrngReg), Pre_DgradIdeal m →
    (∀ c : Dev Cert.DgradIdeal.nD,
      m' ((c.tc : Thread Cert.RefDgradIdeal.nD Cert.RefDgradIdeal.τ).loc Cert.RefDgradIdeal.main_arg0) = m ((c.tc : Thread Cert.DgradIdeal.nD Cert.DgradIdeal.τ).loc Cert.DgradIdeal.main_arg0)
      ∧ m' ((c.tc : Thread Cert.RefDgradIdeal.nD Cert.RefDgradIdeal.τ).loc Cert.RefDgradIdeal.main_arg1) = m ((c.tc : Thread Cert.DgradIdeal.nD Cert.DgradIdeal.τ).loc Cert.DgradIdeal.main_arg1)
      ∧ m' ((c.tc : Thread Cert.RefDgradIdeal.nD Cert.RefDgradIdeal.τ).loc Cert.RefDgradIdeal.main_arg2) = m ((c.tc : Thread Cert.DgradIdeal.nD Cert.DgradIdeal.τ).loc Cert.DgradIdeal.main_arg2)) →
    ∃ (v0 : (c : Dev Cert.DgradIdeal.nD) → Buf (Elt Ideal) ((c.tc : Thread Cert.DgradIdeal.nD Cert.DgradIdeal.τ).loc Cert.DgradIdeal.main_v1)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v1) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ θ_run (Cert.RefDgradIdeal.defs (F := Ideal)) (onTc (τ := Cert.RefDgradIdeal.τ) (Cert.RefDgradIdeal.main (F := Ideal))) ⟨m', fun _ => 0, g'⟩ (fun r => ∀ c : Dev Cert.RefDgradIdeal.nD,
          r.2.mem ((c.tc : Thread Cert.RefDgradIdeal.nD Cert.RefDgradIdeal.τ).loc Cert.RefDgradIdeal.main_v5) = v0 c
          ∧ r.2.mem ((c.tc : Thread Cert.RefDgradIdeal.nD Cert.RefDgradIdeal.τ).loc Cert.RefDgradIdeal.main_arg0) = m' ((c.tc : Thread Cert.RefDgradIdeal.nD Cert.RefDgradIdeal.τ).loc Cert.RefDgradIdeal.main_arg0)
          ∧ r.2.mem ((c.tc : Thread Cert.RefDgradIdeal.nD Cert.RefDgradIdeal.τ).loc Cert.RefDgradIdeal.main_arg1) = m' ((c.tc : Thread Cert.RefDgradIdeal.nD Cert.RefDgradIdeal.τ).loc Cert.RefDgradIdeal.main_arg1)
          ∧ r.2.mem ((c.tc : Thread Cert.RefDgradIdeal.nD Cert.RefDgradIdeal.τ).loc Cert.RefDgradIdeal.main_arg2) = m' ((c.tc : Thread Cert.RefDgradIdeal.nD Cert.RefDgradIdeal.τ).loc Cert.RefDgradIdeal.main_arg2))

def preserves_Amax_AmaxIdeal : Prop :=
  True

def algebraic_AmaxIdeal_RefAmaxIdeal [hAmaxIdeal : Cert.AmaxIdeal.Facts] [hRefAmaxIdeal : Cert.RefAmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.RefAmaxIdeal.nD Cert.RefAmaxIdeal.τ Cert.RefAmaxIdeal.sig) → Buf (Elt Ideal) ℓ) (g' : Dev Cert.RefAmaxIdeal.nD → PrngReg), Pre_AmaxIdeal m →
    (∀ c : Dev Cert.AmaxIdeal.nD,
      m' ((c.tc : Thread Cert.RefAmaxIdeal.nD Cert.RefAmaxIdeal.τ).loc Cert.RefAmaxIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v0)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.RefAmaxIdeal.defs (F := Ideal)) (onTc (τ := Cert.RefAmaxIdeal.τ) (Cert.RefAmaxIdeal.main (F := Ideal))) ⟨m', fun _ => 0, g'⟩ (fun r => ∀ c : Dev Cert.RefAmaxIdeal.nD,
          r.2.mem ((c.tc : Thread Cert.RefAmaxIdeal.nD Cert.RefAmaxIdeal.τ).loc Cert.RefAmaxIdeal.main_v5) = v0 c
          ∧ r.2.mem ((c.tc : Thread Cert.RefAmaxIdeal.nD Cert.RefAmaxIdeal.τ).loc Cert.RefAmaxIdeal.main_arg0) = m' ((c.tc : Thread Cert.RefAmaxIdeal.nD Cert.RefAmaxIdeal.τ).loc Cert.RefAmaxIdeal.main_arg0))

def preserves_Quant_QuantIdeal : Prop :=
  IdealRules.bf16_pair.Statement Cert.QuantIdeal.S64x128 Cert.QuantIdeal.S32x128
  ∧ IdealRules.bf16_pair.PackStatement Cert.QuantIdeal.S32x128

def algebraic_QuantIdeal_RefQuantIdeal [hQuantIdeal : Cert.QuantIdeal.Facts] [hRefQuantIdeal : Cert.RefQuantIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.RefQuantIdeal.nD Cert.RefQuantIdeal.τ Cert.RefQuantIdeal.sig) → Buf (Elt Ideal) ℓ) (g' : Dev Cert.RefQuantIdeal.nD → PrngReg), Pre_QuantIdeal m →
    (∀ c : Dev Cert.QuantIdeal.nD,
      m' ((c.tc : Thread Cert.RefQuantIdeal.nD Cert.RefQuantIdeal.τ).loc Cert.RefQuantIdeal.main_arg0) = m ((c.tc : Thread Cert.QuantIdeal.nD Cert.QuantIdeal.τ).loc Cert.QuantIdeal.main_arg0)
      ∧ m' ((c.tc : Thread Cert.RefQuantIdeal.nD Cert.RefQuantIdeal.τ).loc Cert.RefQuantIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v0_1)) (v1 : (c : Dev Cert.QuantIdeal.nD) → Buf (Elt Ideal) ((c.tc : Thread Cert.QuantIdeal.nD Cert.QuantIdeal.τ).loc Cert.QuantIdeal.main_v0_2)) (v2 : (c : Dev Cert.QuantIdeal.nD) → Buf (Elt Ideal) ((c.tc : Thread Cert.QuantIdeal.nD Cert.QuantIdeal.τ).loc Cert.QuantIdeal.main_v0_3)) (v3 : (c : Dev Cert.QuantIdeal.nD) → Buf (Elt Ideal) ((c.tc : Thread Cert.QuantIdeal.nD Cert.QuantIdeal.τ).loc Cert.QuantIdeal.main_v0_4)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_1) = v0 c
          ∧ r.2.mem ((c.tc : Thread Cert.QuantIdeal.nD Cert.QuantIdeal.τ).loc Cert.QuantIdeal.main_v0_2) = v1 c
          ∧ r.2.mem ((c.tc : Thread Cert.QuantIdeal.nD Cert.QuantIdeal.τ).loc Cert.QuantIdeal.main_v0_3) = v2 c
          ∧ r.2.mem ((c.tc : Thread Cert.QuantIdeal.nD Cert.QuantIdeal.τ).loc Cert.QuantIdeal.main_v0_4) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.RefQuantIdeal.defs (F := Ideal)) (onTc (τ := Cert.RefQuantIdeal.τ) (Cert.RefQuantIdeal.main (F := Ideal))) ⟨m', fun _ => 0, g'⟩ (fun r => ∀ c : Dev Cert.RefQuantIdeal.nD,
          r.2.mem ((c.tc : Thread Cert.RefQuantIdeal.nD Cert.RefQuantIdeal.τ).loc Cert.RefQuantIdeal.main_v15_0) = v0 c
          ∧ r.2.mem ((c.tc : Thread Cert.RefQuantIdeal.nD Cert.RefQuantIdeal.τ).loc Cert.RefQuantIdeal.main_v15_1) = v1 c
          ∧ r.2.mem ((c.tc : Thread Cert.RefQuantIdeal.nD Cert.RefQuantIdeal.τ).loc Cert.RefQuantIdeal.main_v15_2) = v2 c
          ∧ r.2.mem ((c.tc : Thread Cert.RefQuantIdeal.nD Cert.RefQuantIdeal.τ).loc Cert.RefQuantIdeal.main_v15_3) = v3 c
          ∧ r.2.mem ((c.tc : Thread Cert.RefQuantIdeal.nD Cert.RefQuantIdeal.τ).loc Cert.RefQuantIdeal.main_arg0) = m' ((c.tc : Thread Cert.RefQuantIdeal.nD Cert.RefQuantIdeal.τ).loc Cert.RefQuantIdeal.main_arg0)
          ∧ r.2.mem ((c.tc : Thread Cert.RefQuantIdeal.nD Cert.RefQuantIdeal.τ).loc Cert.RefQuantIdeal.main_arg1) = m' ((c.tc : Thread Cert.RefQuantIdeal.nD Cert.RefQuantIdeal.τ).loc Cert.RefQuantIdeal.main_arg1))

def Claim : Prop :=
  ∃ (hFwd : Cert.Fwd.Facts) (hFwdIdeal : Cert.FwdIdeal.Facts) (hRefFwdIdeal : Cert.RefFwdIdeal.Facts) (hDgrad : Cert.Dgrad.Facts) (hDgradIdeal : Cert.DgradIdeal.Facts) (hRefDgradIdeal : Cert.RefDgradIdeal.Facts) (hAmax : Cert.Amax.Facts) (hAmaxIdeal : Cert.AmaxIdeal.Facts) (hRefAmaxIdeal : Cert.RefAmaxIdeal.Facts) (hQuant : Cert.Quant.Facts) (hQuantIdeal : Cert.QuantIdeal.Facts) (hRefQuantIdeal : Cert.RefQuantIdeal.Facts),
    quiescent_Fwd (hFwd := hFwd)
    ∧ quiescent_FwdIdeal (hFwdIdeal := hFwdIdeal)
    ∧ quiescent_RefFwdIdeal (hRefFwdIdeal := hRefFwdIdeal)
    ∧ quiescent_Dgrad (hDgrad := hDgrad)
    ∧ quiescent_DgradIdeal (hDgradIdeal := hDgradIdeal)
    ∧ quiescent_RefDgradIdeal (hRefDgradIdeal := hRefDgradIdeal)
    ∧ quiescent_Amax (hAmax := hAmax)
    ∧ quiescent_AmaxIdeal (hAmaxIdeal := hAmaxIdeal)
    ∧ quiescent_RefAmaxIdeal (hRefAmaxIdeal := hRefAmaxIdeal)
    ∧ quiescent_Quant (hQuant := hQuant)
    ∧ quiescent_QuantIdeal (hQuantIdeal := hQuantIdeal)
    ∧ quiescent_RefQuantIdeal (hRefQuantIdeal := hRefQuantIdeal)
    ∧ preserves_Fwd_FwdIdeal
    ∧ algebraic_FwdIdeal_RefFwdIdeal (hFwdIdeal := hFwdIdeal) (hRefFwdIdeal := hRefFwdIdeal)
    ∧ preserves_Dgrad_DgradIdeal
    ∧ algebraic_DgradIdeal_RefDgradIdeal (hDgradIdeal := hDgradIdeal) (hRefDgradIdeal := hRefDgradIdeal)
    ∧ preserves_Amax_AmaxIdeal
    ∧ algebraic_AmaxIdeal_RefAmaxIdeal (hAmaxIdeal := hAmaxIdeal) (hRefAmaxIdeal := hRefAmaxIdeal)
    ∧ preserves_Quant_QuantIdeal
    ∧ algebraic_QuantIdeal_RefQuantIdeal (hQuantIdeal := hQuantIdeal) (hRefQuantIdeal := hRefQuantIdeal)
-- ==== Fwd.lean ====
abbrev S16x1152x2048 : Shape := ⟨3, ![16, 1152, 2048]⟩
abbrev S11008x2048 : Shape := ⟨2, ![11008, 2048]⟩
abbrev S1x1 : Shape := ⟨2, ![1, 1]⟩
abbrev S18432x2048 : Shape := ⟨2, ![18432, 2048]⟩
abbrev S18432x11008 : Shape := ⟨2, ![18432, 11008]⟩
abbrev S256x2048 : Shape := ⟨2, ![256, 2048]⟩
abbrev S256x11008 : Shape := ⟨2, ![256, 11008]⟩

abbrev nBuf : Space → Nat
  | .hbm => 5
  | .vmem => 6
  | .smem => 0
  | _ => 0

abbrev bufTy : (tb : Table) → Fin (tcTables nBuf tb) → BufTy
  | .hbm, ⟨0, _⟩ => ⟨S16x1152x2048, .bf16⟩
  | .hbm, ⟨1, _⟩ => ⟨S11008x2048, .bf16⟩
  | .hbm, ⟨2, _⟩ => ⟨S1x1, .f32⟩
  | .hbm, ⟨3, _⟩ => ⟨S18432x2048, .bf16⟩
  | .hbm, ⟨4, _⟩ => ⟨S18432x11008, .bf16⟩
  | .local _ .vmem, ⟨0, _⟩ => ⟨S256x2048, .bf16⟩
  | .local _ .vmem, ⟨1, _⟩ => ⟨S256x2048, .bf16⟩
  | .local _ .vmem, ⟨2, _⟩ => ⟨S11008x2048, .bf16⟩
  | .local _ .vmem, ⟨3, _⟩ => ⟨S1x1, .f32⟩
  | .local _ .vmem, ⟨4, _⟩ => ⟨S256x11008, .bf16⟩
  | .local _ .vmem, ⟨5, _⟩ => ⟨S256x11008, .bf16⟩
  | _, _ => ⟨S16x1152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11008x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x11008 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefFwdIdeal.lean ====
abbrev S16x1152x2048 : Shape := ⟨3, ![16, 1152, 2048]⟩
abbrev S11008x2048 : Shape := ⟨2, ![11008, 2048]⟩
abbrev S1x1 : Shape := ⟨2, ![1, 1]⟩
abbrev S16x1152x11008 : Shape := ⟨3, ![16, 1152, 11008]⟩
abbrev S_ : Shape := ⟨0, ![]⟩
abbrev S18432x11008 : Shape := ⟨2, ![18432, 11008]⟩

abbrev nBuf : Space → Nat
  | .hbm => 9
  | .vmem => 0
  | .smem => 0
  | _ => 0

abbrev bufTy : (tb : Table) → Fin (tcTables nBuf tb) → BufTy
  | .hbm, ⟨0, _⟩ => ⟨S16x1152x2048, .bf16⟩
  | .hbm, ⟨1, _⟩ => ⟨S11008x2048, .bf16⟩
  | .hbm, ⟨2, _⟩ => ⟨S1x1, .f32⟩
  | .hbm, ⟨3, _⟩ => ⟨S16x1152x11008, .f32⟩
  | .hbm, ⟨4, _⟩ => ⟨S_, .f32⟩
  | .hbm, ⟨5, _⟩ => ⟨S16x1152x11008, .f32⟩
  | .hbm, ⟨6, _⟩ => ⟨S16x1152x11008, .f32⟩
  | .hbm, ⟨7, _⟩ => ⟨S16x1152x11008, .bf16⟩
  | .hbm, ⟨8, _⟩ => ⟨S18432x11008, .bf16⟩
  | _, _ => ⟨S16x1152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dgrad.lean ====
abbrev S16x1152x11008 : Shape := ⟨3, ![16, 1152, 11008]⟩
abbrev S11008x2048 : Shape := ⟨2, ![11008, 2048]⟩
abbrev S1x1 : Shape := ⟨2, ![1, 1]⟩
abbrev S18432x11008 : Shape := ⟨2, ![18432, 11008]⟩
abbrev S18432x2048 : Shape := ⟨2, ![18432, 2048]⟩
abbrev S128x11008 : Shape := ⟨2, ![128, 11008]⟩
abbrev S128x2048 : Shape := ⟨2, ![128, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x1152x11008, .bf16⟩
  | .hbm, ⟨1, _⟩ => ⟨S11008x2048, .bf16⟩
  | .hbm, ⟨2, _⟩ => ⟨S1x1, .f32⟩
  | .hbm, ⟨3, _⟩ => ⟨S18432x11008, .bf16⟩
  | .hbm, ⟨4, _⟩ => ⟨S18432x2048, .bf16⟩
  | .local _ .vmem, ⟨0, _⟩ => ⟨S128x11008, .bf16⟩
  | .local _ .vmem, ⟨1, _⟩ => ⟨S128x11008, .bf16⟩
  | .local _ .vmem, ⟨2, _⟩ => ⟨S11008x2048, .bf16⟩
  | .local _ .vmem, ⟨3, _⟩ => ⟨S1x1, .f32⟩
  | .local _ .vmem, ⟨4, _⟩ => ⟨S128x2048, .bf16⟩
  | .local _ .vmem, ⟨5, _⟩ => ⟨S128x2048, .bf16⟩
  | _, _ => ⟨S16x1152x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11008x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefDgradIdeal.lean ====
abbrev S16x1152x11008 : Shape := ⟨3, ![16, 1152, 11008]⟩
abbrev S11008x2048 : Shape := ⟨2, ![11008, 2048]⟩
abbrev S1x1 : Shape := ⟨2, ![1, 1]⟩
abbrev S16x1152x2048 : Shape := ⟨3, ![16, 1152, 2048]⟩
abbrev S_ : Shape := ⟨0, ![]⟩
abbrev S18432x2048 : Shape := ⟨2, ![18432, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16x1152x11008, .bf16⟩
  | .hbm, ⟨1, _⟩ => ⟨S11008x2048, .bf16⟩
  | .hbm, ⟨2, _⟩ => ⟨S1x1, .f32⟩
  | .hbm, ⟨3, _⟩ => ⟨S16x1152x2048, .f32⟩
  | .hbm, ⟨4, _⟩ => ⟨S_, .f32⟩
  | .hbm, ⟨5, _⟩ => ⟨S16x1152x2048, .f32⟩
  | .hbm, ⟨6, _⟩ => ⟨S16x1152x2048, .f32⟩
  | .hbm, ⟨7, _⟩ => ⟨S16x1152x2048, .bf16⟩
  | .hbm, ⟨8, _⟩ => ⟨S18432x2048, .bf16⟩
  | _, _ => ⟨S16x1152x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Amax.lean ====
abbrev S11008x2048 : Shape := ⟨2, ![11008, 2048]⟩
abbrev S688x2048 : Shape := ⟨2, ![688, 2048]⟩
abbrev S1024x2048 : Shape := ⟨2, ![1024, 2048]⟩
abbrev S64x2048 : Shape := ⟨2, ![64, 2048]⟩
abbrev S64x128 : Shape := ⟨2, ![64, 128]⟩
abbrev S1024x128 : Shape := ⟨2, ![1024, 128]⟩
abbrev S64x16x128 : Shape := ⟨3, ![64, 16, 128]⟩
abbrev S64x128x1 : Shape := ⟨3, ![64, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S11008x2048, .bf16⟩
  | .hbm, ⟨1, _⟩ => ⟨S688x2048, .f32⟩
  | .local _ .vmem, ⟨0, _⟩ => ⟨S1024x2048, .bf16⟩
  | .local _ .vmem, ⟨1, _⟩ => ⟨S1024x2048, .bf16⟩
  | .local _ .vmem, ⟨2, _⟩ => ⟨S64x2048, .f32⟩
  | .local _ .vmem, ⟨3, _⟩ => ⟨S64x2048, .f32⟩
  | _, _ => ⟨S11008x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RefAmaxIdeal.lean ====
abbrev S11008x2048 : Shape := ⟨2, ![11008, 2048]⟩
abbrev S688x16x128x16 : Shape := ⟨4, ![688, 16, 128, 16]⟩
abbrev S_ : Shape := ⟨0, ![]⟩
abbrev S688x128 : Shape := ⟨2, ![688, 128]⟩
abbrev S688x128x16 : Shape := ⟨3, ![688, 128, 16]⟩
abbrev S688x2048 : Shape := ⟨2, ![688, 2048]⟩

abbrev nBuf : Space → Nat
  | .hbm => 8
  | .vmem => 0
  | .smem => 0
  | _ => 0

abbrev bufTy : (tb : Table) → Fin (tcTables nBuf tb) → BufTy
  | .hbm, ⟨0, _⟩ => ⟨S11008x2048, .bf16⟩
  | .hbm, ⟨1, _⟩ => ⟨S11008x2048, .f32⟩
  | .hbm, ⟨2, _⟩ => ⟨S688x16x128x16, .f32⟩
  | .hbm, ⟨3, _⟩ => ⟨S688x16x128x16, .f32⟩
  | .hbm, ⟨4, _⟩ => ⟨S_, .f32⟩
  | .hbm, ⟨5, _⟩ => ⟨S688x128, .f32⟩
  | .hbm, ⟨6, _⟩ => ⟨S688x128x16, .f32⟩
  | .hbm, ⟨7, _⟩ => ⟨S688x2048, .f32⟩
  | _, _ => ⟨S11008x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Quant.lean ====
abbrev S704x2048 : Shape := ⟨2, ![704, 2048]⟩
abbrev S11008x2048 : Shape := ⟨2, ![11008, 2048]⟩
abbrev S11008x1024 : Shape := ⟨2, ![11008, 1024]⟩
abbrev S2048x5504 : Shape := ⟨2, ![2048, 5504]⟩
abbrev S688x128 : Shape := ⟨2, ![688, 128]⟩
abbrev S1x1 : Shape := ⟨2, ![1, 1]⟩
abbrev S512x2048 : Shape := ⟨2, ![512, 2048]⟩
abbrev S512x1024 : Shape := ⟨2, ![512, 1024]⟩
abbrev S2048x256 : Shape := ⟨2, ![2048, 256]⟩
abbrev S32x128 : Shape := ⟨2, ![32, 128]⟩
abbrev S32x2048 : Shape := ⟨2, ![32, 2048]⟩
abbrev S256x2048 : Shape := ⟨2, ![256, 2048]⟩
abbrev S688x2048 : Shape := ⟨2, ![688, 2048]⟩
abbrev S1x688x2048 : Shape := ⟨3, ![1, 688, 2048]⟩
abbrev S1 : Shape := ⟨1, ![1]⟩
abbrev S1x1x1 : Shape := ⟨3, ![1, 1, 1]⟩
abbrev S2048x128 : Shape := ⟨2, ![2048, 128]⟩
abbrev S64x128 : Shape := ⟨2, ![64, 128]⟩
abbrev S8x128 : Shape := ⟨2, ![8, 128]⟩
abbrev S1x128 : Shape := ⟨2, ![1, 128]⟩
abbrev S32x128x1 : Shape := ⟨3, ![32, 128, 1]⟩

abbrev nBuf : Space → Nat
  | .hbm => 7
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S11008x2048, .bf16⟩
  | .hbm, ⟨2, _⟩ => ⟨S11008x2048, .bf16⟩
  | .hbm, ⟨3, _⟩ => ⟨S11008x1024, .i8⟩
  | .hbm, ⟨4, _⟩ => ⟨S2048x5504, .i8⟩
  | .hbm, ⟨5, _⟩ => ⟨S688x128, .fp8e4m3⟩
  | .hbm, ⟨6, _⟩ => ⟨S1x1, .f32⟩
  | .local _ .vmem, ⟨0, _⟩ => ⟨S704x2048, .f32⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .i8⟩
  | .local _ .vmem, ⟨6, _⟩ => ⟨S512x1024, .i8⟩
  | .local _ .vmem, ⟨7, _⟩ => ⟨S2048x256, .i8⟩
  | .local _ .vmem, ⟨8, _⟩ => ⟨S2048x256, .i8⟩
  | .local _ .vmem, ⟨9, _⟩ => ⟨S32x128, .fp8e4m3⟩
  | .local _ .vmem, ⟨10, _⟩ => ⟨S32x128, .fp8e4m3⟩
  | .local _ .vmem, ⟨11, _⟩ => ⟨S1x1, .f32⟩
  | .local _ .vmem, ⟨12, _⟩ => ⟨S1x1, .f32⟩
  | .local _ .vmem, ⟨13, _⟩ => ⟨S32x2048, .f32⟩
  | .local _ .vmem, ⟨14, _⟩ => ⟨S32x2048, .f32⟩
  | .local _ .vmem, ⟨15, _⟩ => ⟨S256x2048, .i8⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [BitOps F]

abbrev grid0 : Pipeline.Grid := ⟨1, ![22], ![false]⟩

def k0_mult1 (i : grid0.Coords) : BitVec 32 :=
  let arg0 : BitVec 32 := BitVec.ofNat 32 (i 0).val
  let c32_i32 : BitVec 32 := 32#32
  let v7 : BitVec 32 := Scalar.muli arg0 c32_i32
  v7
def k0_off1 (i : grid0.Coords) : Fin 2 → Nat :=
  let arg0 : BitVec 32 := BitVec.ofNat 32 (i 0).val
  let c32_i32 : BitVec 32 := 32#32
  let v7 : BitVec 32 := Scalar.muli arg0 c32_i32
  let v8 : BitVec 32 := v7
  let v9 : Index := Scalar.indexCast v8
  let c0_4 : Index := 0#32
  ![v9.toNat, 0]
@[reducible] def k0_t1_loop : Scf.Loop 32 :=
  let c0_i32_18 : BitVec 32 := 0#32
  let c4_i32 : BitVec 32 := 4#32
  let v54 : BitVec 32 := Scalar.addi c0_i32_18 c4_i32
  let c1_i32 : BitVec 32 := 1#32
  ⟨c0_i32_18, v54, c1_i32⟩
def k0_mult2 (k0_t1 : Fin k0_t1_loop.trips) : BitVec 32 :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  v58
def k0_mult3 (k0_t1 : Fin k0_t1_loop.trips) : BitVec 32 :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let c0_i32_24 : BitVec 32 := 0#32
  let v61 : BitVec 32 := Scalar.addi v60 c0_i32_24
  v61
def k0_mult4 (k0_t1 : Fin k0_t1_loop.trips) : BitVec 32 :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let c0_i32_26 : BitVec 32 := 0#32
  let v64 : BitVec 32 := Scalar.addi v63 c0_i32_26
  v64
def k0_off2 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v66 : Index := Scalar.indexCast v62
  let c0_27 : Index := 0#32
  ![v66.toNat, 0]
def k0_off3 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v69 : Index := Scalar.indexCast v59
  let c0_28 : Index := 0#32
  ![v69.toNat, 0]
def k0_off4 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v197 : Index := Scalar.indexCast v65
  let c0_67 : Index := 0#32
  ![v197.toNat, 0]
def k0_off5 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v216 : Index := Scalar.indexCast v62
  let c128 : Index := 128#32
  ![v216.toNat, 128]
def k0_off6 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v219 : Index := Scalar.indexCast v59
  let c128_73 : Index := 128#32
  ![v219.toNat, 128]
def k0_off7 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v347 : Index := Scalar.indexCast v65
  let c128_113 : Index := 128#32
  ![v347.toNat, 128]
def k0_off8 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v369 : Index := Scalar.indexCast v62
  let c0_119 : Index := 0#32
  ![v369.toNat, 0]
def k0_off9 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v371 : Index := Scalar.indexCast v62
  let c256 : Index := 256#32
  ![v371.toNat, 256]
def k0_off10 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v374 : Index := Scalar.indexCast v59
  let c256_120 : Index := 256#32
  ![v374.toNat, 256]
def k0_off11 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v502 : Index := Scalar.indexCast v65
  let c256_160 : Index := 256#32
  ![v502.toNat, 256]
def k0_off12 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v521 : Index := Scalar.indexCast v62
  let c384 : Index := 384#32
  ![v521.toNat, 384]
def k0_off13 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v524 : Index := Scalar.indexCast v59
  let c384_166 : Index := 384#32
  ![v524.toNat, 384]
def k0_off14 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v652 : Index := Scalar.indexCast v65
  let c384_206 : Index := 384#32
  ![v652.toNat, 384]
def k0_off15 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v674 : Index := Scalar.indexCast v62
  let c128_212 : Index := 128#32
  ![v674.toNat, 128]
def k0_off16 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v676 : Index := Scalar.indexCast v62
  let c512 : Index := 512#32
  ![v676.toNat, 512]
def k0_off17 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v679 : Index := Scalar.indexCast v59
  let c512_213 : Index := 512#32
  ![v679.toNat, 512]
def k0_off18 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v807 : Index := Scalar.indexCast v65
  let c512_253 : Index := 512#32
  ![v807.toNat, 512]
def k0_off19 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v826 : Index := Scalar.indexCast v62
  let c640 : Index := 640#32
  ![v826.toNat, 640]
def k0_off20 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v829 : Index := Scalar.indexCast v59
  let c640_259 : Index := 640#32
  ![v829.toNat, 640]
def k0_off21 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v957 : Index := Scalar.indexCast v65
  let c640_299 : Index := 640#32
  ![v957.toNat, 640]
def k0_off22 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v979 : Index := Scalar.indexCast v62
  let c256_305 : Index := 256#32
  ![v979.toNat, 256]
def k0_off23 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v981 : Index := Scalar.indexCast v62
  let c768 : Index := 768#32
  ![v981.toNat, 768]
def k0_off24 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v984 : Index := Scalar.indexCast v59
  let c768_306 : Index := 768#32
  ![v984.toNat, 768]
def k0_off25 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v1112 : Index := Scalar.indexCast v65
  let c768_346 : Index := 768#32
  ![v1112.toNat, 768]
def k0_off26 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1131 : Index := Scalar.indexCast v62
  let c896 : Index := 896#32
  ![v1131.toNat, 896]
def k0_off27 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v1134 : Index := Scalar.indexCast v59
  let c896_352 : Index := 896#32
  ![v1134.toNat, 896]
def k0_off28 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v1262 : Index := Scalar.indexCast v65
  let c896_392 : Index := 896#32
  ![v1262.toNat, 896]
def k0_off29 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1284 : Index := Scalar.indexCast v62
  let c384_398 : Index := 384#32
  ![v1284.toNat, 384]
def k0_off30 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1286 : Index := Scalar.indexCast v62
  let c1024 : Index := 1024#32
  ![v1286.toNat, 1024]
def k0_off31 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v1289 : Index := Scalar.indexCast v59
  let c1024_399 : Index := 1024#32
  ![v1289.toNat, 1024]
def k0_off32 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v1417 : Index := Scalar.indexCast v65
  let c1024_439 : Index := 1024#32
  ![v1417.toNat, 1024]
def k0_off33 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1436 : Index := Scalar.indexCast v62
  let c1152 : Index := 1152#32
  ![v1436.toNat, 1152]
def k0_off34 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v1439 : Index := Scalar.indexCast v59
  let c1152_445 : Index := 1152#32
  ![v1439.toNat, 1152]
def k0_off35 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v1567 : Index := Scalar.indexCast v65
  let c1152_485 : Index := 1152#32
  ![v1567.toNat, 1152]
def k0_off36 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1589 : Index := Scalar.indexCast v62
  let c512_491 : Index := 512#32
  ![v1589.toNat, 512]
def k0_off37 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1591 : Index := Scalar.indexCast v62
  let c1280 : Index := 1280#32
  ![v1591.toNat, 1280]
def k0_off38 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v1594 : Index := Scalar.indexCast v59
  let c1280_492 : Index := 1280#32
  ![v1594.toNat, 1280]
def k0_off39 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v1722 : Index := Scalar.indexCast v65
  let c1280_532 : Index := 1280#32
  ![v1722.toNat, 1280]
def k0_off40 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1741 : Index := Scalar.indexCast v62
  let c1408 : Index := 1408#32
  ![v1741.toNat, 1408]
def k0_off41 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v1744 : Index := Scalar.indexCast v59
  let c1408_538 : Index := 1408#32
  ![v1744.toNat, 1408]
def k0_off42 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v1872 : Index := Scalar.indexCast v65
  let c1408_578 : Index := 1408#32
  ![v1872.toNat, 1408]
def k0_off43 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1894 : Index := Scalar.indexCast v62
  let c640_584 : Index := 640#32
  ![v1894.toNat, 640]
def k0_off44 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v1896 : Index := Scalar.indexCast v62
  let c1536 : Index := 1536#32
  ![v1896.toNat, 1536]
def k0_off45 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v1899 : Index := Scalar.indexCast v59
  let c1536_585 : Index := 1536#32
  ![v1899.toNat, 1536]
def k0_off46 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v2027 : Index := Scalar.indexCast v65
  let c1536_625 : Index := 1536#32
  ![v2027.toNat, 1536]
def k0_off47 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v2046 : Index := Scalar.indexCast v62
  let c1664 : Index := 1664#32
  ![v2046.toNat, 1664]
def k0_off48 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v2049 : Index := Scalar.indexCast v59
  let c1664_631 : Index := 1664#32
  ![v2049.toNat, 1664]
def k0_off49 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v2177 : Index := Scalar.indexCast v65
  let c1664_671 : Index := 1664#32
  ![v2177.toNat, 1664]
def k0_off50 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v2199 : Index := Scalar.indexCast v62
  let c768_677 : Index := 768#32
  ![v2199.toNat, 768]
def k0_off51 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v2201 : Index := Scalar.indexCast v62
  let c1792 : Index := 1792#32
  ![v2201.toNat, 1792]
def k0_off52 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v2204 : Index := Scalar.indexCast v59
  let c1792_678 : Index := 1792#32
  ![v2204.toNat, 1792]
def k0_off53 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v2332 : Index := Scalar.indexCast v65
  let c1792_718 : Index := 1792#32
  ![v2332.toNat, 1792]
def k0_off54 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v2351 : Index := Scalar.indexCast v62
  let c1920 : Index := 1920#32
  ![v2351.toNat, 1920]
def k0_off55 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c8_i32 : BitVec 32 := 8#32
  let v58 : BitVec 32 := Scalar.muli arg12 c8_i32
  let v59 : BitVec 32 := v58
  let v2354 : Index := Scalar.indexCast v59
  let c1920_724 : Index := 1920#32
  ![v2354.toNat, 1920]
def k0_off56 (k0_t1 : Fin k0_t1_loop.trips) (c0_i32_26 : BitVec 32) : Fin 2 → Nat :=
  let c0_i32_18 : BitVec 32 := 0#32
  let c1_i32 : BitVec 32 := 1#32
  let arg12 : BitVec 32 := Scf.iv c0_i32_18 c1_i32 k0_t1
  let c64_i32_25 : BitVec 32 := 64#32
  let v63 : BitVec 32 := Scalar.muli arg12 c64_i32_25
  let v64 : BitVec 32 := Scalar.addi v63 c0_i32_26
  let v65 : BitVec 32 := v64
  let v2482 : Index := Scalar.indexCast v65
  let c1920_764 : Index := 1920#32
  ![v2482.toNat, 1920]
def k0_off57 (k0_t1 : Fin k0_t1_loop.trips) (c0_i32_24 : BitVec 32) : Fin 2 → Nat :=
  let c0_i32_18 : BitVec 32 := 0#32
  let c1_i32 : BitVec 32 := 1#32
  let arg12 : BitVec 32 := Scf.iv c0_i32_18 c1_i32 k0_t1
  let c128_i32 : BitVec 32 := 128#32
  let v60 : BitVec 32 := Scalar.muli arg12 c128_i32
  let v61 : BitVec 32 := Scalar.addi v60 c0_i32_24
  let v62 : BitVec 32 := v61
  let v2504 : Index := Scalar.indexCast v62
  let c896_770 : Index := 896#32
  ![v2504.toNat, 896]
def k0_mult5 (k0_t1 : Fin k0_t1_loop.trips) : BitVec 32 :=
  let c0_i32_18 : BitVec 32 := 0#32
  let c1_i32 : BitVec 32 := 1#32
  let arg12 : BitVec 32 := Scf.iv c0_i32_18 c1_i32 k0_t1
  let c128_i32_771 : BitVec 32 := 128#32
  let v2506 : BitVec 32 := Scalar.muli arg12 c128_i32_771
  let c64_i32_772 : BitVec 32 := 64#32
  let v2507 : BitVec 32 := Scalar.addi v2506 c64_i32_772
  v2507
def k0_mult6 (k0_t1 : Fin k0_t1_loop.trips) : BitVec 32 :=
  let c0_i32_18 : BitVec 32 := 0#32
  let c1_i32 : BitVec 32 := 1#32
  let arg12 : BitVec 32 := Scf.iv c0_i32_18 c1_i32 k0_t1
  let c64_i32_773 : BitVec 32 := 64#32
  let v2509 : BitVec 32 := Scalar.muli arg12 c64_i32_773
  let c32_i32_774 : BitVec 32 := 32#32
  let v2510 : BitVec 32 := Scalar.addi v2509 c32_i32_774
  v2510
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S704x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QuantIdeal.lean ====
variable {F : FTy → Type} [FloatOps F]
-- ==== RefQuantIdeal.lean ====
abbrev S704x2048 : Shape := ⟨2, ![704, 2048]⟩
abbrev S11008x2048 : Shape := ⟨2, ![11008, 2048]⟩
abbrev S688x2048 : Shape := ⟨2, ![688, 2048]⟩
abbrev S688x16x2048 : Shape := ⟨3, ![688, 16, 2048]⟩
abbrev S2048x688 : Shape := ⟨2, ![2048, 688]⟩
abbrev S2048x688x8 : Shape := ⟨3, ![2048, 688, 8]⟩
abbrev S2048x5504 : Shape := ⟨2, ![2048, 5504]⟩
abbrev S688x128 : Shape := ⟨2, ![688, 128]⟩
abbrev S11008x1024 : Shape := ⟨2, ![11008, 1024]⟩
abbrev S5504x2048 : Shape := ⟨2, ![5504, 2048]⟩
abbrev S1x1 : Shape := ⟨2, ![1, 1]⟩
abbrev S1x688x2048 : Shape := ⟨3, ![1, 688, 2048]⟩
abbrev S1 : Shape := ⟨1, ![1]⟩
abbrev S1x1x1 : Shape := ⟨3, ![1, 1, 1]⟩

abbrev nBuf : Space → Nat
  | .hbm => 21
  | .vmem => 13
  | .smem => 0
  | _ => 0

abbrev bufTy : (tb : Table) → Fin (tcTables nBuf tb) → BufTy
  | .hbm, ⟨0, _⟩ => ⟨S704x2048, .f32⟩
  | .hbm, ⟨1, _⟩ => ⟨S11008x2048, .bf16⟩
  | .hbm, ⟨2, _⟩ => ⟨S688x2048, .f32⟩
  | .hbm, ⟨3, _⟩ => ⟨S688x16x2048, .f32⟩
  | .hbm, ⟨4, _⟩ => ⟨S11008x2048, .f32⟩
  | .hbm, ⟨5, _⟩ => ⟨S2048x688, .f32⟩
  | .hbm, ⟨6, _⟩ => ⟨S2048x688x8, .f32⟩
  | .hbm, ⟨7, _⟩ => ⟨S2048x5504, .f32⟩
  | .hbm, ⟨8, _⟩ => ⟨S688x128, .f32⟩
  | .hbm, ⟨9, _⟩ => ⟨S11008x1024, .f32⟩
  | .hbm, ⟨10, _⟩ => ⟨S11008x1024, .f32⟩
  | .hbm, ⟨11, _⟩ => ⟨S11008x1024, .bf16⟩
  | .hbm, ⟨12, _⟩ => ⟨S11008x1024, .bf16⟩
  | .hbm, ⟨13, _⟩ => ⟨S5504x2048, .bf16⟩
  | .hbm, ⟨14, _⟩ => ⟨S2048x5504, .bf16⟩
  | .hbm, ⟨15, _⟩ => ⟨S5504x2048, .bf16⟩
  | .hbm, ⟨16, _⟩ => ⟨S2048x5504, .bf16⟩
  | .hbm, ⟨17, _⟩ => ⟨S11008x1024, .i8⟩
  | .hbm, ⟨18, _⟩ => ⟨S2048x5504, .i8⟩
  | .hbm, ⟨19, _⟩ => ⟨S688x128, .fp8e4m3⟩
  | .hbm, ⟨20, _⟩ => ⟨S1x1, .f32⟩
  | .local _ .vmem, ⟨0, _⟩ => ⟨S688x2048, .f32⟩
  | .local _ .vmem, ⟨1, _⟩ => ⟨S688x128, .f32⟩
  | .local _ .vmem, ⟨2, _⟩ => ⟨S11008x1024, .f32⟩
  | .local _ .vmem, ⟨3, _⟩ => ⟨S11008x1024, .f32⟩
  | .local _ .vmem, ⟨4, _⟩ => ⟨S11008x1024, .bf16⟩
  | .local _ .vmem, ⟨5, _⟩ => ⟨S11008x1024, .bf16⟩
  | .local _ .vmem, ⟨6, _⟩ => ⟨S2048x5504, .f32⟩
  | .local _ .vmem, ⟨7, _⟩ => ⟨S2048x5504, .bf16⟩
  | .local _ .vmem, ⟨8, _⟩ => ⟨S2048x5504, .bf16⟩
  | .local _ .vmem, ⟨9, _⟩ => ⟨S11008x1024, .i8⟩
  | .local _ .vmem, ⟨10, _⟩ => ⟨S2048x5504, .i8⟩
  | .local _ .vmem, ⟨11, _⟩ => ⟨S688x128, .fp8e4m3⟩
  | .local _ .vmem, ⟨12, _⟩ => ⟨S1x1, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v15_2 : Ref sig .tc := ⟨.hbm, 19, rfl⟩
abbrev main_v15_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S688x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S688x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11008x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11008x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5504 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5504 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x5504 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S11008x1024 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x5504 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S688x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.FwdProduct.lean ====
/-
  The value of the forward product call at the ideal instance: the result array after the run is, row by row and column by
  column, the textbook sum of products times the scale. One grid point multiplies a block of 256 rows; the blocks tile the result.
-/
module

public import proofs.«01_k».proof.Proof.Gen.FwdIdeal.Value
public import Idealize.ShloMosaic.Lib.Pointwise

@[expose] public section

noncomputable section

namespace Cert.FwdIdeal.Product

open Cert.FwdIdeal Cert.FwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One element of the block product: a row of the left operand against the weights, times the scale. -/
theorem pay_apply (x : Vec Ideal S256x2048 .bf16) (w : Vec Ideal S11008x2048 .bf16) (s : Vec Ideal S1x1 .f32)
    (r : Fin 256) (n : Fin 11008) :
    k0_pay1 x w s (ix2 r n) = (∑ k : Fin 2048, x (ix2 r k) * w (ix2 n k)) * s (ix2 0 0) := by
  pointwise [k0_pay1]

/-- The region finds the left operand as the argument with its two leading axes joined. -/
theorem V_v0 (c : Dev nD) : V m c main_v0
    = shapeCast S18432x2048 (m ((c : Thread nD τ).loc main_arg0)) shapeCasts_S16x1152x2048_S18432x2048 := by
  unfold V
  after_results <;> rfl

/-- What the result array is shown to hold, for a left operand of joined rows, the weights and the scale. -/
def prod (x : S18432x2048.Idx → EReal) (w : S11008x2048.Idx → EReal) (s : S1x1.Idx → EReal) : S18432x11008.Idx → EReal :=
  fun i => (∑ k : Fin 2048, x (ix2 (i 0) k) * w (ix2 (i 1) k)) * s (ix2 0 0)

theorem hz : (![0, 0] : Fin 2 → Nat) = fun _ => 0 := funext fun a => by fin_cases a <;> rfl

/-- The index maps over the grid: the left operand's and the result's blocks move down the rows, the rest stay. -/
theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0)

/-- Row `r` of point `t`'s block is row `256 t + r` of the left operand. -/
theorem blk0 (c : Dev nD) (t : Fin cfg0.N) (r : Fin 256) (k : Fin 2048) (h : 256 * t.val + r.val < 18432) :
    iblk m c 0 t (ix2 r k) = V m c main_v0 (ix2 ⟨256 * t.val + r.val, h⟩ k) := by
  obtain ⟨h0, h1, -⟩ := idx_facts t
  show V m c main_v0 ((win0_0.rect t).emb (ix2 r k)) = _
  congr 1
  refine Shape.idx_ext₂ ?_ ?_
  · rw [Pipeline.Window.rect_emb_val win0_0 t (ix2 r k) 0, h0]; show t.val * 256 + r.val = 256 * t.val + r.val; omega
  · rw [Pipeline.Window.rect_emb_val win0_0 t (ix2 r k) 1, h1]; show 0 * 2048 + k.val = k.val; omega

/-- The weights' block is the whole array, -/
theorem blk1 (c : Dev nD) (t : Fin cfg0.N) (a : Fin 11008) (b : Fin 2048) :
    iblk m c 1 t (ix2 a b) = m ((c : Thread nD τ).loc main_arg1) (ix2 a b) := by
  obtain ⟨-, -, h0, h1, -⟩ := idx_facts t
  rw [← V_main_arg1 m c]
  show V m c main_arg1 ((win0_1.rect t).emb (ix2 a b)) = _
  congr 1
  refine Shape.idx_ext₂ ?_ ?_
  · rw [Pipeline.Window.rect_emb_val_of_index_zero win0_1 t 0 h0]
  · rw [Pipeline.Window.rect_emb_val_of_index_zero win0_1 t 1 h1]

/-- and so is the scale's. -/
theorem blk2 (c : Dev nD) (t : Fin cfg0.N) :
    iblk m c 2 t (ix2 0 0) = m ((c : Thread nD τ).loc main_arg2) (ix2 0 0) := by
  obtain ⟨-, -, -, -, h0, h1, -⟩ := idx_facts t
  rw [← V_main_arg2 m c]
  show V m c main_arg2 ((win0_2.rect t).emb (ix2 0 0)) = _
  congr 1
  refine Shape.idx_ext₂ ?_ ?_
  · rw [Pipeline.Window.rect_emb_val_of_index_zero win0_2 t 0 h0]
  · rw [Pipeline.Window.rect_emb_val_of_index_zero win0_2 t 1 h1]

/-- What the arguments of device `c` give. -/
abbrev value (c : Dev nD) : Buf (Elt Ideal) ((c : Thread nD τ).loc main_v1) :=
  prod (V m c main_v0) (m ((c : Thread nD τ).loc main_arg1)) (m ((c : Thread nD τ).loc main_arg2))

/-- An element of the product, at its row and column. -/
theorem prod_apply (x : S18432x2048.Idx → EReal) (w : S11008x2048.Idx → EReal) (s : S1x1.Idx → EReal) (r : Fin 18432) (n : Fin 11008) :
    prod x w s (ix2 r n) = (∑ k : Fin 2048, x (ix2 r k) * w (ix2 n k)) * s (ix2 0 0) := rfl

set_option maxRecDepth 65536 in
/-- The block product at point `t` is the product at the block's rows. -/
theorem block_eq (c : Dev nD) (t : Fin cfg0.N) (r : Fin 256) (n : Fin 11008) (hr : 256 * t.val + r.val < 18432) :
    k0_pay1 (iblk m c 0 t) (iblk m c 1 t) (iblk m c 2 t) (ix2 r n) = value m c (ix2 ⟨256 * t.val + r.val, hr⟩ n) := by
  rw [pay_apply, blk2 m c t]
  refine Eq.trans ?_ (prod_apply _ _ _ _ _).symm
  exact congrArg (· * _) (Finset.sum_congr rfl fun k _ => congrArg₂ (· * ·) (blk0 m c t r k hr) (blk1 m c t _ _))

/-- Where point `t`'s result block puts its element. -/
theorem emb_eq (t : Fin cfg0.N) (r : Fin 256) (n : Fin 11008) (hr : 256 * t.val + r.val < 18432) :
    (win0_3.rect t).emb (ix2 r n) = (ix2 ⟨256 * t.val + r.val, hr⟩ n : S18432x11008.Idx) := by
  obtain ⟨-, -, -, -, -, -, h0, h1⟩ := idx_facts t
  refine Shape.idx_ext₂ ?_ ?_
  · rw [Pipeline.Window.rect_emb_val win0_3 t (ix2 r n) 0, h0]; show t.val * 256 + r.val = 256 * t.val + r.val; omega
  · rw [Pipeline.Window.rect_emb_val win0_3 t (ix2 r n) 1, h1]; show 0 * 11008 + n.val = n.val; omega

/-- What the body leaves in the result's buffer is its payload. -/
theorem out_eq (x : Vec Ideal S256x2048 .bf16) (w : Vec Ideal S11008x2048 .bf16) (s : Vec Ideal S1x1 .f32) :
    out0_3 x w s = k0_pay1 x w s := by
  unfold out0_3
  rw [View.canon_unit_zero hz, View.ld_unit_zero hz, View.ld_unit_zero hz, View.ld_unit_zero hz]

/-- Point `t` writes back block `t` of the product. -/
theorem flushed_eq (c : Dev nD) (t : Fin cfg0.N) :
    (dats m 0 c).flushed 3 t = ((cfg0.win 3).blk t).view.read (Elt Ideal) (value m c) := by
  rw [Value.flushed3, out_eq]
  have ht : t.val < 72 := t.isLt
  refine funext fun (y : S256x11008.Idx) => ?_
  obtain ⟨r, n, rfl⟩ : ∃ (r : Fin 256) (n : Fin 11008), y = ix2 r n := ⟨y 0, y 1, eq_ix2 y⟩
  have hr : 256 * t.val + r.val < 18432 := by omega
  exact (block_eq m c t r n hr).trans (congrArg (value m c) (emb_eq t r n hr).symm)

/-- Every element of the result is in some point's block. -/
theorem cover (i : S18432x11008.Idx) : ∃ t : Fin cfg0.N, (cfg0.win 3).flush t = true ∧ i ∈ ((cfg0.win 3).blk t).view.set := by
  have hi0 : (i 0).val < 18432 := (i 0).isLt
  have hi1 : (i 1).val < 11008 := (i 1).isLt
  have hN : cfg0.N = 72 := N_0
  obtain ⟨t, ht⟩ : ∃ t : Fin cfg0.N, t.val = (i 0).val / 256 := ⟨⟨(i 0).val / 256, by omega⟩, rfl⟩
  refine ⟨t, flush0_3 _, ?_⟩
  obtain ⟨-, -, -, -, -, -, h0, h1⟩ := idx_facts t
  show i ∈ ((View.whole main_v1).slice (win0_3.rect t)).set
  rw [View.set_slice_whole, Rect.mem_set_unit]
  intro a
  match a with
  | ⟨0, _⟩ =>
    show win0_3.index t 0 * 256 ≤ (i 0).val ∧ (i 0).val < win0_3.index t 0 * 256 + 256
    rw [h0, ht]; omega
  | ⟨1, _⟩ =>
    show win0_3.index t 1 * 11008 ≤ (i 1).val ∧ (i 1).val < win0_3.index t 1 * 11008 + 11008
    rw [h1]; omega

/-- The run: the result array ends at the product times the scale, the arguments unchanged. -/
theorem run : θ_run defs (onTc (τ := τ) (main (F := Ideal))) ⟨m, fun _ => 0, ρ⟩ fun r => ∀ c : Dev nD,
      r.2.mem ((c : Thread nD τ).loc main_v1) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c t) cover), (h c).2⟩)
    (Value.run_blocks m ρ)

end Cert.FwdIdeal.Product
end
-- ==== Proof.FwdEquation.lean ====
/-
  The equation of the forward product: the reference's batched product over (batch, position) is the product over the
  joined rows, and so the kernel's result is the reference's.
-/
module

public import proofs.«01_k».proof.Defs
public import proofs.«01_k».proof.Proof.FwdProduct
public import proofs.«01_k».proof.Proof.Gen.RefFwdIdeal.Run
public import Idealize.ShloMosaic.Lib.Claim

@[expose] public section

noncomputable section

namespace Cert.Proof.Fwd

open Cert.RefFwdIdeal Idealize.ShloMosaic Idealize.ShloMosaic.TcCoe Idealize.SL.Sem
open Cert.RefFwdIdeal.Gen

/-- The reference's result as a function of its three arguments. -/
abbrev refTerm (x : FVec Ideal S16x1152x2048 .bf16) (w : FVec Ideal S11008x2048 .bf16) (s : FVec Ideal S1x1 .f32) : FVec Ideal S18432x11008 .bf16 :=
  shapeCast S18432x11008 (truncf .bf16 (mulf (Host.dotGeneral dot_S16x1152x2048_S11008x2048_S16x1152x11008_2_1_01_0_n_n none x w : FVec Ideal S16x1152x11008 .f32) (broadcastInDim S16x1152x11008 ![] bcast_S_S16x1152x11008 (shapeCast S_ s shapeCasts_S1x1_S_))) bitsLt_bf16_f32) shapeCasts_S16x1152x11008_S18432x11008

/-- Joining the two leading axes: row `r` is (batch, position) `(r / 1152, r % 1152)`. -/
theorem join_apply {α : Type} {W : Nat} (x : (⟨3, ![16, 1152, W]⟩ : Shape).Idx → α) (h : (⟨3, ![16, 1152, W]⟩ : Shape).ShapeCasts ⟨2, ![18432, W]⟩)
    (r : Fin 18432) (n : Fin W) (hb : r.val / 1152 < 16) (hs : r.val % 1152 < 1152) :
    shapeCast (⟨2, ![18432, W]⟩ : Shape) x h (ix2 r n) = x (ix3 ⟨r.val / 1152, hb⟩ ⟨r.val % 1152, hs⟩ n) := by
  refine shapeCast_apply x h _ _ ?_
  rw [Shape.rowMajor_val_two, Shape.rowMajor_val_three]
  show (r.val / 1152 * 1152 + r.val % 1152) * W + n.val = r.val * W + n.val
  rw [Nat.div_add_mod']

/-- The reference at a batch, position and column. -/
theorem dot_apply (x : FVec Ideal S16x1152x2048 .bf16) (w : FVec Ideal S11008x2048 .bf16) (s : FVec Ideal S1x1 .f32)
    (b : Fin 16) (p : Fin 1152) (n : Fin 11008) :
    (truncf .bf16 (mulf (Host.dotGeneral dot_S16x1152x2048_S11008x2048_S16x1152x11008_2_1_01_0_n_n none x w : FVec Ideal S16x1152x11008 .f32) (broadcastInDim S16x1152x11008 ![] bcast_S_S16x1152x11008 (shapeCast S_ s shapeCasts_S1x1_S_))) bitsLt_bf16_f32 : FVec Ideal S16x1152x11008 .bf16) (ix3 b p n)
      = (∑ k : Fin 2048, x (ix3 b p k) * w (ix2 n k)) * s (ix2 0 0) := by
  pointwise []

set_option maxRecDepth 65536 in
/-- The kernel's product over joined rows is the reference's result. -/
theorem eq (x : FVec Ideal S16x1152x2048 .bf16) (w : FVec Ideal S11008x2048 .bf16) (s : FVec Ideal S1x1 .f32)
    (h : S16x1152x2048.ShapeCasts Cert.FwdIdeal.S18432x2048) :
    (Cert.FwdIdeal.Product.prod (shapeCast Cert.FwdIdeal.S18432x2048 x h) w s) = refTerm x w s := by
  refine funext fun (i : S18432x11008.Idx) => ?_
  obtain ⟨r, n, rfl⟩ : ∃ (r : Fin 18432) (n : Fin 11008), i = ix2 r n := ⟨i 0, i 1, eq_ix2 i⟩
  have hb : r.val / 1152 < 16 := by omega
  have hs : r.val % 1152 < 1152 := by omega
  unfold refTerm
  rw [Cert.FwdIdeal.Product.prod_apply]
  refine Eq.trans ?_ (join_apply _ _ r n hb hs).symm
  rw [dot_apply]
  exact congrArg (· * _) (Finset.sum_congr rfl fun k _ => congrArg (· * _) (join_apply x h r k hb hs))

set_option maxRecDepth 65536 in
/-- `Cert.algebraic_FwdIdeal_RefFwdIdeal`: from equal arguments both run and end with equal results. -/
theorem algebraic : Cert.algebraic_FwdIdeal_RefFwdIdeal (hFwdIdeal := Cert.FwdIdeal.Gen.facts) (hRefFwdIdeal := Cert.RefFwdIdeal.Gen.facts) := by
  intro m g m' g' _ hargs
  refine ⟨fun c => Cert.FwdIdeal.Product.value m c, Cert.FwdIdeal.Product.run m g, ?_⟩
  refine (θ_run (Cert.RefFwdIdeal.defs (F := Ideal)) _ _).mono (fun r h c => ?_) (Cert.RefFwdIdeal.Value.run (F := Ideal) m' g')
  obtain ⟨hv, h0, h1, h2⟩ := h c
  refine ⟨hv.trans ?_, h0, h1, h2⟩
  rw [(hargs c).1, (hargs c).2.1, (hargs c).2.2]
  refine Eq.trans ?_ (congrArg (fun X => Cert.FwdIdeal.Product.prod X _ _) (Cert.FwdIdeal.Product.V_v0 m c)).symm
  exact (eq _ _ _ _).symm

set_option maxRecDepth 65536 in
/-- The reference's frame: it names no semaphore and leaves its arguments. -/
theorem refFrame : Cert.quiescent_RefFwdIdeal (hRefFwdIdeal := Cert.RefFwdIdeal.Gen.facts) := by
  intro m g _
  refine (θ_run (Cert.RefFwdIdeal.defs (F := Ideal)) _ _).mono (fun r h => ⟨fun c => (h c).2, ?_⟩) (Cert.RefFwdIdeal.Value.run (F := Ideal) m g)
  exact sem_eq_zero_of_no_sems (by decide) _

end Cert.Proof.Fwd
end
-- ==== Proof.DgradProduct.lean ====
/-
  The value of the input-gradient product call at the ideal instance: the result array after the run is, row by row and column by
  column, the textbook sum of products times the scale. One grid point multiplies a block of 128 rows; the blocks tile the result.
-/
module

public import proofs.«01_k».proof.Proof.Gen.DgradIdeal.Value
public import Idealize.ShloMosaic.Lib.Pointwise

@[expose] public section

noncomputable section

namespace Cert.DgradIdeal.Product

open Cert.DgradIdeal Cert.DgradIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One element of the block product: a row of the left operand against the weights, times the scale. -/
theorem pay_apply (x : Vec Ideal S128x11008 .bf16) (w : Vec Ideal S11008x2048 .bf16) (s : Vec Ideal S1x1 .f32)
    (r : Fin 128) (n : Fin 2048) :
    k0_pay1 x w s (ix2 r n) = (∑ k : Fin 11008, x (ix2 r k) * w (ix2 k n)) * s (ix2 0 0) := by
  pointwise [k0_pay1]

/-- The region finds the left operand as the argument with its two leading axes joined. -/
theorem V_v0 (c : Dev nD) : V m c main_v0
    = shapeCast S18432x11008 (m ((c : Thread nD τ).loc main_arg0)) shapeCasts_S16x1152x11008_S18432x11008 := by
  unfold V
  after_results <;> rfl

/-- What the result array is shown to hold, for a left operand of joined rows, the weights and the scale. -/
def prod (x : S18432x11008.Idx → EReal) (w : S11008x2048.Idx → EReal) (s : S1x1.Idx → EReal) : S18432x2048.Idx → EReal :=
  fun i => (∑ k : Fin 11008, x (ix2 (i 0) k) * w (ix2 k (i 1))) * s (ix2 0 0)

theorem hz : (![0, 0] : Fin 2 → Nat) = fun _ => 0 := funext fun a => by fin_cases a <;> rfl

/-- The index maps over the grid: the left operand's and the result's blocks move down the rows, the rest stay. -/
theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0)

/-- Row `r` of point `t`'s block is row `128 t + r` of the left operand. -/
theorem blk0 (c : Dev nD) (t : Fin cfg0.N) (r : Fin 128) (k : Fin 11008) (h : 128 * t.val + r.val < 18432) :
    iblk m c 0 t (ix2 r k) = V m c main_v0 (ix2 ⟨128 * t.val + r.val, h⟩ k) := by
  obtain ⟨h0, h1, -⟩ := idx_facts t
  show V m c main_v0 ((win0_0.rect t).emb (ix2 r k)) = _
  congr 1
  refine Shape.idx_ext₂ ?_ ?_
  · rw [Pipeline.Window.rect_emb_val win0_0 t (ix2 r k) 0, h0]; show t.val * 128 + r.val = 128 * t.val + r.val; omega
  · rw [Pipeline.Window.rect_emb_val win0_0 t (ix2 r k) 1, h1]; show 0 * 11008 + k.val = k.val; omega

/-- The weights' block is the whole array, -/
theorem blk1 (c : Dev nD) (t : Fin cfg0.N) (a : Fin 11008) (b : Fin 2048) :
    iblk m c 1 t (ix2 a b) = m ((c : Thread nD τ).loc main_arg1) (ix2 a b) := by
  obtain ⟨-, -, h0, h1, -⟩ := idx_facts t
  rw [← V_main_arg1 m c]
  show V m c main_arg1 ((win0_1.rect t).emb (ix2 a b)) = _
  congr 1
  refine Shape.idx_ext₂ ?_ ?_
  · rw [Pipeline.Window.rect_emb_val_of_index_zero win0_1 t 0 h0]
  · rw [Pipeline.Window.rect_emb_val_of_index_zero win0_1 t 1 h1]

/-- and so is the scale's. -/
theorem blk2 (c : Dev nD) (t : Fin cfg0.N) :
    iblk m c 2 t (ix2 0 0) = m ((c : Thread nD τ).loc main_arg2) (ix2 0 0) := by
  obtain ⟨-, -, -, -, h0, h1, -⟩ := idx_facts t
  rw [← V_main_arg2 m c]
  show V m c main_arg2 ((win0_2.rect t).emb (ix2 0 0)) = _
  congr 1
  refine Shape.idx_ext₂ ?_ ?_
  · rw [Pipeline.Window.rect_emb_val_of_index_zero win0_2 t 0 h0]
  · rw [Pipeline.Window.rect_emb_val_of_index_zero win0_2 t 1 h1]

/-- What the arguments of device `c` give. -/
abbrev value (c : Dev nD) : Buf (Elt Ideal) ((c : Thread nD τ).loc main_v1) :=
  prod (V m c main_v0) (m ((c : Thread nD τ).loc main_arg1)) (m ((c : Thread nD τ).loc main_arg2))

/-- An element of the product, at its row and column. -/
theorem prod_apply (x : S18432x11008.Idx → EReal) (w : S11008x2048.Idx → EReal) (s : S1x1.Idx → EReal) (r : Fin 18432) (n : Fin 2048) :
    prod x w s (ix2 r n) = (∑ k : Fin 11008, x (ix2 r k) * w (ix2 k n)) * s (ix2 0 0) := rfl

set_option maxRecDepth 65536 in
/-- The block product at point `t` is the product at the block's rows. -/
theorem block_eq (c : Dev nD) (t : Fin cfg0.N) (r : Fin 128) (n : Fin 2048) (hr : 128 * t.val + r.val < 18432) :
    k0_pay1 (iblk m c 0 t) (iblk m c 1 t) (iblk m c 2 t) (ix2 r n) = value m c (ix2 ⟨128 * t.val + r.val, hr⟩ n) := by
  rw [pay_apply, blk2 m c t]
  refine Eq.trans ?_ (prod_apply _ _ _ _ _).symm
  exact congrArg (· * _) (Finset.sum_congr rfl fun k _ => congrArg₂ (· * ·) (blk0 m c t r k hr) (blk1 m c t _ _))

/-- Where point `t`'s result block puts its element. -/
theorem emb_eq (t : Fin cfg0.N) (r : Fin 128) (n : Fin 2048) (hr : 128 * t.val + r.val < 18432) :
    (win0_3.rect t).emb (ix2 r n) = (ix2 ⟨128 * t.val + r.val, hr⟩ n : S18432x2048.Idx) := by
  obtain ⟨-, -, -, -, -, -, h0, h1⟩ := idx_facts t
  refine Shape.idx_ext₂ ?_ ?_
  · rw [Pipeline.Window.rect_emb_val win0_3 t (ix2 r n) 0, h0]; show t.val * 128 + r.val = 128 * t.val + r.val; omega
  · rw [Pipeline.Window.rect_emb_val win0_3 t (ix2 r n) 1, h1]; show 0 * 2048 + n.val = n.val; omega

/-- What the body leaves in the result's buffer is its payload. -/
theorem out_eq (x : Vec Ideal S128x11008 .bf16) (w : Vec Ideal S11008x2048 .bf16) (s : Vec Ideal S1x1 .f32) :
    out0_3 x w s = k0_pay1 x w s := by
  unfold out0_3
  rw [View.canon_unit_zero hz, View.ld_unit_zero hz, View.ld_unit_zero hz, View.ld_unit_zero hz]

/-- Point `t` writes back block `t` of the product. -/
theorem flushed_eq (c : Dev nD) (t : Fin cfg0.N) :
    (dats m 0 c).flushed 3 t = ((cfg0.win 3).blk t).view.read (Elt Ideal) (value m c) := by
  rw [Value.flushed3, out_eq]
  have ht : t.val < 144 := t.isLt
  refine funext fun (y : S128x2048.Idx) => ?_
  obtain ⟨r, n, rfl⟩ : ∃ (r : Fin 128) (n : Fin 2048), y = ix2 r n := ⟨y 0, y 1, eq_ix2 y⟩
  have hr : 128 * t.val + r.val < 18432 := by omega
  exact (block_eq m c t r n hr).trans (congrArg (value m c) (emb_eq t r n hr).symm)

/-- Every element of the result is in some point's block. -/
theorem cover (i : S18432x2048.Idx) : ∃ t : Fin cfg0.N, (cfg0.win 3).flush t = true ∧ i ∈ ((cfg0.win 3).blk t).view.set := by
  have hi0 : (i 0).val < 18432 := (i 0).isLt
  have hi1 : (i 1).val < 2048 := (i 1).isLt
  have hN : cfg0.N = 144 := N_0
  obtain ⟨t, ht⟩ : ∃ t : Fin cfg0.N, t.val = (i 0).val / 128 := ⟨⟨(i 0).val / 128, by omega⟩, rfl⟩
  refine ⟨t, flush0_3 _, ?_⟩
  obtain ⟨-, -, -, -, -, -, h0, h1⟩ := idx_facts t
  show i ∈ ((View.whole main_v1).slice (win0_3.rect t)).set
  rw [View.set_slice_whole, Rect.mem_set_unit]
  intro a
  match a with
  | ⟨0, _⟩ =>
    show win0_3.index t 0 * 128 ≤ (i 0).val ∧ (i 0).val < win0_3.index t 0 * 128 + 128
    rw [h0, ht]; omega
  | ⟨1, _⟩ =>
    show win0_3.index t 1 * 2048 ≤ (i 1).val ∧ (i 1).val < win0_3.index t 1 * 2048 + 2048
    rw [h1]; omega

/-- The run: the result array ends at the product times the scale, the arguments unchanged. -/
theorem run : θ_run defs (onTc (τ := τ) (main (F := Ideal))) ⟨m, fun _ => 0, ρ⟩ fun r => ∀ c : Dev nD,
      r.2.mem ((c : Thread nD τ).loc main_v1) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c t) cover), (h c).2⟩)
    (Value.run_blocks m ρ)

end Cert.DgradIdeal.Product
end
-- ==== Proof.DgradEquation.lean ====
/-
  The equation of the input-gradient product: the reference's batched product over (batch, position) is the product over the
  joined rows, and so the kernel's result is the reference's.
-/
module

public import proofs.«01_k».proof.Defs
public import proofs.«01_k».proof.Proof.DgradProduct
public import proofs.«01_k».proof.Proof.Gen.RefDgradIdeal.Run
public import Idealize.ShloMosaic.Lib.Claim

@[expose] public section

noncomputable section

namespace Cert.Proof.Dgrad

open Cert.RefDgradIdeal Idealize.ShloMosaic Idealize.ShloMosaic.TcCoe Idealize.SL.Sem
open Cert.RefDgradIdeal.Gen

/-- The reference's result as a function of its three arguments. -/
abbrev refTerm (x : FVec Ideal S16x1152x11008 .bf16) (w : FVec Ideal S11008x2048 .bf16) (s : FVec Ideal S1x1 .f32) : FVec Ideal S18432x2048 .bf16 :=
  shapeCast S18432x2048 (truncf .bf16 (mulf (Host.dotGeneral dot_S16x1152x11008_S11008x2048_S16x1152x2048_2_0_01_1_n_n none x w : FVec Ideal S16x1152x2048 .f32) (broadcastInDim S16x1152x2048 ![] bcast_S_S16x1152x2048 (shapeCast S_ s shapeCasts_S1x1_S_))) bitsLt_bf16_f32) shapeCasts_S16x1152x2048_S18432x2048

/-- Joining the two leading axes: row `r` is (batch, position) `(r / 1152, r % 1152)`. -/
theorem join_apply {α : Type} {W : Nat} (x : (⟨3, ![16, 1152, W]⟩ : Shape).Idx → α) (h : (⟨3, ![16, 1152, W]⟩ : Shape).ShapeCasts ⟨2, ![18432, W]⟩)
    (r : Fin 18432) (n : Fin W) (hb : r.val / 1152 < 16) (hs : r.val % 1152 < 1152) :
    shapeCast (⟨2, ![18432, W]⟩ : Shape) x h (ix2 r n) = x (ix3 ⟨r.val / 1152, hb⟩ ⟨r.val % 1152, hs⟩ n) := by
  refine shapeCast_apply x h _ _ ?_
  rw [Shape.rowMajor_val_two, Shape.rowMajor_val_three]
  show (r.val / 1152 * 1152 + r.val % 1152) * W + n.val = r.val * W + n.val
  rw [Nat.div_add_mod']

/-- The reference at a batch, position and column. -/
theorem dot_apply (x : FVec Ideal S16x1152x11008 .bf16) (w : FVec Ideal S11008x2048 .bf16) (s : FVec Ideal S1x1 .f32)
    (b : Fin 16) (p : Fin 1152) (n : Fin 2048) :
    (truncf .bf16 (mulf (Host.dotGeneral dot_S16x1152x11008_S11008x2048_S16x1152x2048_2_0_01_1_n_n none x w : FVec Ideal S16x1152x2048 .f32) (broadcastInDim S16x1152x2048 ![] bcast_S_S16x1152x2048 (shapeCast S_ s shapeCasts_S1x1_S_))) bitsLt_bf16_f32 : FVec Ideal S16x1152x2048 .bf16) (ix3 b p n)
      = (∑ k : Fin 11008, x (ix3 b p k) * w (ix2 k n)) * s (ix2 0 0) := by
  pointwise []

set_option maxRecDepth 65536 in
/-- The kernel's product over joined rows is the reference's result. -/
theorem eq (x : FVec Ideal S16x1152x11008 .bf16) (w : FVec Ideal S11008x2048 .bf16) (s : FVec Ideal S1x1 .f32)
    (h : S16x1152x11008.ShapeCasts Cert.DgradIdeal.S18432x11008) :
    (Cert.DgradIdeal.Product.prod (shapeCast Cert.DgradIdeal.S18432x11008 x h) w s) = refTerm x w s := by
  refine funext fun (i : S18432x2048.Idx) => ?_
  obtain ⟨r, n, rfl⟩ : ∃ (r : Fin 18432) (n : Fin 2048), i = ix2 r n := ⟨i 0, i 1, eq_ix2 i⟩
  have hb : r.val / 1152 < 16 := by omega
  have hs : r.val % 1152 < 1152 := by omega
  unfold refTerm
  rw [Cert.DgradIdeal.Product.prod_apply]
  refine Eq.trans ?_ (join_apply _ _ r n hb hs).symm
  rw [dot_apply]
  exact congrArg (· * _) (Finset.sum_congr rfl fun k _ => congrArg (· * _) (join_apply x h r k hb hs))

set_option maxRecDepth 65536 in
/-- `Cert.algebraic_DgradIdeal_RefDgradIdeal`: from equal arguments both run and end with equal results. -/
theorem algebraic : Cert.algebraic_DgradIdeal_RefDgradIdeal (hDgradIdeal := Cert.DgradIdeal.Gen.facts) (hRefDgradIdeal := Cert.RefDgradIdeal.Gen.facts) := by
  intro m g m' g' _ hargs
  refine ⟨fun c => Cert.DgradIdeal.Product.value m c, Cert.DgradIdeal.Product.run m g, ?_⟩
  refine (θ_run (Cert.RefDgradIdeal.defs (F := Ideal)) _ _).mono (fun r h c => ?_) (Cert.RefDgradIdeal.Value.run (F := Ideal) m' g')
  obtain ⟨hv, h0, h1, h2⟩ := h c
  refine ⟨hv.trans ?_, h0, h1, h2⟩
  rw [(hargs c).1, (hargs c).2.1, (hargs c).2.2]
  refine Eq.trans ?_ (congrArg (fun X => Cert.DgradIdeal.Product.prod X _ _) (Cert.DgradIdeal.Product.V_v0 m c)).symm
  exact (eq _ _ _ _).symm

set_option maxRecDepth 65536 in
/-- The reference's frame: it names no semaphore and leaves its arguments. -/
theorem refFrame : Cert.quiescent_RefDgradIdeal (hRefDgradIdeal := Cert.RefDgradIdeal.Gen.facts) := by
  intro m g _
  refine (θ_run (Cert.RefDgradIdeal.defs (F := Ideal)) _ _).mono (fun r h => ⟨fun c => (h c).2, ?_⟩) (Cert.RefDgradIdeal.Value.run (F := Ideal) m g)
  exact sem_eq_zero_of_no_sems (by decide) _

end Cert.Proof.Dgrad
end
-- ==== Proof.AmaxFrame.lean ====
/-
  The frame of the block-maximum call at any float instance: the body runs, the weights stay, every counter ends at zero.
  Nothing is said of the result here, so its window is left unnamed.
-/
module

public import proofs.«01_k».proof.Proof.Gen.Amax.Frame
public import proofs.«01_k».proof.Proof.Gen.Amax.Skeleton
public import Idealize.ShloMosaic.Lib.Tactic

@[expose] public section

set_option maxRecDepth 16384

noncomputable section

namespace Cert.Amax.Blocks

open Cert.Amax Cert.Amax.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body keeps its input block and leaves something in the result's. -/
theorem sound_kernel (c : Dev nD) (E : Set ℕ) (i : grid0.Coords) (arg1 : Memref sig .tc .vmem S1024x2048 .bf16) (harg1 : arg1.IsWhole) (arg2 : Memref sig .tc .vmem S64x2048 .f32) (harg2 : arg2.IsWhole)
    (x : Vec F S1024x2048 .bf16) (K : PUnit → sProp 𝕄) :
    iprop(owns (c : Thread nD τ) arg1 fullShare x ∗ (∃ d, owns (c : Thread nD τ) arg2 fullShare d)
        ∗ (iprop(owns (c : Thread nD τ) arg1 fullShare x ∗ (∃ d, owns (c : Thread nD τ) arg2 fullShare d)) -∗ K ⟨⟩))
      ⊢ wp frame (wpE (defs₀ (F := F)) Variants.none c none) E (cc0_block_amax i arg1 harg1 arg2 harg2) K := by
  simp only [cc0_block_amax_eq_skeleton]; unfold cc0_block_amax_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; iexists _; isplitr
  swap; · iexact H1
  ipureintro
  rfl

/-- The arrays as launched; after the body the input's buffer at its block; the result's is not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .bf16 0#16) (iblk m c 0 t)
    | ⟨1, _⟩ => fun _ => Scalar.ofBits .f32 0#32
  Φ _ := Pipeline.ΦA spec0 c
  q _ := fullShare
  owed _ := 0

/-- The windows whose contents are not named: the result's. -/
def fgt : Fin cfg0.W → Bool := ![false, true]

theorem A_eq (c : Dev nD) (w : Fin cfg0.W) : (dats m 0 c).A w = V m c (Pipeline.arrRef spec0 w) := by dsimp only [dats]

theorem before_0 (c : Dev nD) (t : Fin cfg0.N) (d) :
    (dats m 0 c).before (0 : Fin 2) t d = win0_0.fill (grid0.coords t) d (iblk m c 0 t) := by
  unfold Dat.before; rw [if_pos (fetch0_0 t)]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ fgt := fun t => by
  rw [bigSep_W0, bigSep_W0, defs₀_row]
  simp only [show fgt (0 : Fin 2) = false from rfl, show fgt (1 : Fin 2) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, H1⟩
  rw [before_0 m c t d0]
  iapply (sound_kernel (F := F) c Set.univ (grid0.coords t) _ _ _ _ (win0_0.fill (grid0.coords t) d0 (iblk m c 0 t)) _)
  isplitl [H0]; · iexact H0
  isplitl [H1]; · iexact H1
  iintro ⟨H0, H1⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (win0_0.fill (grid0.coords t) (fun _ => Scalar.ofBits .bf16 0#16) (iblk m c 0 t))))
    rw [win0_0.cut_fill]; try iexact H0
  · iexact H1

set_option backward.isDefEq.respectTransparency.types false in
set_option maxHeartbeats 800000 in
theorem run_frame : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame: the weights end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1.arr_in c 0 rfl).trans (A_eq m c 0), h.2⟩) (run_frame m ρ)

end Cert.Amax.Blocks
end
-- ==== Proof.AmaxIdealRun.lean ====
/-
  The block-maximum call as the machine runs it at the ideal instance: the body leaves, lane group by lane group, the
  maxima of its input block, and the last grid point's blocks overhang the arrays by a quarter.
-/
module

public import proofs.«01_k».proof.Proof.Gen.AmaxIdeal.Frame
public import proofs.«01_k».proof.Proof.Gen.AmaxIdeal.Skeleton
public import Idealize.ShloMosaic.Lib.Tactic

@[expose] public section

set_option maxRecDepth 16384

noncomputable section

namespace Cert.AmaxIdeal.Blocks

open Cert.AmaxIdeal Cert.AmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One exchange of the lane maximum: each lane against the lane whose number differs in the bits of `s`. -/
def step (s : BitVec 32) (m : FVec F S64x128 .f32) : FVec F S64x128 .f32 :=
  have v0 : IVec S64x128 32 := iota .tc S64x128 32 [1] iota_S64x128_d1_w32
  have v7 : IVec S64x128 32 := xori v0 (broadcast S64x128 s)
  have v12 : IVec S64x128 32 := select (cmpi .slt v7 (broadcast S64x128 0#32)) (addi v7 (broadcast S64x128 128#32)) v7
  have v14 : IVec S64x128 32 := shapeCast S64x128 (shapeCast S64x128x1 v12 shapeCasts_S64x128_S64x128x1) shapeCasts_S64x128x1_S64x128
  maximumf m (dynamicGather 1 m v14)

/-- The maximum of absolute values over sixteen rows. -/
def rowMax (v : Vec F S1024x128 .bf16) : FVec F S64x128 .f32 :=
  have v2 : FVec F S1024x128 .bf16 := absf v
  have v3 : FVec F S64x16x128 .bf16 := shapeCast S64x16x128 v2 shapeCasts_S1024x128_S64x16x128
  have v4 : FVec F S64x128 .bf16 := multiReduction .maximumf [1] S64x128 v3 0xFF80#16 reduces_S64x16x128_S64x128 (.inr rfl) rfl
  extf .f32 v4 bitsLt_bf16_f32

/-- What the body stores for one group of 128 lanes. -/
def chunk (v : Vec F S1024x128 .bf16) : FVec F S64x128 .f32 := step 8#32 (step 4#32 (step 2#32 (step 1#32 (rowMax v))))

/-! The sixteen lane groups of the input block and of the result block. -/

abbrev ri0 : Rect S1024x2048 := Rect.unit (s := S1024x2048) ![0, 0] S1024x128.size inb_S1024x2048_S1024x128_0_0
abbrev ro0 : Rect S64x2048 := Rect.unit (s := S64x2048) ![0, 0] S64x128.size inb_S64x2048_S64x128_0_0
abbrev ri1 : Rect S1024x2048 := Rect.unit (s := S1024x2048) ![0, 128] S1024x128.size inb_S1024x2048_S1024x128_0_128
abbrev ro1 : Rect S64x2048 := Rect.unit (s := S64x2048) ![0, 128] S64x128.size inb_S64x2048_S64x128_0_128
abbrev ri2 : Rect S1024x2048 := Rect.unit (s := S1024x2048) ![0, 256] S1024x128.size inb_S1024x2048_S1024x128_0_256
abbrev ro2 : Rect S64x2048 := Rect.unit (s := S64x2048) ![0, 256] S64x128.size inb_S64x2048_S64x128_0_256
abbrev ri3 : Rect S1024x2048 := Rect.unit (s := S1024x2048) ![0, 384] S1024x128.size inb_S1024x2048_S1024x128_0_384
abbrev ro3 : Rect S64x2048 := Rect.unit (s := S64x2048) ![0, 384] S64x128.size inb_S64x2048_S64x128_0_384
abbrev ri4 : Rect S1024x2048 := Rect.unit (s := S1024x2048) ![0, 512] S1024x128.size inb_S1024x2048_S1024x128_0_512
abbrev ro4 : Rect S64x2048 := Rect.unit (s := S64x2048) ![0, 512] S64x128.size inb_S64x2048_S64x128_0_512
abbrev ri5 : Rect S1024x2048 := Rect.unit (s := S1024x2048) ![0, 640] S1024x128.size inb_S1024x2048_S1024x128_0_640
abbrev ro5 : Rect S64x2048 := Rect.unit (s := S64x2048) ![0, 640] S64x128.size inb_S64x2048_S64x128_0_640
abbrev ri6 : Rect S1024x2048 := Rect.unit (s := S1024x2048) ![0, 768] S1024x128.size inb_S1024x2048_S1024x128_0_768
abbrev ro6 : Rect S64x2048 := Rect.unit (s := S64x2048) ![0, 768] S64x128.size inb_S64x2048_S64x128_0_768
abbrev ri7 : Rect S1024x2048 := Rect.unit (s := S1024x2048) ![0, 896] S1024x128.size inb_S1024x2048_S1024x128_0_896
abbrev ro7 : Rect S64x2048 := Rect.unit (s := S64x2048) ![0, 896] S64x128.size inb_S64x2048_S64x128_0_896
abbrev ri8 : Rect S1024x2048 := Rect.unit (s := S1024x2048) ![0, 1024] S1024x128.size inb_S1024x2048_S1024x128_0_1024
abbrev ro8 : Rect S64x2048 := Rect.unit (s := S64x2048) ![0, 1024] S64x128.size inb_S64x2048_S64x128_0_1024
abbrev ri9 : Rect S1024x2048 := Rect.unit (s := S1024x2048) ![0, 1152] S1024x128.size inb_S1024x2048_S1024x128_0_1152
abbrev ro9 : Rect S64x2048 := Rect.unit (s := S64x2048) ![0, 1152] S64x128.size inb_S64x2048_S64x128_0_1152
abbrev ri10 : Rect S1024x2048 := Rect.unit (s := S1024x2048) ![0, 1280] S1024x128.size inb_S1024x2048_S1024x128_0_1280
abbrev ro10 : Rect S64x2048 := Rect.unit (s := S64x2048) ![0, 1280] S64x128.size inb_S64x2048_S64x128_0_1280
abbrev ri11 : Rect S1024x2048 := Rect.unit (s := S1024x2048) ![0, 1408] S1024x128.size inb_S1024x2048_S1024x128_0_1408
abbrev ro11 : Rect S64x2048 := Rect.unit (s := S64x2048) ![0, 1408] S64x128.size inb_S64x2048_S64x128_0_1408
abbrev ri12 : Rect S1024x2048 := Rect.unit (s := S1024x2048) ![0, 1536] S1024x128.size inb_S1024x2048_S1024x128_0_1536
abbrev ro12 : Rect S64x2048 := Rect.unit (s := S64x2048) ![0, 1536] S64x128.size inb_S64x2048_S64x128_0_1536
abbrev ri13 : Rect S1024x2048 := Rect.unit (s := S1024x2048) ![0, 1664] S1024x128.size inb_S1024x2048_S1024x128_0_1664
abbrev ro13 : Rect S64x2048 := Rect.unit (s := S64x2048) ![0, 1664] S64x128.size inb_S64x2048_S64x128_0_1664
abbrev ri14 : Rect S1024x2048 := Rect.unit (s := S1024x2048) ![0, 1792] S1024x128.size inb_S1024x2048_S1024x128_0_1792
abbrev ro14 : Rect S64x2048 := Rect.unit (s := S64x2048) ![0, 1792] S64x128.size inb_S64x2048_S64x128_0_1792
abbrev ri15 : Rect S1024x2048 := Rect.unit (s := S1024x2048) ![0, 1920] S1024x128.size inb_S1024x2048_S1024x128_0_1920
abbrev ro15 : Rect S64x2048 := Rect.unit (s := S64x2048) ![0, 1920] S64x128.size inb_S64x2048_S64x128_0_1920

/-- What the body leaves in the result's buffer, from the input's. -/
def outBlk (x : Vec F S1024x2048 .bf16) : Vec F S64x2048 .f32 := View.canon
  [⟨ro15, chunk (View.ld x ri15)⟩,
   ⟨ro14, chunk (View.ld x ri14)⟩,
   ⟨ro13, chunk (View.ld x ri13)⟩,
   ⟨ro12, chunk (View.ld x ri12)⟩,
   ⟨ro11, chunk (View.ld x ri11)⟩,
   ⟨ro10, chunk (View.ld x ri10)⟩,
   ⟨ro9, chunk (View.ld x ri9)⟩,
   ⟨ro8, chunk (View.ld x ri8)⟩,
   ⟨ro7, chunk (View.ld x ri7)⟩,
   ⟨ro6, chunk (View.ld x ri6)⟩,
   ⟨ro5, chunk (View.ld x ri5)⟩,
   ⟨ro4, chunk (View.ld x ri4)⟩,
   ⟨ro3, chunk (View.ld x ri3)⟩,
   ⟨ro2, chunk (View.ld x ri2)⟩,
   ⟨ro1, chunk (View.ld x ri1)⟩,
   ⟨ro0, chunk (View.ld x ri0)⟩]

/-- The sixteen stores tile the buffer. -/
theorem cover_out (p : Fin 16 → Vec F S64x128 .f32) (y : S64x2048.Idx) :
    ∃ pc ∈ ([⟨ro15, p 15⟩, ⟨ro14, p 14⟩, ⟨ro13, p 13⟩, ⟨ro12, p 12⟩, ⟨ro11, p 11⟩, ⟨ro10, p 10⟩, ⟨ro9, p 9⟩, ⟨ro8, p 8⟩, ⟨ro7, p 7⟩, ⟨ro6, p 6⟩, ⟨ro5, p 5⟩, ⟨ro4, p 4⟩, ⟨ro3, p 3⟩, ⟨ro2, p 2⟩, ⟨ro1, p 1⟩, ⟨ro0, p 0⟩] : List (View.Piece (Elt F) S64x2048 .f32)), y ∈ pc.1.set :=
  View.cover_of_tiled [⟨ro15, p 15⟩, ⟨ro14, p 14⟩, ⟨ro13, p 13⟩, ⟨ro12, p 12⟩, ⟨ro11, p 11⟩, ⟨ro10, p 10⟩, ⟨ro9, p 9⟩, ⟨ro8, p 8⟩, ⟨ro7, p 7⟩, ⟨ro6, p 6⟩, ⟨ro5, p 5⟩, ⟨ro4, p 4⟩, ⟨ro3, p 3⟩, ⟨ro2, p 2⟩, ⟨ro1, p 1⟩, ⟨ro0, p 0⟩] S64x128.size (by rfl) y

set_option maxHeartbeats 4000000 in
/-- The body from any input block leaves `outBlk` of it. -/
theorem sound_kernel (c : Dev nD) (E : Set ℕ) (i : grid0.Coords) (arg1 : Memref sig .tc .vmem S1024x2048 .bf16) (harg1 : arg1.IsWhole) (arg2 : Memref sig .tc .vmem S64x2048 .f32) (harg2 : arg2.IsWhole)
    (x : Vec F S1024x2048 .bf16) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlk x)) -∗ K ⟨⟩))
      ⊢ wp frame (wpE (defs₀ (F := F)) Variants.none c none) E (cc0_block_amax i arg1 harg1 arg2 harg2) K := by
  simp only [cc0_block_amax_eq_skeleton]; unfold cc0_block_amax_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out ![chunk (View.ld (arg1.view.read (Elt F) f0) ri0), chunk (View.ld (arg1.view.read (Elt F) f0) ri1), chunk (View.ld (arg1.view.read (Elt F) f0) ri2), chunk (View.ld (arg1.view.read (Elt F) f0) ri3), chunk (View.ld (arg1.view.read (Elt F) f0) ri4), chunk (View.ld (arg1.view.read (Elt F) f0) ri5), chunk (View.ld (arg1.view.read (Elt F) f0) ri6), chunk (View.ld (arg1.view.read (Elt F) f0) ri7), chunk (View.ld (arg1.view.read (Elt F) f0) ri8), chunk (View.ld (arg1.view.read (Elt F) f0) ri9), chunk (View.ld (arg1.view.read (Elt F) f0) ri10), chunk (View.ld (arg1.view.read (Elt F) f0) ri11), chunk (View.ld (arg1.view.read (Elt F) f0) ri12), chunk (View.ld (arg1.view.read (Elt F) f0) ri13), chunk (View.ld (arg1.view.read (Elt F) f0) ri14), chunk (View.ld (arg1.view.read (Elt F) f0) ri15)])

end Cert.AmaxIdeal.Blocks
end
-- ==== Proof.AmaxIdealValue.lean ====
/-
  What the block-maximum body computes at the ideal instance: at row `j` and lane `l` the largest absolute value of the
  sixteen by sixteen block of weights around them. The four lane exchanges reach the sixteen lanes of the block.
-/
module

public import proofs.«01_k».proof.Proof.AmaxIdealRun
public import Idealize.ShloMosaic.Lib.Pointwise

@[expose] public section

set_option maxRecDepth 16384

noncomputable section

namespace Cert.AmaxIdeal.Blocks

open Cert.AmaxIdeal Cert.AmaxIdeal.Gen Idealize.ShloMosaic Idealize.ShloMosaic.TcCoe

/-- The lane an exchange reads: the kernel's own word arithmetic on the lane number. -/
def mate (s : BitVec 32) (l : Fin 128) : Fin 128 :=
  ⟨(Scalar.select (IntOp.cmpi .slt (IntOp.xori (BitVec.ofNat 32 l) s) 0#32) (IntOp.addi (IntOp.xori (BitVec.ofNat 32 l) s) 128#32)
    (IntOp.xori (BitVec.ofNat 32 l) s)).toNat % 128, Nat.mod_lt _ (by decide)⟩

theorem step_apply (s : BitVec 32) (v : FVec Ideal S64x128 .f32) (j : Fin 64) (l : Fin 128) :
    step s v (ix2 j l) = max (v (ix2 j l)) (v (ix2 j (mate s l))) := by
  pointwise [step]
  rfl

theorem negInf16 : (Ideal.ofBits .bf16 0xFF80#16 : EReal) = ⊥ := by simp [Ideal.ofBits, Ideal.ieee]
theorem negInf32 : (Ideal.ofBits .f32 0xFF800000#32 : EReal) = ⊥ := by simp [Ideal.ofBits, Ideal.ieee]

theorem rowMax_le (v : Vec Ideal S1024x128 .bf16) (j : Fin 64) (l : Fin 128) (c : EReal) :
    rowMax v (ix2 j l) ≤ c ↔ ∀ a : Fin 16, (FloatOps.absf (v (ix2 ⟨j.val * 16 + a.val, by omega⟩ l)) : Ideal .bf16) ≤ c := by
  have h : rowMax v (ix2 j l) = Finset.fold max (Ideal.ofBits .bf16 0xFF80#16 : EReal) (fun a : Fin 16 => (FloatOps.absf (v (ix2 ⟨j.val * 16 + a.val, by omega⟩ l)) : Ideal .bf16)) Finset.univ := by
    pointwise [rowMax]
  rw [h, Finset.fold_max_le, negInf16]
  simp

/-- The lanes the four exchanges bring together. -/
def mates (l : Fin 128) : List (Fin 128) :=
  let e (s : BitVec 32) (L : List (Fin 128)) := L.flatMap fun x => [x, mate s x]
  e 1#32 (e 2#32 (e 4#32 (e 8#32 [l])))

theorem mem_mates : ∀ l y : Fin 128, y ∈ mates l ↔ y.val / 16 = l.val / 16 := by decide +kernel

theorem chunk_le (v : Vec Ideal S1024x128 .bf16) (j : Fin 64) (l : Fin 128) (c : EReal) :
    chunk v (ix2 j l) ≤ c ↔ ∀ y : Fin 128, y.val / 16 = l.val / 16 → ∀ a : Fin 16, (FloatOps.absf (v (ix2 ⟨j.val * 16 + a.val, by omega⟩ y)) : Ideal .bf16) ≤ c := by
  have h : chunk v (ix2 j l) ≤ c ↔ ∀ y ∈ mates l, rowMax v (ix2 j y) ≤ c := by
    unfold chunk
    simp only [step_apply, mates, List.flatMap_cons, List.flatMap_nil, List.cons_append, List.nil_append, List.append_nil, List.forall_mem_cons, max_le_iff]
    simp only [List.not_mem_nil, false_imp_iff, implies_true, and_true, and_assoc]
  rw [h]
  exact forall_congr' fun y => by rw [mem_mates, rowMax_le]

/-- The largest absolute value of each sixteen by sixteen block, repeated over the block's lanes. -/
def amax (w : S11008x2048.Idx → EReal) : S688x2048.Idx → EReal := fun i =>
  (Finset.univ : Finset (Fin 16 × Fin 16)).sup fun p =>
    (FloatOps.absf (F := Ideal) (φ := .bf16) (w (ix2 ⟨(i 0).val * 16 + p.1.val, by have h : (i 0).val < 688 := (i 0).isLt; omega⟩
      ⟨(i 1).val / 16 * 16 + p.2.val, by have h : (i 1).val < 2048 := (i 1).isLt; omega⟩)) : EReal)

theorem amax_le (w : S11008x2048.Idx → EReal) (r : Fin 688) (l : Fin 2048) (c : EReal) :
    amax w (ix2 r l) ≤ c ↔ ∀ a b : Fin 16, (FloatOps.absf (F := Ideal) (φ := .bf16) (w (ix2 ⟨r.val * 16 + a.val, by omega⟩ ⟨l.val / 16 * 16 + b.val, by omega⟩)) : EReal) ≤ c := by
  show Finset.sup _ _ ≤ c ↔ _
  rw [Finset.sup_le_iff]
  exact ⟨fun h a b => h (a, b) (Finset.mem_univ _), fun h p _ => h p.1 p.2⟩

/-- If the sixteen rows of row `j` of a block of the kernel are those of row `r` of the weights, what it stores there is `amax`. -/
theorem chunk_eq (v : Vec Ideal S1024x128 .bf16) (w : S11008x2048.Idx → EReal) (k : Nat) (hk : k < 16) (j : Fin 64) (l : Fin 128) (r : Fin 688)
    (h : ∀ (a : Fin 16) (y : Fin 128), v (ix2 ⟨j.val * 16 + a.val, by omega⟩ y) = w (ix2 ⟨r.val * 16 + a.val, by omega⟩ ⟨128 * k + y.val, by omega⟩)) :
    chunk v (ix2 j l) = amax w (ix2 r ⟨128 * k + l.val, by omega⟩) := by
  refine eq_of_forall_ge_iff fun c => ?_
  rw [chunk_le, amax_le]
  constructor
  · intro H a b
    have := H ⟨l.val / 16 * 16 + b.val, by omega⟩ (by show (l.val / 16 * 16 + b.val) / 16 = _; omega) a
    rw [h] at this
    refine le_of_eq_of_le (congrArg (fun q => (FloatOps.absf (F := Ideal) (φ := .bf16) (w (ix2 _ q)) : EReal)) (Fin.ext ?_)) this
    show (128 * k + l.val) / 16 * 16 + b.val = 128 * k + (l.val / 16 * 16 + b.val); omega
  · intro H y hy a
    have := H a ⟨y.val % 16, by omega⟩
    rw [h]
    refine le_of_eq_of_le (congrArg (fun q => (FloatOps.absf (F := Ideal) (φ := .bf16) (w (ix2 _ q)) : EReal)) (Fin.ext ?_)) this
    show 128 * k + y.val = (128 * k + l.val) / 16 * 16 + y.val % 16; omega

end Cert.AmaxIdeal.Blocks
end
-- ==== Proof.AmaxIdealEnd.lean ====
/-
  The run of the block-maximum call at the ideal instance: the result array ends at the block maxima `amax` of the weights.
  The last grid point's blocks overhang the arrays, so each buffer is stated on the rows inside the array.
-/
module

public import proofs.«01_k».proof.Proof.AmaxIdealValue
public import Idealize.ShloMosaic.Lib.Pipeline.Value

@[expose] public section

set_option maxRecDepth 16384

noncomputable section

namespace Cert.AmaxIdeal.Blocks

open Cert.AmaxIdeal Cert.AmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The block the body leaves -/

/-- The block as one function of its index: the group of 128 lanes around the lane, and the lane in it. -/
def whole (X : Vec Ideal S1024x2048 .bf16) : Vec Ideal S64x2048 .f32 := fun y =>
  chunk (fun i => X (ix2 (i 0) ⟨128 * ((y 1).val / 128) + (i 1).val, by
    have h : (y 1).val < 2048 := (y 1).isLt; have h' : (i 1).val < 128 := (i 1).isLt; omega⟩))
    (ix2 (y 0) ⟨(y 1).val % 128, Nat.mod_lt _ (by decide)⟩)

theorem piece (X : Vec Ideal S1024x2048 .bf16) (k : Nat) (hk : k < 16)
    (hi : ∀ a, (![0, 128 * k] : Fin 2 → Nat) a + S1024x128.size a ≤ S1024x2048.size a)
    (ho : ∀ a, (![0, 128 * k] : Fin 2 → Nat) a + S64x128.size a ≤ S64x2048.size a) (x : S64x128.Idx) :
    chunk (View.ld X (Rect.unit (s := S1024x2048) ![0, 128 * k] S1024x128.size hi)) x
      = whole X ((Rect.unit (s := S64x2048) ![0, 128 * k] S64x128.size ho).emb x) := by
  have h1 : (x 1).val < 128 := (x 1).isLt
  have e0 : (((Rect.unit (s := S64x2048) ![0, 128 * k] S64x128.size ho).emb x) 0).val = (x 0).val := by
    rw [Rect.emb_apply]; show 0 + 1 * (x 0).val = _; omega
  have e1 : (((Rect.unit (s := S64x2048) ![0, 128 * k] S64x128.size ho).emb x) 1).val = 128 * k + (x 1).val := by
    rw [Rect.emb_apply]; show 128 * k + 1 * (x 1).val = _; omega
  unfold whole
  refine congrArg₂ chunk (funext fun (i : S1024x128.Idx) => congrArg X (Shape.idx_ext₂ ?_ ?_)) (Shape.idx_ext₂ ?_ ?_)
  · show 0 + 1 * (i 0).val = (i 0).val; omega
  · show 128 * k + 1 * (i 1).val = 128 * (_ / 128) + (i 1).val; rw [e1]; omega
  · exact e0.symm
  · show (x 1).val = _ % 128; rw [e1]; omega

theorem outBlk_eq (X : Vec Ideal S1024x2048 .bf16) : outBlk X = whole X := by
  refine funext fun y => ?_
  unfold outBlk
  refine View.canon_apply_of_pieces (whole X) _ ?_ y (cover_out ![chunk (View.ld X ri0), chunk (View.ld X ri1), chunk (View.ld X ri2), chunk (View.ld X ri3), chunk (View.ld X ri4), chunk (View.ld X ri5), chunk (View.ld X ri6), chunk (View.ld X ri7), chunk (View.ld X ri8), chunk (View.ld X ri9), chunk (View.ld X ri10), chunk (View.ld X ri11), chunk (View.ld X ri12), chunk (View.ld X ri13), chunk (View.ld X ri14), chunk (View.ld X ri15)] y)
  simp only [List.forall_mem_cons]
  exact ⟨piece X 15 (by decide) _ _, piece X 14 (by decide) _ _, piece X 13 (by decide) _ _, piece X 12 (by decide) _ _,
    piece X 11 (by decide) _ _, piece X 10 (by decide) _ _, piece X 9 (by decide) _ _, piece X 8 (by decide) _ _,
    piece X 7 (by decide) _ _, piece X 6 (by decide) _ _, piece X 5 (by decide) _ _, piece X 4 (by decide) _ _,
    piece X 3 (by decide) _ _, piece X 2 (by decide) _ _, piece X 1 (by decide) _ _, piece X 0 (by decide) _ _, fun _ h => absurd h List.not_mem_nil⟩

/-! ## The windows over the grid -/

theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem size_facts : ∀ t : Fin cfg0.N, win0_0.xsize (grid0.coords t) 0 = min 1024 (11008 - 1024 * t.val) ∧ win0_0.xsize (grid0.coords t) 1 = 2048
    ∧ win0_1.xsize (grid0.coords t) 0 = min 64 (688 - 64 * t.val) ∧ win0_1.xsize (grid0.coords t) 1 = 2048 :=
  (by decide +kernel : ∀ t : Fin grid0.N, win0_0.xsize (grid0.coords t) 0 = min 1024 (11008 - 1024 * t.val) ∧ win0_0.xsize (grid0.coords t) 1 = 2048
    ∧ win0_1.xsize (grid0.coords t) 0 = min 64 (688 - 64 * t.val) ∧ win0_1.xsize (grid0.coords t) 1 = 2048)

/-- The block maxima of device `c`'s weights. -/
abbrev value (c : Dev nD) : Buf (Elt Ideal) ((c : Thread nD τ).loc main_v0) := amax (m ((c : Thread nD τ).loc main_arg0))

/-- The input buffer after a fetch, on a row inside the array. -/
theorem fill_apply (c : Dev nD) (t : Fin cfg0.N) (d : S1024x2048.Idx → EReal) (p : Fin 1024) (q : Fin 2048) (h : t.val * 1024 + p.val < 11008) :
    win0_0.fill (grid0.coords t) d (iblk m c 0 t) (ix2 p q) = m ((c : Thread nD τ).loc main_arg0) (ix2 ⟨t.val * 1024 + p.val, h⟩ q) := by
  obtain ⟨s0, s1, -, -⟩ := size_facts t
  obtain ⟨h0, h1, -, -⟩ := idx_facts t
  have hm : win0_0.moved (grid0.coords t) (ix2 p q) = true := by
    refine (win0_0.moved_iff _ _).mpr fun a => ?_
    match a with
    | ⟨0, _⟩ => show p.val < win0_0.xsize (grid0.coords t) 0; rw [s0]; omega
    | ⟨1, _⟩ => show q.val < win0_0.xsize (grid0.coords t) 1; rw [s1]; exact q.isLt
  unfold Window.fill
  rw [dif_pos hm]
  show m ((c : Thread nD τ).loc main_arg0) ((win0_0.rect t).emb _) = _
  congr 1
  refine Shape.idx_ext₂ ?_ ?_
  · rw [Window.rect_emb_val win0_0 t _ 0, h0]; show t.val * 1024 + p.val = t.val * 1024 + p.val; rfl
  · rw [Window.rect_emb_val win0_0 t _ 1, h1]; show 0 * 2048 + q.val = q.val; omega

/-- Where sixteen rows of the input block are sixteen rows of the weights, the block of the result is `amax` there. -/
theorem whole_eq (X : Vec Ideal S1024x2048 .bf16) (w : S11008x2048.Idx → EReal) (j : Fin 64) (l : Fin 2048) (r : Fin 688)
    (h : ∀ (a : Fin 16) (q : Fin 2048), X (ix2 ⟨j.val * 16 + a.val, by omega⟩ q) = w (ix2 ⟨r.val * 16 + a.val, by omega⟩ q)) :
    whole X (ix2 j l) = amax w (ix2 r l) := by
  refine (chunk_eq _ w (l.val / 128) (by omega) j ⟨l.val % 128, Nat.mod_lt _ (by decide)⟩ r fun a y => ?_).trans ?_
  · exact h a _
  · refine congrArg (fun q => amax w (ix2 r q)) (Fin.ext ?_)
    show 128 * (l.val / 128) + l.val % 128 = l.val; omega

/-- What the body leaves, on the rows inside the result array, is `amax` there, whatever the buffer held past the array's end. -/
theorem cut_whole (c : Dev nD) (t : Fin cfg0.N) (d : S1024x2048.Idx → EReal) (y : (win0_1.xblock (grid0.coords t)).Idx) :
    whole (win0_0.fill (grid0.coords t) d (iblk m c 0 t)) (win0_1.xinj (grid0.coords t) y) = value m c ((win0_1.rect t).emb y) := by
  obtain ⟨-, -, s0, s1⟩ := size_facts t
  obtain ⟨-, -, h0, h1⟩ := idx_facts t
  have y0 : (y 0).val < min 64 (688 - 64 * t.val) := lt_of_lt_of_eq (y 0).isLt s0
  have y1 : (y 1).val < 2048 := lt_of_lt_of_eq (y 1).isLt s1
  obtain ⟨j, hj⟩ : ∃ j : Fin 64, j.val = (y 0).val := ⟨⟨(y 0).val, by omega⟩, rfl⟩
  obtain ⟨l, hl⟩ : ∃ l : Fin 2048, l.val = (y 1).val := ⟨⟨(y 1).val, y1⟩, rfl⟩
  have hr : t.val * 64 + j.val < 688 := by omega
  have hx : (win0_1.xinj (grid0.coords t) y : S64x2048.Idx) = ix2 j l := Shape.idx_ext₂ hj.symm hl.symm
  have he : ((win0_1.rect t).emb y : S688x2048.Idx) = ix2 ⟨t.val * 64 + j.val, hr⟩ l := by
    refine Shape.idx_ext₂ ?_ ?_
    · rw [Window.rect_emb_val win0_1 t y 0, h0]; show t.val * 64 + (y 0).val = t.val * 64 + j.val; omega
    · rw [Window.rect_emb_val win0_1 t y 1, h1]; show 0 * 2048 + (y 1).val = l.val; omega
  refine (congrArg (whole _) hx).trans (Eq.trans ?_ (congrArg (value m c) he.symm))
  refine whole_eq _ _ j l ⟨t.val * 64 + j.val, hr⟩ fun a q => ?_
  refine (fill_apply m c t d _ _ (by show t.val * 1024 + (j.val * 16 + a.val) < 11008; omega)).trans ?_
  refine congrArg _ (Shape.idx_ext₂ ?_ rfl)
  show t.val * 1024 + (j.val * 16 + a.val) = (t.val * 64 + j.val) * 16 + a.val; omega

theorem cut_outBlk (c : Dev nD) (t : Fin cfg0.N) (d : S1024x2048.Idx → EReal) :
    win0_1.cut (grid0.coords t) (outBlk (F := Ideal) (win0_0.fill (grid0.coords t) d (iblk m c 0 t)))
      = (win0_1.blk t).view.read (Elt Ideal) (value m c) :=
  (congrArg (win0_1.cut (grid0.coords t)) (outBlk_eq _)).trans (funext fun y => cut_whole m c t d y)

/-! ## The proof data and the run -/

/-- The arrays as launched; after the body the input's buffer at its block and the result's at its block of `amax`, each
    filled out past the array's end by a value nothing reads. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) ((win0_1.blk t).view.read (Elt Ideal) (value m c))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) :
    (dats m 0 c).before (0 : Fin 2) t d = win0_0.fill (grid0.coords t) d (iblk m c 0 t) := by
  unfold Dat.before; rw [if_pos (fetch0_0 t)]; rfl

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0]
  iapply (sound_kernel (F := Ideal) c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (win0_0.fill (grid0.coords t) (fun _ => (0 : EReal)) (iblk m c 0 t))))
    rw [win0_0.cut_fill]; try iexact H0
  · iexists outBlk (F := Ideal) (win0_0.fill (grid0.coords t) d0 (iblk m c 0 t))
    change _ ⊢ owns (c : Thread nD τ) (st0_1 t) fullShare (win0_1.fill (grid0.coords t) (outBlk (F := Ideal) (win0_0.fill (grid0.coords t) d0 (iblk m c 0 t)))
      (win0_1.cut (grid0.coords t) (win0_1.fill (grid0.coords t) (fun _ => (0 : EReal)) ((win0_1.blk t).view.read (Elt Ideal) (value m c)))))
    rw [win0_1.cut_fill, ← cut_outBlk m c t d0, win0_1.fill_cut]; try iexact H1

set_option backward.isDefEq.respectTransparency.types false in
set_option maxHeartbeats 800000 in
theorem run_frame : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

theorem flushed_eq (c : Dev nD) (t : Fin cfg0.N) :
    (dats m 0 c).flushed 1 t = ((cfg0.win 1).blk t).view.read (Elt Ideal) (value m c) :=
  win0_1.cut_fill (grid0.coords t) (fun _ => (0 : EReal)) ((win0_1.blk t).view.read (Elt Ideal) (value m c))

/-- Every row of the result is in some point's block, the last of them cut at the array's end. -/
theorem cover (i : S688x2048.Idx) : ∃ t : Fin cfg0.N, (cfg0.win 1).flush t = true ∧ i ∈ ((cfg0.win 1).blk t).view.set := by
  have hi0 : (i 0).val < 688 := (i 0).isLt
  have hi1 : (i 1).val < 2048 := (i 1).isLt
  have hN : cfg0.N = 11 := N_0
  obtain ⟨t, ht⟩ : ∃ t : Fin cfg0.N, t.val = (i 0).val / 64 := ⟨⟨(i 0).val / 64, by omega⟩, rfl⟩
  refine ⟨t, flush0_1 _, ?_⟩
  obtain ⟨-, -, h0, h1⟩ := idx_facts t
  obtain ⟨-, -, s0, s1⟩ := size_facts t
  show i ∈ ((View.whole main_v0).slice (win0_1.rect t)).set
  rw [View.set_slice_whole, Rect.mem_set_unit]
  intro a
  match a with
  | ⟨0, _⟩ =>
    show win0_1.index t 0 * 64 ≤ (i 0).val ∧ (i 0).val < win0_1.index t 0 * 64 + win0_1.xsize (grid0.coords t) 0
    rw [h0, s0, ht]; omega
  | ⟨1, _⟩ =>
    show win0_1.index t 1 * 2048 ≤ (i 1).val ∧ (i 1).val < win0_1.index t 1 * 2048 + win0_1.xsize (grid0.coords t) 1
    rw [h1, s1]; omega

/-- The run: the result ends at the block maxima, the weights unchanged, every counter at zero. -/
theorem run : θ_run defs (onTc (τ := τ) (main (F := Ideal))) ⟨m, fun _ => 0, ρ⟩ fun r => (∀ c : Dev nD,
      r.2.mem ((c : Thread nD τ).loc main_v0) = value m c
      ∧ r.2.mem ((c : Thread nD τ).loc main_arg0) = m ((c : Thread nD τ).loc main_arg0)) ∧ r.2.sem = fun _ => 0 :=
  (θ_run defs _ _).mono (fun _ h => ⟨fun c => ⟨((h.1 c).1 1).trans ((dats m 0 c).arrAt_eq_of_cover 1 _ (fun t _ => flushed_eq m c t) cover),
      ((h.1 c).1 0).trans (((dats m 0 c).arrAt_in 0 rfl _).trans (A_eq m c 0))⟩, h.2⟩)
    (run_frame m ρ)

end Cert.AmaxIdeal.Blocks
end
-- ==== Proof.AmaxEquation.lean ====
/-
  The equation of the block-maximum call: the reference's maximum over the two block axes, repeated over the block's lanes,
  is the block maximum the kernel leaves.
-/
module

public import proofs.«01_k».proof.Defs
public import proofs.«01_k».proof.Proof.AmaxIdealEnd
public import proofs.«01_k».proof.Proof.Gen.RefAmaxIdeal.Run
public import Idealize.ShloMosaic.Lib.Claim

@[expose] public section

noncomputable section

namespace Cert.Proof.Amax

open Cert.RefAmaxIdeal Idealize.ShloMosaic Idealize.ShloMosaic.TcCoe Idealize.SL.Sem
open Cert.RefAmaxIdeal.Gen

/-- The maximum over the two block axes, block row by block column. -/
abbrev blockMax (w : FVec Ideal S11008x2048 .bf16) : FVec Ideal S688x128 .f32 :=
  Host.reduce FloatOps.maximumf (Host.absf (shapeCast _ (extf .f32 w bitsLt_bf16_f32) shapeCasts_S11008x2048_S688x16x128x16)) (constant S_ .f32 0xFF800000#32) reducesTo_S688x16x128x16_S688x128_d1_3 h_S_

/-- The reference's result as a function of the weights. -/
abbrev refTerm (w : FVec Ideal S11008x2048 .bf16) : FVec Ideal S688x2048 .f32 :=
  shapeCast _ (broadcastInDim S688x128x16 ![0, 1] bcast_S688x128_S688x128x16_0_1 (blockMax w)) shapeCasts_S688x128x16_S688x2048

/-- The weights as blocks: element `(r, a, k, b)` is row `16 r + a` and lane `16 k + b`. -/
theorem split_apply (w : FVec Ideal S11008x2048 .bf16) (r : Fin 688) (a : Fin 16) (k : Fin 128) (b : Fin 16) :
    Host.absf (shapeCast S688x16x128x16 (extf .f32 w bitsLt_bf16_f32 : FVec Ideal S11008x2048 .f32) shapeCasts_S11008x2048_S688x16x128x16) (ix4 r a k b)
      = (FloatOps.absf (F := Ideal) (φ := .bf16) (w (ix2 ⟨r.val * 16 + a.val, by omega⟩ ⟨k.val * 16 + b.val, by omega⟩)) : EReal) := by
  show (FloatOps.absf (F := Ideal) (φ := .f32) _ : EReal) = _
  refine congrArg (fun z => (FloatOps.absf (F := Ideal) (φ := .f32) z : EReal)) ?_
  refine shapeCast_apply (extf .f32 w bitsLt_bf16_f32 : FVec Ideal S11008x2048 .f32) _ _ _ ?_
  rw [Shape.rowMajor_val_two, Shape.rowMajor_val_four]
  show (r.val * 16 + a.val) * 2048 + (k.val * 16 + b.val) = ((r.val * 16 + a.val) * 128 + k.val) * 16 + b.val
  omega

theorem blockMax_le (w : FVec Ideal S11008x2048 .bf16) (r : Fin 688) (k : Fin 128) (c : EReal) :
    blockMax w (ix2 r k) ≤ c ↔ ∀ a b : Fin 16, (FloatOps.absf (F := Ideal) (φ := .bf16) (w (ix2 ⟨r.val * 16 + a.val, by omega⟩ ⟨k.val * 16 + b.val, by omega⟩)) : EReal) ≤ c := by
  have h : ∀ v : FVec Ideal S688x16x128x16 .f32, (Host.reduce FloatOps.maximumf v (constant S_ .f32 0xFF800000#32) reducesTo_S688x16x128x16_S688x128_d1_3 h_S_ : FVec Ideal S688x128 .f32) (ix2 r k)
      = Finset.fold max (Ideal.ofBits .f32 0xFF800000#32 : EReal) v {i | reducesTo_S688x16x128x16_S688x128_d1_3.drop i = ix2 r k} := by
    intro v; pointwise []
  unfold blockMax
  rw [h, Finset.fold_max_le, Cert.AmaxIdeal.Blocks.negInf32]
  constructor
  · rintro ⟨-, H⟩ a b
    rw [← split_apply]
    refine H _ (Finset.mem_filter.mpr ⟨Finset.mem_univ _, Shape.idx_ext₂ ?_ ?_⟩)
    · exact Shape.ReducesTo.drop_apply_val_of_eq reducesTo_S688x16x128x16_S688x128_d1_3 (ix4 r a k b) 0 0
    · exact Shape.ReducesTo.drop_apply_val_of_eq reducesTo_S688x16x128x16_S688x128_d1_3 (ix4 r a k b) 1 2
  · refine fun H => ⟨bot_le, fun i hi => ?_⟩
    have e := (Finset.mem_filter.mp hi).2
    have e0 : (i 0).val = r.val := (Shape.ReducesTo.drop_apply_val_of_eq reducesTo_S688x16x128x16_S688x128_d1_3 i 0 0).symm.trans (congrArg (fun j : S688x128.Idx => (j 0).val) e)
    have e2 : (i 2).val = k.val := (Shape.ReducesTo.drop_apply_val_of_eq reducesTo_S688x16x128x16_S688x128_d1_3 i 1 2).symm.trans (congrArg (fun j : S688x128.Idx => (j 1).val) e)
    obtain ⟨a, b, rfl⟩ : ∃ a b : Fin 16, i = ix4 r a k b := ⟨i 1, i 3, funext fun q => by
      match q with
      | ⟨0, _⟩ => exact Fin.ext e0
      | ⟨1, _⟩ => rfl
      | ⟨2, _⟩ => exact Fin.ext e2
      | ⟨3, _⟩ => rfl⟩
    rw [split_apply]; exact H a b

/-- The reference's result is the block maximum. -/
theorem eq (w : FVec Ideal S11008x2048 .bf16) : Cert.AmaxIdeal.Blocks.amax w = refTerm w := by
  refine funext fun (i : S688x2048.Idx) => ?_
  obtain ⟨r, l, rfl⟩ : ∃ (r : Fin 688) (l : Fin 2048), i = ix2 r l := ⟨i 0, i 1, eq_ix2 i⟩
  have h : refTerm w (ix2 r l) = blockMax w (ix2 r ⟨l.val / 16, by omega⟩) := by
    refine (shapeCast_apply (broadcastInDim S688x128x16 ![0, 1] bcast_S688x128_S688x128x16_0_1 (blockMax w)) _ (ix2 r l) (ix3 r (⟨l.val / 16, by omega⟩ : Fin 128) (⟨l.val % 16, by omega⟩ : Fin 16)) ?_).trans ?_
    · rw [Shape.rowMajor_val_two, Shape.rowMajor_val_three]
      show (r.val * 128 + l.val / 16) * 16 + l.val % 16 = r.val * 2048 + l.val
      omega
    · refine congrArg (blockMax w) (Shape.idx_ext₂ ?_ ?_) <;> rfl
  rw [h]
  refine eq_of_forall_ge_iff fun c => ?_
  rw [blockMax_le]
  exact Cert.AmaxIdeal.Blocks.amax_le w r l c

/-- `Cert.algebraic_AmaxIdeal_RefAmaxIdeal`: from equal arguments both run and end with equal results. -/
theorem algebraic : Cert.algebraic_AmaxIdeal_RefAmaxIdeal (hAmaxIdeal := Cert.AmaxIdeal.Gen.facts) (hRefAmaxIdeal := Cert.RefAmaxIdeal.Gen.facts) := by
  intro m g m' g' _ hargs
  refine ⟨fun c => Cert.AmaxIdeal.Blocks.value m c, (θ_run (Cert.AmaxIdeal.defs (F := Ideal)) _ _).mono (fun _ h => h.1) (Cert.AmaxIdeal.Blocks.run m g), ?_⟩
  refine (θ_run (Cert.RefAmaxIdeal.defs (F := Ideal)) _ _).mono (fun r h c => ?_) (Cert.RefAmaxIdeal.Value.run (F := Ideal) m' g')
  obtain ⟨hv, h0⟩ := h c
  refine ⟨hv.trans ?_, h0⟩
  rw [hargs c]
  exact (eq _).symm

/-- The idealised kernel's frame. -/
theorem frame : Cert.quiescent_AmaxIdeal (hAmaxIdeal := Cert.AmaxIdeal.Gen.facts) := by
  intro m g _
  exact (θ_run (Cert.AmaxIdeal.defs (F := Ideal)) _ _).mono (fun _ h => ⟨fun c => (h.1 c).2, h.2⟩) (Cert.AmaxIdeal.Blocks.run m g)

/-- The reference's frame: it names no semaphore and leaves its argument. -/
theorem refFrame : Cert.quiescent_RefAmaxIdeal (hRefAmaxIdeal := Cert.RefAmaxIdeal.Gen.facts) := by
  intro m g _
  refine (θ_run (Cert.RefAmaxIdeal.defs (F := Ideal)) _ _).mono (fun r h => ⟨fun c => (h c).2, ?_⟩) (Cert.RefAmaxIdeal.Value.run (F := Ideal) m g)
  exact sem_eq_zero_of_no_sems (by decide) _

end Cert.Proof.Amax
end
-- ==== Proof.QuantFrame.lean ====
/-
  The frame of the quantising call at any float instance: the body runs, its loop's rounds and all, its two arguments stay, every
  counter ends at zero. Nothing is said of the results here, so their windows are left unnamed.
-/
module

public import proofs.«01_k».proof.Proof.Gen.Quant.Frame
public import proofs.«01_k».proof.Proof.Gen.Quant.Loops
public import Idealize.ShloMosaic.Lib.Pipeline.Value
public import Idealize.ShloMosaic.Lib.Tactic

@[expose] public section

set_option maxRecDepth 16384

noncomputable section

namespace Cert.Quant.Scales

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The first point is found by its coordinate. -/
theorem cond_iff (n : Fin 22) : Scalar.cmpi .ne (Scalar.extui (Scalar.cmpi .eq (BitVec.ofNat 32 n.val) 0#32) : BitVec 32) 0#32 = 1#1 ↔ n.val = 0 := by
  revert n; decide +kernel
theorem cond_pos (i : grid0.Coords) (hi : (i 0).val = 0) : Scalar.cmpi .ne (Scalar.extui (Scalar.cmpi .eq (BitVec.ofNat 32 (i 0).val) 0#32) : BitVec 32) 0#32 = 1#1 :=
  (cond_iff (i 0)).2 hi
theorem cond_neg (i : grid0.Coords) (hi : (i 0).val ≠ 0) : ¬ Scalar.cmpi .ne (Scalar.extui (Scalar.cmpi .eq (BitVec.ofNat 32 (i 0).val) 0#32) : BitVec 32) 0#32 = 1#1 :=
  fun h => hi ((cond_iff (i 0)).1 h)

set_option maxHeartbeats 4000000 in
/-- The body at the first point keeps its input blocks and leaves something in the others. -/
theorem sound_first (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (hi : (i 0).val = 0) (x : Vec F S704x2048 .f32) (w : Vec F S512x2048 .bf16) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_quantise i arg1 harg1 arg2 harg2 arg3 harg3 arg4 harg4 arg5 harg5 arg6 harg6 arg7 harg7 arg8 harg8 arg9 harg9 arg10 harg10 arg11 harg11) K := by
  simp only [cc0_quantise_eq_skeleton]; unfold cc0_quantise_skel
  simp only [k0_part111_eq_skeleton]; unfold k0_part111_skel
  simp only [dif_pos (cond_pos i hi)]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

set_option maxHeartbeats 4000000 in
/-- The body at a later point likewise. -/
theorem sound_later (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (hi : (i 0).val ≠ 0) (x : Vec F S704x2048 .f32) (w : Vec F S512x2048 .bf16) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_quantise i arg1 harg1 arg2 harg2 arg3 harg3 arg4 harg4 arg5 harg5 arg6 harg6 arg7 harg7 arg8 harg8 arg9 harg9 arg10 harg10 arg11 harg11) K := by
  simp only [cc0_quantise_eq_skeleton]; unfold cc0_quantise_skel
  simp only [k0_part111_eq_skeleton]; unfold k0_part111_skel
  simp only [dif_neg (cond_neg i hi)]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

set_option maxHeartbeats 1000000 in
/-- At any point, on the call's own scratch buffers. -/
theorem sound_scratch (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole)
    (x : Vec F S704x2048 .f32) (w : Vec F S512x2048 .bf16) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d : Buf (Elt F) ((c : Thread nD τ).loc cc0_scratch0), (((c : Thread nD τ).loc cc0_scratch0) ↦{fullShare} d)) ∗ (∃ d : Buf (Elt F) ((c : Thread nD τ).loc cc0_scratch1), (((c : Thread nD τ).loc cc0_scratch1) ↦{fullShare} d)) ∗ (∃ d : Buf (Elt F) ((c : Thread nD τ).loc cc0_scratch2), (((c : Thread nD τ).loc cc0_scratch2) ↦{fullShare} d)) ∗ (∃ d : Buf (Elt F) ((c : Thread nD τ).loc cc0_scratch3), (((c : Thread nD τ).loc cc0_scratch3) ↦{fullShare} d))
        ∗ (iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d : Buf (Elt F) ((c : Thread nD τ).loc cc0_scratch0), (((c : Thread nD τ).loc cc0_scratch0) ↦{fullShare} d)) ∗ (∃ d : Buf (Elt F) ((c : Thread nD τ).loc cc0_scratch1), (((c : Thread nD τ).loc cc0_scratch1) ↦{fullShare} d)) ∗ (∃ d : Buf (Elt F) ((c : Thread nD τ).loc cc0_scratch2), (((c : Thread nD τ).loc cc0_scratch2) ↦{fullShare} d)) ∗ (∃ d : Buf (Elt F) ((c : Thread nD τ).loc cc0_scratch3), (((c : Thread nD τ).loc cc0_scratch3) ↦{fullShare} d))) -∗ K ⟨⟩))
      ⊢ wp frame (wpE (defs₀ (F := F)) Variants.none c none) E (cc0_quantise i arg1 harg1 arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  by_cases hi : (i 0).val = 0
  · have h := sound_first c E i arg1 harg1 arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) hi x w K
    simp only [owns_whole] at h
    exact h
  · have h := sound_later c E i arg1 harg1 arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) hi x w K
    simp only [owns_whole] at h
    exact h

/-- The arrays as launched; after the body the inputs' buffers at their blocks; the results' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .bf16 0#16) (iblk m c 1 t)
    | ⟨2, _⟩ => fun _ => Scalar.ofBits .bf16 0#16
    | ⟨3, _⟩ => fun _ => (0#8)
    | ⟨4, _⟩ => fun _ => (0#8)
    | ⟨5, _⟩ => fun _ => Scalar.ofBits .fp8e4m3 0#8
    | ⟨6, _⟩ => fun _ => Scalar.ofBits .f32 0#32
  Φ _ := Pipeline.ΦA spec0 c
  q _ := fullShare
  owed _ := 0

/-- The windows whose contents are not named: the results'. -/
def fgt : Fin cfg0.W → Bool := ![false, false, true, true, true, true, true]

theorem A_eq (c : Dev nD) (w : Fin cfg0.W) : (dats m 0 c).A w = V m c (Pipeline.arrRef spec0 w) := by dsimp only [dats]

theorem before_0 (c : Dev nD) (t : Fin cfg0.N) (d) : (dats m 0 c).before (0 : Fin 7) t d = iblk m c 0 t :=
  before0_0_of m (dats m 0 c) (A_eq m c 0) (fun t => by dsimp only [dats]) t d

theorem before_1 (c : Dev nD) (t : Fin cfg0.N) (d) :
    (dats m 0 c).before (1 : Fin 7) t d = win0_1.fill (grid0.coords t) d (iblk m c 1 t) := by
  unfold Dat.before; rw [if_pos (fetch0_1 t)]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ fgt := fun t => by
  rw [bigSep_W0, bigSep_W0, defs₀_row]
  simp only [show fgt (0 : Fin 7) = false from rfl, show fgt (1 : Fin 7) = false from rfl, show fgt (2 : Fin 7) = true from rfl, show fgt (3 : Fin 7) = true from rfl, show fgt (4 : Fin 7) = true from rfl, show fgt (5 : Fin 7) = true from rfl, show fgt (6 : Fin 7) = true from rfl]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq c]
  iintro ⟨⟨⟨Hs0, Hs1, Hs2, Hs3⟩, Hp⟩, Ho, ⟨%d0, H0⟩, ⟨%d1, H1⟩, H2, H3, H4, H5, H6⟩
  rw [before_0 m c t d0, before_1 m c t d1]
  iapply (sound_scratch (F := F) c Set.univ (grid0.coords t) _ _ _ _ _ _ _ _ _ _ _ _ _ _ (iblk m c 0 t) (win0_1.fill (grid0.coords t) d1 (iblk m c 1 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs0]; · iexact Hs0
  isplitl [Hs1]; · iexact Hs1
  isplitl [Hs2]; · iexact Hs2
  isplitl [Hs3]; · iexact Hs3
  iintro ⟨H0, H1, H2, H3, H4, H5, H6, Hs0, Hs1, Hs2, Hs3⟩
  isplitl [Hs0 Hs1 Hs2 Hs3 Hp]
  · isplitl [Hs0 Hs1 Hs2 Hs3]
    · isplitl [Hs0]; · iexact Hs0
      isplitl [Hs1]; · iexact Hs1
      isplitl [Hs2]; · iexact Hs2
      iexact Hs3
    iexact Hp
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (win0_1.fill (grid0.coords t) (fun _ => Scalar.ofBits .bf16 0#16) (iblk m c 1 t))))
    rw [win0_1.cut_fill]; try iexact H1
  isplitl [H2]; · iexact H2
  isplitl [H3]; · iexact H3
  isplitl [H4]; · iexact H4
  isplitl [H5]; · iexact H5
  iexact H6

set_option backward.isDefEq.respectTransparency.types false in
set_option maxHeartbeats 1600000 in
theorem run_frame : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame: the two arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1.arr_in c 0 rfl).trans (A_eq m c 0), (h.1.arr_in c 1 rfl).trans (A_eq m c 1)⟩, h.2⟩) (run_frame m ρ)

end Cert.Quant.Scales
end
-- ==== Proof.CodesTrip.lean ====
/-
  The stores of one trip of the loop over the rows of a block, as values of the weights and the factors it loads: 32 tiles
  of the packed pairs of rows, and 16 tiles of the packed pairs of columns.
-/
module

public import proofs.«01_k».proof.Proof.Gen.QuantIdeal.Loops

@[expose] public section

set_option maxRecDepth 16384

noncomputable section

namespace Cert.QuantIdeal.Codes

open Cert.QuantIdeal Cert.QuantIdeal.Gen
open Idealize.ShloMosaic Idealize.ShloMosaic.TcCoe Idealize.ShloMosaic.Tactic
open Idealize.SL Idealize.SL.RA Idealize.SL.BI
open Idealize.SL.Sem

variable {F : FTy → Type} [FloatOps F]

/-- Rows 4 to 7 of the factors, each over eight rows. -/
def spreadB (v : Vec F S8x128 .f32) : FVec F S32x128 .f32 :=
  concatenate S32x128 0 [
    ⟨S8x128, broadcastTo S8x128 (shapeCast S1x128 (extractStridedSlice S1x128 ![4, 0] v slices_S8x128_o4_0_S1x128) shapeCasts_S1x128_S1x128) broadcasts_S1x128_S8x128⟩,
    ⟨S8x128, broadcastTo S8x128 (shapeCast S1x128 (extractStridedSlice S1x128 ![5, 0] v slices_S8x128_o5_0_S1x128) shapeCasts_S1x128_S1x128) broadcasts_S1x128_S8x128⟩,
    ⟨S8x128, broadcastTo S8x128 (shapeCast S1x128 (extractStridedSlice S1x128 ![6, 0] v slices_S8x128_o6_0_S1x128) shapeCasts_S1x128_S1x128) broadcasts_S1x128_S8x128⟩,
    ⟨S8x128, broadcastTo S8x128 (shapeCast S1x128 (extractStridedSlice S1x128 ![7, 0] v slices_S8x128_o7_0_S1x128) shapeCasts_S1x128_S1x128) broadcasts_S1x128_S8x128⟩] concatenates_S8x128_S8x128_S8x128_S8x128_S32x128_d0

/-- The codes of the even or the odd rows of a tile. -/
def codeV (p : Fin 2) (w : Vec F S64x128 .bf16) (r : FVec F S32x128 .f32) : IVec S32x128 32 :=
  k0_pay24 (Scalar.ofBits .f32 0x40C00000#32) (k0_pay18 (rowsOfParity p S32x128 w bitcasts_S64x128_w16_S32x128_w32) r)

/-- A tile of the packed pairs of rows. -/
def cnTile (w : Vec F S64x128 .bf16) (r : FVec F S32x128 .f32) : IVec S32x128 8 :=
  k0_pay26 (codeV 0 w r) (codeV 1 w r)

/-- Both codes of a pair of rows, the next column's above them, gathered from the even columns. -/
def ckWord (w : Vec F S64x128 .bf16) (r : FVec F S32x128 .f32) : IVec S32x128 32 :=
  k0_pay27 k0_pay2 (codeV 0 w r) (codeV 1 w r)

/-- A tile of the packed pairs of columns, from two neighbouring tiles. -/
def ckTile (w : Vec F S64x128 .bf16) (r : FVec F S32x128 .f32) (w' : Vec F S64x128 .bf16) (r' : FVec F S32x128 .f32) : IVec S64x128 8 :=
  trunci 8 (bitcast S64x128 16 (select k0_pay3 (ckWord w r) (ckWord w' r')) bitcasts_S32x128_w32_S64x128_w16) natLt_8_16

section Tiles

variable (arg2 : Memref sig .tc .vmem S512x2048 .bf16) (arg9 : Memref sig .tc .vmem S32x2048 .f32)
  (X2 : BufTy.Contents (Elt F) arg2.view.ty) (X9 : BufTy.Contents (Elt F) arg9.view.ty) (k : Fin k0_t1_loop.trips)

/-- A tile of the weights. -/
abbrev wTile (off : Fin 2 → Nat) (h : ∀ a, off a + S64x128.size a ≤ S512x2048.size a) : Vec F S64x128 .bf16 :=
  View.readAt (Elt F) arg2.view (Rect.unit (s := S512x2048) off S64x128.size h).toLoadRect X2

/-- A tile of the factors. -/
abbrev rTile (off : Fin 2 → Nat) (h : ∀ a, off a + S8x128.size a ≤ S32x2048.size a) : Vec F S8x128 .f32 :=
  View.readAt (Elt F) arg9.view (Rect.unit (s := S32x2048) off S8x128.size h).toLoadRect X9

theorem cn_0_0 : trip_k0_t1.sl.v200 arg2 arg9 X2 X9 k = cnTile (wTile arg2 X2 (k0_off2 k 0#32) (k0_off2_inb k 0)) (k0_pay7 (rTile arg9 X9 (k0_off3 k) (k0_off3_inb k))) := by
  dsimp only [cnTile, codeV, spreadB, wTile, rTile, k0_pay6, k0_pay7, k0_pay9, k0_pay10, k0_pay11, k0_pay12, k0_pay13, k0_pay14, k0_pay15, k0_pay17, k0_pay18, k0_pay19, k0_pay20, k0_pay21, k0_pay22, k0_pay23, k0_pay24, k0_pay26, trip_k0_t1.sl.r, trip_k0_t1.sl.r_1, trip_k0_t1.sl.r_3, trip_k0_t1.sl.r_5, trip_k0_t1.sl.r_6, trip_k0_t1.sl.r_7, trip_k0_t1.sl.cst_49, trip_k0_t1.sl.v193, trip_k0_t1.sl.v194, trip_k0_t1.sl.v195, trip_k0_t1.sl.v196, trip_k0_t1.sl.v200]

theorem cn_0_1 : k0_pay52 (trip_k0_t1.sl.r_15 arg2 arg9 X2 X9 k) (trip_k0_t1.sl.r_16 arg2 arg9 X2 X9 k) (trip_k0_t1.sl.r_18 arg2 arg9 X2 X9 k) (trip_k0_t1.sl.r_19 arg2 arg9 X2 X9 k) = cnTile (wTile arg2 X2 (k0_off5 k 0#32) (k0_off5_inb k 0)) (k0_pay7 (rTile arg9 X9 (k0_off6 k) (k0_off6_inb k))) := by
  dsimp only [cnTile, codeV, spreadB, wTile, rTile, k0_pay7, k0_pay18, k0_pay19, k0_pay20, k0_pay21, k0_pay22, k0_pay23, k0_pay24, k0_pay26, k0_pay33, k0_pay34, k0_pay35, k0_pay36, k0_pay38, k0_pay39, k0_pay41, k0_pay42, k0_pay43, k0_pay44, k0_pay45, k0_pay47, k0_pay48, k0_pay49, k0_pay50, k0_pay52, trip_k0_t1.sl.r_11, trip_k0_t1.sl.r_13, trip_k0_t1.sl.r_15, trip_k0_t1.sl.r_16, trip_k0_t1.sl.r_18, trip_k0_t1.sl.r_19, trip_k0_t1.sl.v218_hi, trip_k0_t1.sl.v218_lo, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v232, trip_k0_t1.sl.v233, trip_k0_t1.sl.v234, trip_k0_t1.sl.v235]

theorem cn_0_2 : k0_pay76 (trip_k0_t1.sl.r_28 arg2 arg9 X2 X9 k) (trip_k0_t1.sl.r_29 arg2 arg9 X2 X9 k) (trip_k0_t1.sl.r_30 arg2 arg9 X2 X9 k) (trip_k0_t1.sl.r_31 arg2 arg9 X2 X9 k) (trip_k0_t1.sl.r_32 arg2 arg9 X2 X9 k) trip_k0_t1.sl.cst_147 = cnTile (wTile arg2 X2 (k0_off9 k 0#32) (k0_off9_inb k 0)) (k0_pay7 (rTile arg9 X9 (k0_off10 k) (k0_off10_inb k))) := by
  dsimp only [cnTile, codeV, spreadB, wTile, rTile, k0_pay7, k0_pay18, k0_pay19, k0_pay20, k0_pay21, k0_pay22, k0_pay23, k0_pay24, k0_pay26, k0_pay54, k0_pay55, k0_pay57, k0_pay58, k0_pay59, k0_pay60, k0_pay61, k0_pay62, k0_pay63, k0_pay64, k0_pay66, k0_pay67, k0_pay68, k0_pay69, k0_pay70, k0_pay71, k0_pay72, k0_pay73, k0_pay74, k0_pay76, trip_k0_t1.sl.r_20, trip_k0_t1.sl.r_21, trip_k0_t1.sl.r_23, trip_k0_t1.sl.r_24, trip_k0_t1.sl.r_25, trip_k0_t1.sl.r_26, trip_k0_t1.sl.r_28, trip_k0_t1.sl.r_29, trip_k0_t1.sl.r_30, trip_k0_t1.sl.r_31, trip_k0_t1.sl.r_32, trip_k0_t1.sl.cst_147]

theorem cn_0_3 : k0_pay100 (trip_k0_t1.sl.r_40 arg2 arg9 X2 X9 k) (trip_k0_t1.sl.r_42 arg2 arg9 X2 X9 k) = cnTile (wTile arg2 X2 (k0_off12 k 0#32) (k0_off12_inb k 0)) (k0_pay7 (rTile arg9 X9 (k0_off13 k) (k0_off13_inb k))) := by
  dsimp only [cnTile, codeV, spreadB, wTile, rTile, k0_pay7, k0_pay18, k0_pay19, k0_pay20, k0_pay21, k0_pay22, k0_pay23, k0_pay24, k0_pay26, k0_pay79, k0_pay80, k0_pay82, k0_pay83, k0_pay84, k0_pay85, k0_pay86, k0_pay87, k0_pay89, k0_pay90, k0_pay91, k0_pay92, k0_pay93, k0_pay94, k0_pay95, k0_pay96, k0_pay100, trip_k0_t1.sl.r_35, trip_k0_t1.sl.r_36, trip_k0_t1.sl.r_38, trip_k0_t1.sl.r_40, trip_k0_t1.sl.r_41, trip_k0_t1.sl.r_42, trip_k0_t1.sl.cst_169]

theorem cn_0_4 : k0_pay128 (trip_k0_t1.sl.r_59 arg2 arg9 X2 X9 k) (trip_k0_t1.sl.r_60 arg2 arg9 X2 X9 k) (trip_k0_t1.sl.r_61 arg2 arg9 X2 X9 k) (trip_k0_t1.sl.r_63 arg2 arg9 X2 X9 k) (trip_k0_t1.sl.r_64 arg2 arg9 X2 X9 k) = cnTile (wTile arg2 X2 (k0_off16 k 0#32) (k0_off16_inb k 0)) (k0_pay7 (rTile arg9 X9 (k0_off17 k) (k0_off17_inb k))) := by
  dsimp only [cnTile, codeV, spreadB, wTile, rTile, k0_pay7, k0_pay18, k0_pay19, k0_pay20, k0_pay21, k0_pay22, k0_pay23, k0_pay24, k0_pay26, k0_pay102, k0_pay103, k0_pay104, k0_pay105, k0_pay106, k0_pay108, k0_pay109, k0_pay110, k0_pay111, k0_pay113, k0_pay114, k0_pay115, k0_pay117, k0_pay118, k0_pay119, k0_pay120, k0_pay121, k0_pay123, k0_pay124, k0_pay125, k0_pay126, k0_pay128, trip_k0_t1.sl.r_45, trip_k0_t1.sl.r_46, trip_k0_t1.sl.r_47, trip_k0_t1.sl.r_49, trip_k0_t1.sl.r_50, trip_k0_t1.sl.r_51, trip_k0_t1.sl.r_53, trip_k0_t1.sl.r_54, trip_k0_t1.sl.r_56, trip_k0_t1.sl.r_57, trip_k0_t1.sl.r_59, trip_k0_t1.sl.r_60, trip_k0_t1.sl.r_61, trip_k0_t1.sl.r_63, trip_k0_t1.sl.r_64, trip_k0_t1.sl.cst_226]

theorem cn_0_5 : trip_k0_t1.sl.v960 arg2 arg9 X2 X9 k = cnTile (wTile arg2 X2 (k0_off19 k 0#32) (k0_off19_inb k 0)) (k0_pay7 (rTile arg9 X9 (k0_off20 k) (k0_off20_inb k))) := by
  dsimp only [cnTile, codeV, spreadB, wTile, rTile, k0_pay7, k0_pay18, k0_pay19, k0_pay20, k0_pay21, k0_pay22, k0_pay23, k0_pay24, k0_pay26, k0_pay132, k0_pay133, k0_pay135, k0_pay136, k0_pay137, k0_pay138, k0_pay139, k0_pay140, k0_pay141, k0_pay142, k0_pay144, k0_pay145, k0_pay146, k0_pay147, k0_pay148, k0_pay149, k0_pay150, k0_pay151, k0_pay152, k0_pay154, trip_k0_t1.sl.r_67, trip_k0_t1.sl.r_68, trip_k0_t1.sl.r_70, trip_k0_t1.sl.r_71, trip_k0_t1.sl.r_72, trip_k0_t1.sl.r_73, trip_k0_t1.sl.r_75, trip_k0_t1.sl.r_76, trip_k0_t1.sl.r_77, trip_k0_t1.sl.r_78, trip_k0_t1.sl.r_79, trip_k0_t1.sl.r_81, trip_k0_t1.sl.cst_226, trip_k0_t1.sl.cst_284, trip_k0_t1.sl.v960]

theorem cn_0_6 : k0_pay182 (trip_k0_t1.sl.r_88 arg2 arg9 X2 X9 k) (trip_k0_t1.sl.r_90 arg2 arg9 X2 X9 k) (trip_k0_t1.sl.r_91 arg2 arg9 X2 X9 k) = cnTile (wTile arg2 X2 (k0_off23 k 0#32) (k0_off23_inb k 0)) (k0_pay7 (rTile arg9 X9 (k0_off24 k) (k0_off24_inb k))) := by
  dsimp only [cnTile, codeV, spreadB, wTile, rTile, k0_pay7, k0_pay18, k0_pay19, k0_pay20, k0_pay21, k0_pay22, k0_pay23, k0_pay24, k0_pay26, k0_pay164, k0_pay165, k0_pay166, k0_pay167, k0_pay169, k0_pay170, k0_pay172, k0_pay173, k0_pay174, k0_pay175, k0_pay176, k0_pay178, k0_pay179, k0_pay180, k0_pay182, trip_k0_t1.sl.r_85, trip_k0_t1.sl.r_86, trip_k0_t1.sl.r_88, trip_k0_t1.sl.r_90, trip_k0_t1.sl.r_91, trip_k0_t1.sl.v983_hi, trip_k0_t1.sl.v983_lo, trip_k0_t1.sl.v988, trip_k0_t1.sl.v989, trip_k0_t1.sl.v990, trip_k0_t1.sl.v991, trip_k0_t1.sl.v992, trip_k0_t1.sl.v993, trip_k0_t1.sl.v994, trip_k0_t1.sl.v995, trip_k0_t1.sl.v996, trip_k0_t1.sl.v997, trip_k0_t1.sl.v998, trip_k0_t1.sl.v999, trip_k0_t1.sl.v1000]

theorem cn_0_7 : k0_pay206 (trip_k0_t1.sl.r_105 arg2 arg9 X2 X9 k) (trip_k0_t1.sl.r_106 arg2 arg9 X2 X9 k) (trip_k0_t1.sl.r_107 arg2 arg9 X2 X9 k) (trip_k0_t1.sl.r_108 arg2 arg9 X2 X9 k) = cnTile (wTile arg2 X2 (k0_off26 k 0#32) (k0_off26_inb k 0)) (k0_pay7 (rTile arg9 X9 (k0_off27 k) (k0_off27_inb k))) := by
  dsimp only [cnTile, codeV, spreadB, wTile, rTile, k0_pay7, k0_pay18, k0_pay19, k0_pay20, k0_pay21, k0_pay22, k0_pay23, k0_pay24, k0_pay26, k0_pay184, k0_pay185, k0_pay186, k0_pay187, k0_pay189, k0_pay190, k0_pay191, k0_pay192, k0_pay194, k0_pay195, k0_pay197, k0_pay198, k0_pay199, k0_pay200, k0_pay201, k0_pay203, k0_pay204, k0_pay206, trip_k0_t1.sl.r_93, trip_k0_t1.sl.r_94, trip_k0_t1.sl.r_95, trip_k0_t1.sl.r_97, trip_k0_t1.sl.r_98, trip_k0_t1.sl.r_100, trip_k0_t1.sl.r_101, trip_k0_t1.sl.r_103, trip_k0_t1.sl.r_105, trip_k0_t1.sl.r_106, trip_k0_t1.sl.r_107, trip_k0_t1.sl.r_108]

theorem cn_0_8 : trip_k0_t1.sl.v1420 arg2 arg9 X2 X9 k = cnTile (wTile arg2 X2 (k0_off30 k 0#32) (k0_off30_inb k 0)) (k0_pay7 (rTile arg9 X9 (k0_off31 k) (k0_off31_inb k))) := by
  dsimp only [cnTile, codeV, spreadB, wTile, rTile, k0_pay7, k0_pay18, k0_pay19, k0_pay20, k0_pay21, k0_pay22, k0_pay23, k0_pay24, k0_pay26, k0_pay210, k0_pay211, k0_pay213, k0_pay214, k0_pay215, k0_pay216, k0_pay217, k0_pay218, k0_pay219, k0_pay221, k0_pay222, k0_pay223, k0_pay224, k0_pay225, k0_pay226, k0_pay227, k0_pay228, trip_k0_t1.sl.cst_49, trip_k0_t1.sl.r_111, trip_k0_t1.sl.r_112, trip_k0_t1.sl.r_114, trip_k0_t1.sl.r_116, trip_k0_t1.sl.r_117, trip_k0_t1.sl.r_118, trip_k0_t1.sl.v193, trip_k0_t1.sl.v1414, trip_k0_t1.sl.v1415, trip_k0_t1.sl.v1416, trip_k0_t1.sl.v1420]

theorem cn_0_9 : k0_pay256 (trip_k0_t1.sl.r_126 arg2 arg9 X2 X9 k) (trip_k0_t1.sl.r_127 arg2 arg9 X2 X9 k) (trip_k0_t1.sl.r_129 arg2 arg9 X2 X9 k) (trip_k0_t1.sl.r_130 arg2 arg9 X2 X9 k) = cnTile (wTile arg2 X2 (k0_off33 k 0#32) (k0_off33_inb k 0)) (k0_pay7 (rTile arg9 X9 (k0_off34 k) (k0_off34_inb k))) := by
  dsimp only [cnTile, codeV, spreadB, wTile, rTile, k0_pay7, k0_pay18, k0_pay19, k0_pay20, k0_pay21, k0_pay22, k0_pay23, k0_pay24, k0_pay26, k0_pay237, k0_pay238, k0_pay239, k0_pay240, k0_pay242, k0_pay243, k0_pay245, k0_pay246, k0_pay247, k0_pay248, k0_pay249, k0_pay251, k0_pay252, k0_pay253, k0_pay254, k0_pay256, trip_k0_t1.sl.r_122, trip_k0_t1.sl.r_124, trip_k0_t1.sl.r_126, trip_k0_t1.sl.r_127, trip_k0_t1.sl.r_129, trip_k0_t1.sl.r_130, trip_k0_t1.sl.v1438_hi, trip_k0_t1.sl.v1438_lo, trip_k0_t1.sl.v1443, trip_k0_t1.sl.v1444, trip_k0_t1.sl.v1445, trip_k0_t1.sl.v1446, trip_k0_t1.sl.v1447, trip_k0_t1.sl.v1448, trip_k0_t1.sl.v1449, trip_k0_t1.sl.v1450, trip_k0_t1.sl.v1451, trip_k0_t1.sl.v1452, trip_k0_t1.sl.v1453, trip_k0_t1.sl.v1454, trip_k0_t1.sl.v1455]

theorem cn_0_10 : k0_pay280 (trip_k0_t1.sl.r_139 arg2 arg9 X2 X9 k) (trip_k0_t1.sl.r_140 arg2 arg9 X2 X9 k) (trip_k0_t1.sl.r_141 arg2 arg9 X2 X9 k) (trip_k0_t1.sl.r_142 arg2 arg9 X2 X9 k) (trip_k0_t1.sl.r_143 arg2 arg9 X2 X9 k) trip_k0_t1.sl.cst_147 = cnTile (wTile arg2 X2 (k0_off37 k 0#32) (k0_off37_inb k 0)) (k0_pay7 (rTile arg9 X9 (k0_off38 k) (k0_off38_inb k))) := by
  dsimp only [cnTile, codeV, spreadB, wTile, rTile, k0_pay7, k0_pay18, k0_pay19, k0_pay20, k0_pay21, k0_pay22, k0_pay23, k0_pay24, k0_pay26, k0_pay258, k0_pay259, k0_pay261, k0_pay262, k0_pay263, k0_pay264, k0_pay265, k0_pay266, k0_pay267, k0_pay268, k0_pay270, k0_pay271, k0_pay272, k0_pay273, k0_pay274, k0_pay275, k0_pay276, k0_pay277, k0_pay278, k0_pay280, trip_k0_t1.sl.r_131, trip_k0_t1.sl.r_132, trip_k0_t1.sl.r_134, trip_k0_t1.sl.r_135, trip_k0_t1.sl.r_136, trip_k0_t1.sl.r_137, trip_k0_t1.sl.r_139, trip_k0_t1.sl.r_140, trip_k0_t1.sl.r_141, trip_k0_t1.sl.r_142, trip_k0_t1.sl.r_143, trip_k0_t1.sl.cst_147]

theorem cn_0_11 : k0_pay304 (trip_k0_t1.sl.r_151 arg2 arg9 X2 X9 k) (trip_k0_t1.sl.r_153 arg2 arg9 X2 X9 k) = cnTile (wTile arg2 X2 (k0_off40 k 0#32) (k0_off40_inb k 0)) (k0_pay7 (rTile arg9 X9 (k0_off41 k) (k0_off41_inb k))) := by
  dsimp only [cnTile, codeV, spreadB, wTile, rTile, k0_pay7, k0_pay18, k0_pay19, k0_pay20, k0_pay21, k0_pay22, k0_pay23, k0_pay24, k0_pay26, k0_pay283, k0_pay284, k0_pay286, k0_pay287, k0_pay288, k0_pay289, k0_pay290, k0_pay291, k0_pay293, k0_pay294, k0_pay295, k0_pay296, k0_pay297, k0_pay298, k0_pay299, k0_pay300, k0_pay304, trip_k0_t1.sl.r_146, trip_k0_t1.sl.r_147, trip_k0_t1.sl.r_149, trip_k0_t1.sl.r_151, trip_k0_t1.sl.r_152, trip_k0_t1.sl.r_153, trip_k0_t1.sl.cst_169]

theorem cn_0_12 : k0_pay332 (trip_k0_t1.sl.r_170 arg2 arg9 X2 X9 k) (trip_k0_t1.sl.r_171 arg2 arg9 X2 X9 k) (trip_k0_t1.sl.r_172 arg2 arg9 X2 X9 k) (trip_k0_t1.sl.r_174 arg2 arg9 X2 X9 k) (trip_k0_t1.sl.r_175 arg2 arg9 X2 X9 k) = cnTile (wTile arg2 X2 (k0_off44 k 0#32) (k0_off44_inb k 0)) (k0_pay7 (rTile arg9 X9 (k0_off45 k) (k0_off45_inb k))) := by
  dsimp only [cnTile, codeV, spreadB, wTile, rTile, k0_pay7, k0_pay18, k0_pay19, k0_pay20, k0_pay21, k0_pay22, k0_pay23, k0_pay24, k0_pay26, k0_pay306, k0_pay307, k0_pay308, k0_pay309, k0_pay310, k0_pay312, k0_pay313, k0_pay314, k0_pay315, k0_pay317, k0_pay318, k0_pay319, k0_pay321, k0_pay322, k0_pay323, k0_pay324, k0_pay325, k0_pay327, k0_pay328, k0_pay329, k0_pay330, k0_pay332, trip_k0_t1.sl.r_156, trip_k0_t1.sl.r_157, trip_k0_t1.sl.r_158, trip_k0_t1.sl.r_160, trip_k0_t1.sl.r_161, trip_k0_t1.sl.r_162, trip_k0_t1.sl.r_164, trip_k0_t1.sl.r_165, trip_k0_t1.sl.r_167, trip_k0_t1.sl.r_168, trip_k0_t1.sl.r_170, trip_k0_t1.sl.r_171, trip_k0_t1.sl.r_172, trip_k0_t1.sl.r_174, trip_k0_t1.sl.r_175, trip_k0_t1.sl.cst_226]

theorem cn_0_13 : trip_k0_t1.sl.v2180 arg2 arg9 X2 X9 k = cnTile (wTile arg2 X2 (k0_off47 k 0#32) (k0_off47_inb k 0)) (k0_pay7 (rTile arg9 X9 (k0_off48 k) (k0_off48_inb k))) := by
  dsimp only [cnTile, codeV, spreadB, wTile, rTile, k0_pay7, k0_pay18, k0_pay19, k0_pay20, k0_pay21, k0_pay22, k0_pay23, k0_pay24, k0_pay26, k0_pay336, k0_pay337, k0_pay339, k0_pay340, k0_pay341, k0_pay342, k0_pay343, k0_pay344, k0_pay345, k0_pay346, k0_pay348, k0_pay349, k0_pay350, k0_pay351, k0_pay352, k0_pay353, k0_pay354, k0_pay355, k0_pay356, k0_pay358, trip_k0_t1.sl.r_178, trip_k0_t1.sl.r_179, trip_k0_t1.sl.r_181, trip_k0_t1.sl.r_182, trip_k0_t1.sl.r_183, trip_k0_t1.sl.r_184, trip_k0_t1.sl.r_186, trip_k0_t1.sl.r_187, trip_k0_t1.sl.r_188, trip_k0_t1.sl.r_189, trip_k0_t1.sl.r_190, trip_k0_t1.sl.r_192, trip_k0_t1.sl.cst_226, trip_k0_t1.sl.cst_284, trip_k0_t1.sl.v2180]

theorem cn_0_14 : k0_pay386 (trip_k0_t1.sl.r_199 arg2 arg9 X2 X9 k) (trip_k0_t1.sl.r_201 arg2 arg9 X2 X9 k) (trip_k0_t1.sl.r_202 arg2 arg9 X2 X9 k) = cnTile (wTile arg2 X2 (k0_off51 k 0#32) (k0_off51_inb k 0)) (k0_pay7 (rTile arg9 X9 (k0_off52 k) (k0_off52_inb k))) := by
  dsimp only [cnTile, codeV, spreadB, wTile, rTile, k0_pay7, k0_pay18, k0_pay19, k0_pay20, k0_pay21, k0_pay22, k0_pay23, k0_pay24, k0_pay26, k0_pay368, k0_pay369, k0_pay370, k0_pay371, k0_pay373, k0_pay374, k0_pay376, k0_pay377, k0_pay378, k0_pay379, k0_pay380, k0_pay382, k0_pay383, k0_pay384, k0_pay386, trip_k0_t1.sl.r_196, trip_k0_t1.sl.r_197, trip_k0_t1.sl.r_199, trip_k0_t1.sl.r_201, trip_k0_t1.sl.r_202, trip_k0_t1.sl.v2203_hi, trip_k0_t1.sl.v2203_lo, trip_k0_t1.sl.v2208, trip_k0_t1.sl.v2209, trip_k0_t1.sl.v2210, trip_k0_t1.sl.v2211, trip_k0_t1.sl.v2212, trip_k0_t1.sl.v2213, trip_k0_t1.sl.v2214, trip_k0_t1.sl.v2215, trip_k0_t1.sl.v2216, trip_k0_t1.sl.v2217, trip_k0_t1.sl.v2218, trip_k0_t1.sl.v2219, trip_k0_t1.sl.v2220]

theorem cn_0_15 : k0_pay410 (trip_k0_t1.sl.r_216 arg2 arg9 X2 X9 k) (trip_k0_t1.sl.r_217 arg2 arg9 X2 X9 k) (trip_k0_t1.sl.r_218 arg2 arg9 X2 X9 k) (trip_k0_t1.sl.r_219 arg2 arg9 X2 X9 k) = cnTile (wTile arg2 X2 (k0_off54 k 0#32) (k0_off54_inb k 0)) (k0_pay7 (rTile arg9 X9 (k0_off55 k) (k0_off55_inb k))) := by
  dsimp only [cnTile, codeV, spreadB, wTile, rTile, k0_pay7, k0_pay18, k0_pay19, k0_pay20, k0_pay21, k0_pay22, k0_pay23, k0_pay24, k0_pay26, k0_pay388, k0_pay389, k0_pay390, k0_pay391, k0_pay393, k0_pay394, k0_pay395, k0_pay396, k0_pay398, k0_pay399, k0_pay401, k0_pay402, k0_pay403, k0_pay404, k0_pay405, k0_pay407, k0_pay408, k0_pay410, trip_k0_t1.sl.r_204, trip_k0_t1.sl.r_205, trip_k0_t1.sl.r_206, trip_k0_t1.sl.r_208, trip_k0_t1.sl.r_209, trip_k0_t1.sl.r_211, trip_k0_t1.sl.r_212, trip_k0_t1.sl.r_214, trip_k0_t1.sl.r_216, trip_k0_t1.sl.r_217, trip_k0_t1.sl.r_218, trip_k0_t1.sl.r_219]

theorem cn_1_0 : k0_pay440 (trip_k0_t1.sl.r_226 arg2 arg9 X2 X9 k) (trip_k0_t1.sl.r_227 arg2 arg9 X2 X9 k) (trip_k0_t1.sl.r_228 arg2 arg9 X2 X9 k) 8#32 = cnTile (wTile arg2 X2 (k0_off2 k 64#32) (k0_off2_inb k 1)) (spreadB (rTile arg9 X9 (k0_off3 k) (k0_off3_inb k))) := by
  dsimp only [cnTile, codeV, spreadB, wTile, rTile, k0_pay7, k0_pay18, k0_pay19, k0_pay20, k0_pay21, k0_pay22, k0_pay23, k0_pay24, k0_pay26, k0_pay422, k0_pay423, k0_pay424, k0_pay425, k0_pay426, k0_pay427, k0_pay429, k0_pay430, k0_pay431, k0_pay432, k0_pay433, k0_pay434, k0_pay435, k0_pay436, k0_pay438, k0_pay440, trip_k0_t1.sl.r_223, trip_k0_t1.sl.r_224, trip_k0_t1.sl.r_226, trip_k0_t1.sl.r_227, trip_k0_t1.sl.r_228, trip_k0_t1.sl.v2514_hi, trip_k0_t1.sl.v2514_lo, trip_k0_t1.sl.v2519, trip_k0_t1.sl.v2520, trip_k0_t1.sl.v2521, trip_k0_t1.sl.v2522, trip_k0_t1.sl.v2523, trip_k0_t1.sl.v2524, trip_k0_t1.sl.v2525, trip_k0_t1.sl.v2526, trip_k0_t1.sl.v2527, trip_k0_t1.sl.v2528, trip_k0_t1.sl.v2529, trip_k0_t1.sl.v2530, trip_k0_t1.sl.v2531]

theorem cn_1_1 : k0_pay469 (trip_k0_t1.sl.r_245 arg2 arg9 X2 X9 k) (trip_k0_t1.sl.r_246 arg2 arg9 X2 X9 k) (trip_k0_t1.sl.r_247 arg2 arg9 X2 X9 k) (trip_k0_t1.sl.r_249 arg2 arg9 X2 X9 k) (trip_k0_t1.sl.r_250 arg2 arg9 X2 X9 k) trip_k0_t1.sl.cst_226 = cnTile (wTile arg2 X2 (k0_off5 k 64#32) (k0_off5_inb k 1)) (spreadB (rTile arg9 X9 (k0_off6 k) (k0_off6_inb k))) := by
  dsimp only [cnTile, codeV, spreadB, wTile, rTile, k0_pay7, k0_pay18, k0_pay19, k0_pay20, k0_pay21, k0_pay22, k0_pay23, k0_pay24, k0_pay26, k0_pay442, k0_pay443, k0_pay444, k0_pay445, k0_pay446, k0_pay448, k0_pay449, k0_pay450, k0_pay451, k0_pay453, k0_pay454, k0_pay455, k0_pay456, k0_pay458, k0_pay459, k0_pay460, k0_pay461, k0_pay462, k0_pay464, k0_pay465, k0_pay466, k0_pay467, k0_pay469, trip_k0_t1.sl.cst_226, trip_k0_t1.sl.r_231, trip_k0_t1.sl.r_232, trip_k0_t1.sl.r_233, trip_k0_t1.sl.r_235, trip_k0_t1.sl.r_236, trip_k0_t1.sl.r_237, trip_k0_t1.sl.r_239, trip_k0_t1.sl.r_240, trip_k0_t1.sl.r_242, trip_k0_t1.sl.r_243, trip_k0_t1.sl.r_245, trip_k0_t1.sl.r_246, trip_k0_t1.sl.r_247, trip_k0_t1.sl.r_249, trip_k0_t1.sl.r_250]

theorem cn_1_2 : trip_k0_t1.sl.v2951 arg2 arg9 X2 X9 k = cnTile (wTile arg2 X2 (k0_off9 k 64#32) (k0_off9_inb k 1)) (spreadB (rTile arg9 X9 (k0_off10 k) (k0_off10_inb k))) := by
  dsimp only [cnTile, codeV, spreadB, wTile, rTile, k0_pay7, k0_pay18, k0_pay19, k0_pay20, k0_pay21, k0_pay22, k0_pay23, k0_pay24, k0_pay26, k0_pay473, k0_pay474, k0_pay476, k0_pay477, k0_pay478, k0_pay479, k0_pay480, k0_pay481, k0_pay483, k0_pay484, k0_pay485, k0_pay486, k0_pay487, k0_pay488, k0_pay489, k0_pay490, k0_pay492, trip_k0_t1.sl.r_252, trip_k0_t1.sl.r_253, trip_k0_t1.sl.r_255, trip_k0_t1.sl.r_256, trip_k0_t1.sl.r_257, trip_k0_t1.sl.r_259, trip_k0_t1.sl.r_260, trip_k0_t1.sl.r_261, trip_k0_t1.sl.r_263, trip_k0_t1.sl.v2946, trip_k0_t1.sl.v2947, trip_k0_t1.sl.v2951]

theorem cn_1_3 : k0_pay521 (trip_k0_t1.sl.r_270 arg2 arg9 X2 X9 k) (trip_k0_t1.sl.r_272 arg2 arg9 X2 X9 k) (trip_k0_t1.sl.r_273 arg2 arg9 X2 X9 k) = cnTile (wTile arg2 X2 (k0_off12 k 64#32) (k0_off12_inb k 1)) (spreadB (rTile arg9 X9 (k0_off13 k) (k0_off13_inb k))) := by
  dsimp only [cnTile, codeV, spreadB, wTile, rTile, k0_pay7, k0_pay18, k0_pay19, k0_pay20, k0_pay21, k0_pay22, k0_pay23, k0_pay24, k0_pay26, k0_pay502, k0_pay503, k0_pay504, k0_pay505, k0_pay507, k0_pay508, k0_pay511, k0_pay512, k0_pay513, k0_pay514, k0_pay515, k0_pay517, k0_pay518, k0_pay519, k0_pay521, trip_k0_t1.sl.r_267, trip_k0_t1.sl.r_268, trip_k0_t1.sl.r_270, trip_k0_t1.sl.r_272, trip_k0_t1.sl.r_273, trip_k0_t1.sl.v2969_hi, trip_k0_t1.sl.v2969_lo, trip_k0_t1.sl.v2974, trip_k0_t1.sl.v2975, trip_k0_t1.sl.v2976, trip_k0_t1.sl.v2977, trip_k0_t1.sl.v2978, trip_k0_t1.sl.v2979, trip_k0_t1.sl.v2980, trip_k0_t1.sl.v2981, trip_k0_t1.sl.v2982, trip_k0_t1.sl.v2983, trip_k0_t1.sl.v2984, trip_k0_t1.sl.v2985, trip_k0_t1.sl.v2986]

theorem cn_1_4 : k0_pay543 (trip_k0_t1.sl.r_283 arg2 arg9 X2 X9 k) (trip_k0_t1.sl.r_284 arg2 arg9 X2 X9 k) (trip_k0_t1.sl.r_285 arg2 arg9 X2 X9 k) (trip_k0_t1.sl.r_287 arg2 arg9 X2 X9 k) = cnTile (wTile arg2 X2 (k0_off16 k 64#32) (k0_off16_inb k 1)) (spreadB (rTile arg9 X9 (k0_off17 k) (k0_off17_inb k))) := by
  dsimp only [cnTile, codeV, spreadB, wTile, rTile, k0_pay7, k0_pay18, k0_pay19, k0_pay20, k0_pay21, k0_pay22, k0_pay23, k0_pay24, k0_pay26, k0_pay523, k0_pay524, k0_pay525, k0_pay527, k0_pay528, k0_pay529, k0_pay530, k0_pay531, k0_pay532, k0_pay534, k0_pay535, k0_pay536, k0_pay537, k0_pay538, k0_pay539, k0_pay540, k0_pay541, k0_pay543, trip_k0_t1.sl.r_274, trip_k0_t1.sl.r_275, trip_k0_t1.sl.r_276, trip_k0_t1.sl.r_278, trip_k0_t1.sl.r_279, trip_k0_t1.sl.r_281, trip_k0_t1.sl.r_283, trip_k0_t1.sl.r_284, trip_k0_t1.sl.r_285, trip_k0_t1.sl.r_287]

theorem cn_1_5 : trip_k0_t1.sl.v3406 arg2 arg9 X2 X9 k = cnTile (wTile arg2 X2 (k0_off19 k 64#32) (k0_off19_inb k 1)) (spreadB (rTile arg9 X9 (k0_off20 k) (k0_off20_inb k))) := by
  dsimp only [cnTile, codeV, spreadB, wTile, rTile, k0_pay7, k0_pay18, k0_pay19, k0_pay20, k0_pay21, k0_pay22, k0_pay23, k0_pay24, k0_pay26, k0_pay547, k0_pay548, k0_pay550, k0_pay551, k0_pay552, k0_pay553, k0_pay554, k0_pay556, k0_pay557, k0_pay558, k0_pay559, k0_pay560, k0_pay561, k0_pay562, k0_pay563, k0_pay564, trip_k0_t1.sl.v193, trip_k0_t1.sl.r_291, trip_k0_t1.sl.r_292, trip_k0_t1.sl.r_294, trip_k0_t1.sl.r_296, trip_k0_t1.sl.r_297, trip_k0_t1.sl.r_298, trip_k0_t1.sl.v3400, trip_k0_t1.sl.v3401, trip_k0_t1.sl.v3402, trip_k0_t1.sl.v3406]

theorem cn_1_6 : k0_pay599 (trip_k0_t1.sl.r_308 arg2 arg9 X2 X9 k) (trip_k0_t1.sl.r_309 arg2 arg9 X2 X9 k) (trip_k0_t1.sl.r_311 arg2 arg9 X2 X9 k) (trip_k0_t1.sl.r_312 arg2 arg9 X2 X9 k) (trip_k0_t1.sl.r_313 arg2 arg9 X2 X9 k) 2#32 4#32 = cnTile (wTile arg2 X2 (k0_off23 k 64#32) (k0_off23_inb k 1)) (spreadB (rTile arg9 X9 (k0_off24 k) (k0_off24_inb k))) := by
  dsimp only [cnTile, codeV, spreadB, wTile, rTile, k0_pay7, k0_pay18, k0_pay19, k0_pay20, k0_pay21, k0_pay22, k0_pay23, k0_pay24, k0_pay26, k0_pay574, k0_pay576, k0_pay577, k0_pay578, k0_pay579, k0_pay581, k0_pay582, k0_pay583, k0_pay584, k0_pay585, k0_pay587, k0_pay588, k0_pay589, k0_pay590, k0_pay591, k0_pay593, k0_pay594, k0_pay595, k0_pay596, k0_pay597, k0_pay599, trip_k0_t1.sl.r_300, trip_k0_t1.sl.r_302, trip_k0_t1.sl.r_304, trip_k0_t1.sl.r_305, trip_k0_t1.sl.r_306, trip_k0_t1.sl.r_308, trip_k0_t1.sl.r_309, trip_k0_t1.sl.r_311, trip_k0_t1.sl.r_312, trip_k0_t1.sl.r_313, trip_k0_t1.sl.v3429_hi, trip_k0_t1.sl.v3429_lo, trip_k0_t1.sl.v3434, trip_k0_t1.sl.v3435, trip_k0_t1.sl.v3436, trip_k0_t1.sl.v3437, trip_k0_t1.sl.v3438, trip_k0_t1.sl.v3439, trip_k0_t1.sl.v3440, trip_k0_t1.sl.v3441, trip_k0_t1.sl.v3442, trip_k0_t1.sl.v3443]

theorem cn_1_7 : k0_pay621 (trip_k0_t1.sl.r_322 arg2 arg9 X2 X9 k) (trip_k0_t1.sl.r_323 arg2 arg9 X2 X9 k) (trip_k0_t1.sl.r_324 arg2 arg9 X2 X9 k) (trip_k0_t1.sl.r_325 arg2 arg9 X2 X9 k) (trip_k0_t1.sl.r_326 arg2 arg9 X2 X9 k) k0_pay615 = cnTile (wTile arg2 X2 (k0_off26 k 64#32) (k0_off26_inb k 1)) (spreadB (rTile arg9 X9 (k0_off27 k) (k0_off27_inb k))) := by
  dsimp only [cnTile, codeV, spreadB, wTile, rTile, k0_pay7, k0_pay18, k0_pay19, k0_pay20, k0_pay21, k0_pay22, k0_pay23, k0_pay24, k0_pay26, k0_pay601, k0_pay602, k0_pay604, k0_pay605, k0_pay606, k0_pay607, k0_pay608, k0_pay610, k0_pay611, k0_pay612, k0_pay613, k0_pay614, k0_pay615, k0_pay616, k0_pay617, k0_pay618, k0_pay619, k0_pay621, trip_k0_t1.sl.r_315, trip_k0_t1.sl.r_316, trip_k0_t1.sl.r_318, trip_k0_t1.sl.r_319, trip_k0_t1.sl.r_320, trip_k0_t1.sl.r_322, trip_k0_t1.sl.r_323, trip_k0_t1.sl.r_324, trip_k0_t1.sl.r_325, trip_k0_t1.sl.r_326]

theorem cn_1_8 : k0_pay650 (trip_k0_t1.sl.r_332 arg2 arg9 X2 X9 k) (trip_k0_t1.sl.r_333 arg2 arg9 X2 X9 k) (trip_k0_t1.sl.r_334 arg2 arg9 X2 X9 k) 8#32 = cnTile (wTile arg2 X2 (k0_off30 k 64#32) (k0_off30_inb k 1)) (spreadB (rTile arg9 X9 (k0_off31 k) (k0_off31_inb k))) := by
  dsimp only [cnTile, codeV, spreadB, wTile, rTile, k0_pay7, k0_pay18, k0_pay19, k0_pay20, k0_pay21, k0_pay22, k0_pay23, k0_pay24, k0_pay26, k0_pay632, k0_pay633, k0_pay634, k0_pay635, k0_pay636, k0_pay637, k0_pay639, k0_pay640, k0_pay641, k0_pay642, k0_pay643, k0_pay644, k0_pay645, k0_pay646, k0_pay648, k0_pay650, trip_k0_t1.sl.r_329, trip_k0_t1.sl.r_330, trip_k0_t1.sl.r_332, trip_k0_t1.sl.r_333, trip_k0_t1.sl.r_334, trip_k0_t1.sl.v3734_hi, trip_k0_t1.sl.v3734_lo, trip_k0_t1.sl.v3739, trip_k0_t1.sl.v3740, trip_k0_t1.sl.v3741, trip_k0_t1.sl.v3742, trip_k0_t1.sl.v3743, trip_k0_t1.sl.v3744, trip_k0_t1.sl.v3745, trip_k0_t1.sl.v3746, trip_k0_t1.sl.v3747, trip_k0_t1.sl.v3748, trip_k0_t1.sl.v3749, trip_k0_t1.sl.v3750, trip_k0_t1.sl.v3751]

theorem cn_1_9 : k0_pay679 (trip_k0_t1.sl.r_351 arg2 arg9 X2 X9 k) (trip_k0_t1.sl.r_352 arg2 arg9 X2 X9 k) (trip_k0_t1.sl.r_353 arg2 arg9 X2 X9 k) (trip_k0_t1.sl.r_355 arg2 arg9 X2 X9 k) (trip_k0_t1.sl.r_356 arg2 arg9 X2 X9 k) trip_k0_t1.sl.cst_226 = cnTile (wTile arg2 X2 (k0_off33 k 64#32) (k0_off33_inb k 1)) (spreadB (rTile arg9 X9 (k0_off34 k) (k0_off34_inb k))) := by
  dsimp only [cnTile, codeV, spreadB, wTile, rTile, k0_pay7, k0_pay18, k0_pay19, k0_pay20, k0_pay21, k0_pay22, k0_pay23, k0_pay24, k0_pay26, k0_pay652, k0_pay653, k0_pay654, k0_pay655, k0_pay656, k0_pay658, k0_pay659, k0_pay660, k0_pay661, k0_pay663, k0_pay664, k0_pay665, k0_pay666, k0_pay668, k0_pay669, k0_pay670, k0_pay671, k0_pay672, k0_pay674, k0_pay675, k0_pay676, k0_pay677, k0_pay679, trip_k0_t1.sl.cst_226, trip_k0_t1.sl.r_337, trip_k0_t1.sl.r_338, trip_k0_t1.sl.r_339, trip_k0_t1.sl.r_341, trip_k0_t1.sl.r_342, trip_k0_t1.sl.r_343, trip_k0_t1.sl.r_345, trip_k0_t1.sl.r_346, trip_k0_t1.sl.r_348, trip_k0_t1.sl.r_349, trip_k0_t1.sl.r_351, trip_k0_t1.sl.r_352, trip_k0_t1.sl.r_353, trip_k0_t1.sl.r_355, trip_k0_t1.sl.r_356]

theorem cn_1_10 : trip_k0_t1.sl.v4171 arg2 arg9 X2 X9 k = cnTile (wTile arg2 X2 (k0_off37 k 64#32) (k0_off37_inb k 1)) (spreadB (rTile arg9 X9 (k0_off38 k) (k0_off38_inb k))) := by
  dsimp only [cnTile, codeV, spreadB, wTile, rTile, k0_pay7, k0_pay18, k0_pay19, k0_pay20, k0_pay21, k0_pay22, k0_pay23, k0_pay24, k0_pay26, k0_pay683, k0_pay684, k0_pay686, k0_pay687, k0_pay688, k0_pay689, k0_pay690, k0_pay691, k0_pay693, k0_pay694, k0_pay695, k0_pay696, k0_pay697, k0_pay698, k0_pay699, k0_pay700, k0_pay702, trip_k0_t1.sl.r_358, trip_k0_t1.sl.r_359, trip_k0_t1.sl.r_361, trip_k0_t1.sl.r_362, trip_k0_t1.sl.r_363, trip_k0_t1.sl.r_365, trip_k0_t1.sl.r_366, trip_k0_t1.sl.r_367, trip_k0_t1.sl.r_369, trip_k0_t1.sl.v4166, trip_k0_t1.sl.v4167, trip_k0_t1.sl.v4171]

theorem cn_1_11 : k0_pay731 (trip_k0_t1.sl.r_376 arg2 arg9 X2 X9 k) (trip_k0_t1.sl.r_378 arg2 arg9 X2 X9 k) (trip_k0_t1.sl.r_379 arg2 arg9 X2 X9 k) = cnTile (wTile arg2 X2 (k0_off40 k 64#32) (k0_off40_inb k 1)) (spreadB (rTile arg9 X9 (k0_off41 k) (k0_off41_inb k))) := by
  dsimp only [cnTile, codeV, spreadB, wTile, rTile, k0_pay7, k0_pay18, k0_pay19, k0_pay20, k0_pay21, k0_pay22, k0_pay23, k0_pay24, k0_pay26, k0_pay712, k0_pay713, k0_pay714, k0_pay715, k0_pay717, k0_pay718, k0_pay721, k0_pay722, k0_pay723, k0_pay724, k0_pay725, k0_pay727, k0_pay728, k0_pay729, k0_pay731, trip_k0_t1.sl.r_373, trip_k0_t1.sl.r_374, trip_k0_t1.sl.r_376, trip_k0_t1.sl.r_378, trip_k0_t1.sl.r_379, trip_k0_t1.sl.v4189_hi, trip_k0_t1.sl.v4189_lo, trip_k0_t1.sl.v4194, trip_k0_t1.sl.v4195, trip_k0_t1.sl.v4196, trip_k0_t1.sl.v4197, trip_k0_t1.sl.v4198, trip_k0_t1.sl.v4199, trip_k0_t1.sl.v4200, trip_k0_t1.sl.v4201, trip_k0_t1.sl.v4202, trip_k0_t1.sl.v4203, trip_k0_t1.sl.v4204, trip_k0_t1.sl.v4205, trip_k0_t1.sl.v4206]

theorem cn_1_12 : k0_pay753 (trip_k0_t1.sl.r_389 arg2 arg9 X2 X9 k) (trip_k0_t1.sl.r_390 arg2 arg9 X2 X9 k) (trip_k0_t1.sl.r_391 arg2 arg9 X2 X9 k) (trip_k0_t1.sl.r_393 arg2 arg9 X2 X9 k) = cnTile (wTile arg2 X2 (k0_off44 k 64#32) (k0_off44_inb k 1)) (spreadB (rTile arg9 X9 (k0_off45 k) (k0_off45_inb k))) := by
  dsimp only [cnTile, codeV, spreadB, wTile, rTile, k0_pay7, k0_pay18, k0_pay19, k0_pay20, k0_pay21, k0_pay22, k0_pay23, k0_pay24, k0_pay26, k0_pay733, k0_pay734, k0_pay735, k0_pay737, k0_pay738, k0_pay739, k0_pay740, k0_pay741, k0_pay742, k0_pay744, k0_pay745, k0_pay746, k0_pay747, k0_pay748, k0_pay749, k0_pay750, k0_pay751, k0_pay753, trip_k0_t1.sl.r_380, trip_k0_t1.sl.r_381, trip_k0_t1.sl.r_382, trip_k0_t1.sl.r_384, trip_k0_t1.sl.r_385, trip_k0_t1.sl.r_387, trip_k0_t1.sl.r_389, trip_k0_t1.sl.r_390, trip_k0_t1.sl.r_391, trip_k0_t1.sl.r_393]

theorem cn_1_13 : trip_k0_t1.sl.v4626 arg2 arg9 X2 X9 k = cnTile (wTile arg2 X2 (k0_off47 k 64#32) (k0_off47_inb k 1)) (spreadB (rTile arg9 X9 (k0_off48 k) (k0_off48_inb k))) := by
  dsimp only [cnTile, codeV, spreadB, wTile, rTile, k0_pay7, k0_pay18, k0_pay19, k0_pay20, k0_pay21, k0_pay22, k0_pay23, k0_pay24, k0_pay26, k0_pay757, k0_pay758, k0_pay760, k0_pay761, k0_pay762, k0_pay763, k0_pay764, k0_pay766, k0_pay767, k0_pay768, k0_pay769, k0_pay770, k0_pay771, k0_pay772, k0_pay773, k0_pay774, trip_k0_t1.sl.v193, trip_k0_t1.sl.r_397, trip_k0_t1.sl.r_398, trip_k0_t1.sl.r_400, trip_k0_t1.sl.r_402, trip_k0_t1.sl.r_403, trip_k0_t1.sl.r_404, trip_k0_t1.sl.v4620, trip_k0_t1.sl.v4621, trip_k0_t1.sl.v4622, trip_k0_t1.sl.v4626]

theorem cn_1_14 : k0_pay809 (trip_k0_t1.sl.r_414 arg2 arg9 X2 X9 k) (trip_k0_t1.sl.r_415 arg2 arg9 X2 X9 k) (trip_k0_t1.sl.r_417 arg2 arg9 X2 X9 k) (trip_k0_t1.sl.r_418 arg2 arg9 X2 X9 k) (trip_k0_t1.sl.r_419 arg2 arg9 X2 X9 k) 2#32 4#32 = cnTile (wTile arg2 X2 (k0_off51 k 64#32) (k0_off51_inb k 1)) (spreadB (rTile arg9 X9 (k0_off52 k) (k0_off52_inb k))) := by
  dsimp only [cnTile, codeV, spreadB, wTile, rTile, k0_pay7, k0_pay18, k0_pay19, k0_pay20, k0_pay21, k0_pay22, k0_pay23, k0_pay24, k0_pay26, k0_pay784, k0_pay786, k0_pay787, k0_pay788, k0_pay789, k0_pay791, k0_pay792, k0_pay793, k0_pay794, k0_pay795, k0_pay797, k0_pay798, k0_pay799, k0_pay800, k0_pay801, k0_pay803, k0_pay804, k0_pay805, k0_pay806, k0_pay807, k0_pay809, trip_k0_t1.sl.r_406, trip_k0_t1.sl.r_408, trip_k0_t1.sl.r_410, trip_k0_t1.sl.r_411, trip_k0_t1.sl.r_412, trip_k0_t1.sl.r_414, trip_k0_t1.sl.r_415, trip_k0_t1.sl.r_417, trip_k0_t1.sl.r_418, trip_k0_t1.sl.r_419, trip_k0_t1.sl.v4649_hi, trip_k0_t1.sl.v4649_lo, trip_k0_t1.sl.v4654, trip_k0_t1.sl.v4655, trip_k0_t1.sl.v4656, trip_k0_t1.sl.v4657, trip_k0_t1.sl.v4658, trip_k0_t1.sl.v4659, trip_k0_t1.sl.v4660, trip_k0_t1.sl.v4661, trip_k0_t1.sl.v4662, trip_k0_t1.sl.v4663]

theorem cn_1_15 : k0_pay831 (trip_k0_t1.sl.r_428 arg2 arg9 X2 X9 k) (trip_k0_t1.sl.r_429 arg2 arg9 X2 X9 k) (trip_k0_t1.sl.r_430 arg2 arg9 X2 X9 k) (trip_k0_t1.sl.r_431 arg2 arg9 X2 X9 k) (trip_k0_t1.sl.r_432 arg2 arg9 X2 X9 k) k0_pay825 = cnTile (wTile arg2 X2 (k0_off54 k 64#32) (k0_off54_inb k 1)) (spreadB (rTile arg9 X9 (k0_off55 k) (k0_off55_inb k))) := by
  dsimp only [cnTile, codeV, spreadB, wTile, rTile, k0_pay7, k0_pay18, k0_pay19, k0_pay20, k0_pay21, k0_pay22, k0_pay23, k0_pay24, k0_pay26, k0_pay811, k0_pay812, k0_pay814, k0_pay815, k0_pay816, k0_pay817, k0_pay818, k0_pay820, k0_pay821, k0_pay822, k0_pay823, k0_pay824, k0_pay825, k0_pay826, k0_pay827, k0_pay828, k0_pay829, k0_pay831, trip_k0_t1.sl.r_421, trip_k0_t1.sl.r_422, trip_k0_t1.sl.r_424, trip_k0_t1.sl.r_425, trip_k0_t1.sl.r_426, trip_k0_t1.sl.r_428, trip_k0_t1.sl.r_429, trip_k0_t1.sl.r_430, trip_k0_t1.sl.r_431, trip_k0_t1.sl.r_432]

theorem ck_0_0 : k0_pay53 k0_pay2 k0_pay3 (trip_k0_t1.sl.v215 arg2 arg9 X2 X9 k) (trip_k0_t1.sl.r_15 arg2 arg9 X2 X9 k) (trip_k0_t1.sl.r_16 arg2 arg9 X2 X9 k) (trip_k0_t1.sl.r_18 arg2 arg9 X2 X9 k) (trip_k0_t1.sl.r_19 arg2 arg9 X2 X9 k) = ckTile (wTile arg2 X2 (k0_off2 k 0#32) (k0_off2_inb k 0)) (k0_pay7 (rTile arg9 X9 (k0_off3 k) (k0_off3_inb k))) (wTile arg2 X2 (k0_off5 k 0#32) (k0_off5_inb k 0)) (k0_pay7 (rTile arg9 X9 (k0_off6 k) (k0_off6_inb k))) := by
  dsimp only [ckTile, ckWord, codeV, spreadB, wTile, rTile, k0_pay2, k0_pay3, k0_pay6, k0_pay7, k0_pay9, k0_pay10, k0_pay11, k0_pay12, k0_pay13, k0_pay14, k0_pay15, k0_pay17, k0_pay18, k0_pay19, k0_pay20, k0_pay21, k0_pay22, k0_pay23, k0_pay24, k0_pay26, k0_pay27, k0_pay33, k0_pay34, k0_pay35, k0_pay36, k0_pay38, k0_pay39, k0_pay41, k0_pay42, k0_pay43, k0_pay44, k0_pay45, k0_pay47, k0_pay48, k0_pay49, k0_pay50, k0_pay53, trip_k0_t1.sl.r, trip_k0_t1.sl.r_1, trip_k0_t1.sl.r_3, trip_k0_t1.sl.r_5, trip_k0_t1.sl.r_6, trip_k0_t1.sl.r_7, trip_k0_t1.sl.r_11, trip_k0_t1.sl.r_13, trip_k0_t1.sl.r_15, trip_k0_t1.sl.r_16, trip_k0_t1.sl.r_18, trip_k0_t1.sl.r_19, trip_k0_t1.sl.cst_49, trip_k0_t1.sl.v193, trip_k0_t1.sl.v201, trip_k0_t1.sl.v202, trip_k0_t1.sl.v203, trip_k0_t1.sl.v204, trip_k0_t1.sl.v206, trip_k0_t1.sl.v207, trip_k0_t1.sl.v208, trip_k0_t1.sl.v210, trip_k0_t1.sl.v212, trip_k0_t1.sl.v214, trip_k0_t1.sl.v215, trip_k0_t1.sl.v218_hi, trip_k0_t1.sl.v218_lo, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v232, trip_k0_t1.sl.v233, trip_k0_t1.sl.v234, trip_k0_t1.sl.v235]

theorem ck_0_1 : k0_pay101 k0_pay2 k0_pay3 (trip_k0_t1.sl.r_34 arg2 arg9 X2 X9 k) (trip_k0_t1.sl.r_40 arg2 arg9 X2 X9 k) (trip_k0_t1.sl.r_42 arg2 arg9 X2 X9 k) = ckTile (wTile arg2 X2 (k0_off9 k 0#32) (k0_off9_inb k 0)) (k0_pay7 (rTile arg9 X9 (k0_off10 k) (k0_off10_inb k))) (wTile arg2 X2 (k0_off12 k 0#32) (k0_off12_inb k 0)) (k0_pay7 (rTile arg9 X9 (k0_off13 k) (k0_off13_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay54, k0_pay55, k0_pay57, k0_pay58, k0_pay59, k0_pay60, k0_pay61, k0_pay62, k0_pay63, k0_pay64, k0_pay66, k0_pay67, k0_pay68, k0_pay69, k0_pay70, k0_pay71, k0_pay72, k0_pay73, k0_pay74, k0_pay77, k0_pay78, k0_pay79, k0_pay80, k0_pay82, k0_pay83, k0_pay84, k0_pay85, k0_pay86, k0_pay87, k0_pay89, k0_pay90, k0_pay91, k0_pay92, k0_pay93, k0_pay94, k0_pay95, k0_pay96, k0_pay101, trip_k0_t1.sl.r_20, trip_k0_t1.sl.r_21, trip_k0_t1.sl.r_23, trip_k0_t1.sl.r_24, trip_k0_t1.sl.r_25, trip_k0_t1.sl.r_26, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_38, trip_k0_t1.sl.r_40, trip_k0_t1.sl.r_41, trip_k0_t1.sl.r_42, trip_k0_t1.sl.cst_147, trip_k0_t1.sl.cst_169]

theorem ck_0_2 : trip_k0_t1.sl.v978 arg2 arg9 X2 X9 k = ckTile (wTile arg2 X2 (k0_off16 k 0#32) (k0_off16_inb k 0)) (k0_pay7 (rTile arg9 X9 (k0_off17 k) (k0_off17_inb k))) (wTile arg2 X2 (k0_off19 k 0#32) (k0_off19_inb k 0)) (k0_pay7 (rTile arg9 X9 (k0_off20 k) (k0_off20_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay102, k0_pay103, k0_pay104, k0_pay105, k0_pay106, k0_pay108, k0_pay109, k0_pay110, k0_pay111, k0_pay113, k0_pay114, k0_pay115, k0_pay117, k0_pay118, k0_pay119, k0_pay120, k0_pay121, k0_pay123, k0_pay124, k0_pay125, k0_pay126, k0_pay129, k0_pay130, k0_pay131, k0_pay132, k0_pay133, k0_pay135, k0_pay136, k0_pay137, k0_pay138, k0_pay139, k0_pay140, k0_pay141, k0_pay142, k0_pay144, k0_pay145, k0_pay146, k0_pay147, k0_pay148, k0_pay149, k0_pay150, k0_pay151, k0_pay152, trip_k0_t1.sl.r_45, trip_k0_t1.sl.r_46, trip_k0_t1.sl.r_47, trip_k0_t1.sl.r_49, trip_k0_t1.sl.r_50, trip_k0_t1.sl.r_51, trip_k0_t1.sl.r_53, trip_k0_t1.sl.r_54, trip_k0_t1.sl.r_56, trip_k0_t1.sl.r_57, trip_k0_t1.sl.r_59, trip_k0_t1.sl.r_60, trip_k0_t1.sl.r_61, trip_k0_t1.sl.r_63, trip_k0_t1.sl.r_64, trip_k0_t1.sl.r_65, trip_k0_t1.sl.r_66, trip_k0_t1.sl.r_67, trip_k0_t1.sl.r_68, trip_k0_t1.sl.r_70, trip_k0_t1.sl.r_71, trip_k0_t1.sl.r_72, trip_k0_t1.sl.r_73, trip_k0_t1.sl.r_75, trip_k0_t1.sl.r_76, trip_k0_t1.sl.r_77, trip_k0_t1.sl.r_78, trip_k0_t1.sl.r_79, trip_k0_t1.sl.r_80, trip_k0_t1.sl.v193, trip_k0_t1.sl.v201, trip_k0_t1.sl.v208, trip_k0_t1.sl.v210, trip_k0_t1.sl.v212, trip_k0_t1.sl.v214, trip_k0_t1.sl.cst_226, trip_k0_t1.sl.cst_284, trip_k0_t1.sl.v962, trip_k0_t1.sl.v963, trip_k0_t1.sl.v964, trip_k0_t1.sl.v966, trip_k0_t1.sl.v967, trip_k0_t1.sl.v975, trip_k0_t1.sl.v976, trip_k0_t1.sl.v977, trip_k0_t1.sl.v978]

theorem ck_0_3 : k0_pay209 k0_pay2 k0_pay3 (trip_k0_t1.sl.r_92 arg2 arg9 X2 X9 k) (trip_k0_t1.sl.r_110 arg2 arg9 X2 X9 k) (k0_pay208 k0_pay2) = ckTile (wTile arg2 X2 (k0_off23 k 0#32) (k0_off23_inb k 0)) (k0_pay7 (rTile arg9 X9 (k0_off24 k) (k0_off24_inb k))) (wTile arg2 X2 (k0_off26 k 0#32) (k0_off26_inb k 0)) (k0_pay7 (rTile arg9 X9 (k0_off27 k) (k0_off27_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay164, k0_pay165, k0_pay166, k0_pay167, k0_pay169, k0_pay170, k0_pay172, k0_pay173, k0_pay174, k0_pay175, k0_pay176, k0_pay178, k0_pay179, k0_pay180, k0_pay183, k0_pay184, k0_pay185, k0_pay186, k0_pay187, k0_pay189, k0_pay190, k0_pay191, k0_pay192, k0_pay194, k0_pay195, k0_pay197, k0_pay198, k0_pay199, k0_pay200, k0_pay201, k0_pay203, k0_pay204, k0_pay207, k0_pay208, k0_pay209, trip_k0_t1.sl.r_85, trip_k0_t1.sl.r_86, trip_k0_t1.sl.r_88, trip_k0_t1.sl.r_90, trip_k0_t1.sl.r_91, trip_k0_t1.sl.r_92, trip_k0_t1.sl.r_93, trip_k0_t1.sl.r_94, trip_k0_t1.sl.r_95, trip_k0_t1.sl.r_97, trip_k0_t1.sl.r_98, trip_k0_t1.sl.r_100, trip_k0_t1.sl.r_101, trip_k0_t1.sl.r_103, trip_k0_t1.sl.r_105, trip_k0_t1.sl.r_106, trip_k0_t1.sl.r_107, trip_k0_t1.sl.r_108, trip_k0_t1.sl.r_110, trip_k0_t1.sl.v983_hi, trip_k0_t1.sl.v983_lo, trip_k0_t1.sl.v988, trip_k0_t1.sl.v989, trip_k0_t1.sl.v990, trip_k0_t1.sl.v991, trip_k0_t1.sl.v992, trip_k0_t1.sl.v993, trip_k0_t1.sl.v994, trip_k0_t1.sl.v995, trip_k0_t1.sl.v996, trip_k0_t1.sl.v997, trip_k0_t1.sl.v998, trip_k0_t1.sl.v999, trip_k0_t1.sl.v1000]

theorem ck_0_4 : k0_pay257 k0_pay2 k0_pay3 (trip_k0_t1.sl.v1435 arg2 arg9 X2 X9 k) (trip_k0_t1.sl.r_126 arg2 arg9 X2 X9 k) (trip_k0_t1.sl.r_127 arg2 arg9 X2 X9 k) (trip_k0_t1.sl.r_129 arg2 arg9 X2 X9 k) (trip_k0_t1.sl.r_130 arg2 arg9 X2 X9 k) = ckTile (wTile arg2 X2 (k0_off30 k 0#32) (k0_off30_inb k 0)) (k0_pay7 (rTile arg9 X9 (k0_off31 k) (k0_off31_inb k))) (wTile arg2 X2 (k0_off33 k 0#32) (k0_off33_inb k 0)) (k0_pay7 (rTile arg9 X9 (k0_off34 k) (k0_off34_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay210, k0_pay211, k0_pay213, k0_pay214, k0_pay215, k0_pay216, k0_pay217, k0_pay218, k0_pay219, k0_pay221, k0_pay222, k0_pay223, k0_pay224, k0_pay225, k0_pay226, k0_pay227, k0_pay228, k0_pay237, k0_pay238, k0_pay239, k0_pay240, k0_pay242, k0_pay243, k0_pay245, k0_pay246, k0_pay247, k0_pay248, k0_pay249, k0_pay251, k0_pay252, k0_pay253, k0_pay254, k0_pay257, trip_k0_t1.sl.cst_49, trip_k0_t1.sl.r_111, trip_k0_t1.sl.r_112, trip_k0_t1.sl.r_114, trip_k0_t1.sl.r_116, trip_k0_t1.sl.r_117, trip_k0_t1.sl.r_118, trip_k0_t1.sl.r_122, trip_k0_t1.sl.r_124, trip_k0_t1.sl.r_126, trip_k0_t1.sl.r_127, trip_k0_t1.sl.r_129, trip_k0_t1.sl.r_130, trip_k0_t1.sl.v193, trip_k0_t1.sl.v201, trip_k0_t1.sl.v208, trip_k0_t1.sl.v210, trip_k0_t1.sl.v212, trip_k0_t1.sl.v214, trip_k0_t1.sl.v1422, trip_k0_t1.sl.v1423, trip_k0_t1.sl.v1424, trip_k0_t1.sl.v1426, trip_k0_t1.sl.v1427, trip_k0_t1.sl.v1435, trip_k0_t1.sl.v1438_hi, trip_k0_t1.sl.v1438_lo, trip_k0_t1.sl.v1443, trip_k0_t1.sl.v1444, trip_k0_t1.sl.v1445, trip_k0_t1.sl.v1446, trip_k0_t1.sl.v1447, trip_k0_t1.sl.v1448, trip_k0_t1.sl.v1449, trip_k0_t1.sl.v1450, trip_k0_t1.sl.v1451, trip_k0_t1.sl.v1452, trip_k0_t1.sl.v1453, trip_k0_t1.sl.v1454, trip_k0_t1.sl.v1455]

theorem ck_0_5 : k0_pay305 k0_pay2 k0_pay3 (trip_k0_t1.sl.r_145 arg2 arg9 X2 X9 k) (trip_k0_t1.sl.r_151 arg2 arg9 X2 X9 k) (trip_k0_t1.sl.r_153 arg2 arg9 X2 X9 k) = ckTile (wTile arg2 X2 (k0_off37 k 0#32) (k0_off37_inb k 0)) (k0_pay7 (rTile arg9 X9 (k0_off38 k) (k0_off38_inb k))) (wTile arg2 X2 (k0_off40 k 0#32) (k0_off40_inb k 0)) (k0_pay7 (rTile arg9 X9 (k0_off41 k) (k0_off41_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay258, k0_pay259, k0_pay261, k0_pay262, k0_pay263, k0_pay264, k0_pay265, k0_pay266, k0_pay267, k0_pay268, k0_pay270, k0_pay271, k0_pay272, k0_pay273, k0_pay274, k0_pay275, k0_pay276, k0_pay277, k0_pay278, k0_pay281, k0_pay282, k0_pay283, k0_pay284, k0_pay286, k0_pay287, k0_pay288, k0_pay289, k0_pay290, k0_pay291, k0_pay293, k0_pay294, k0_pay295, k0_pay296, k0_pay297, k0_pay298, k0_pay299, k0_pay300, k0_pay305, trip_k0_t1.sl.r_131, trip_k0_t1.sl.r_132, trip_k0_t1.sl.r_134, trip_k0_t1.sl.r_135, trip_k0_t1.sl.r_136, trip_k0_t1.sl.r_137, trip_k0_t1.sl.r_139, trip_k0_t1.sl.r_140, trip_k0_t1.sl.r_141, trip_k0_t1.sl.r_142, trip_k0_t1.sl.r_143, trip_k0_t1.sl.r_144, trip_k0_t1.sl.r_145, trip_k0_t1.sl.r_146, trip_k0_t1.sl.cst_147, trip_k0_t1.sl.r_147, trip_k0_t1.sl.r_149, trip_k0_t1.sl.r_151, trip_k0_t1.sl.r_152, trip_k0_t1.sl.r_153, trip_k0_t1.sl.cst_169]

theorem ck_0_6 : trip_k0_t1.sl.v2198 arg2 arg9 X2 X9 k = ckTile (wTile arg2 X2 (k0_off44 k 0#32) (k0_off44_inb k 0)) (k0_pay7 (rTile arg9 X9 (k0_off45 k) (k0_off45_inb k))) (wTile arg2 X2 (k0_off47 k 0#32) (k0_off47_inb k 0)) (k0_pay7 (rTile arg9 X9 (k0_off48 k) (k0_off48_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay306, k0_pay307, k0_pay308, k0_pay309, k0_pay310, k0_pay312, k0_pay313, k0_pay314, k0_pay315, k0_pay317, k0_pay318, k0_pay319, k0_pay321, k0_pay322, k0_pay323, k0_pay324, k0_pay325, k0_pay327, k0_pay328, k0_pay329, k0_pay330, k0_pay333, k0_pay334, k0_pay335, k0_pay336, k0_pay337, k0_pay339, k0_pay340, k0_pay341, k0_pay342, k0_pay343, k0_pay344, k0_pay345, k0_pay346, k0_pay348, k0_pay349, k0_pay350, k0_pay351, k0_pay352, k0_pay353, k0_pay354, k0_pay355, k0_pay356, trip_k0_t1.sl.r_156, trip_k0_t1.sl.r_157, trip_k0_t1.sl.r_158, trip_k0_t1.sl.r_160, trip_k0_t1.sl.r_161, trip_k0_t1.sl.r_162, trip_k0_t1.sl.r_164, trip_k0_t1.sl.r_165, trip_k0_t1.sl.r_167, trip_k0_t1.sl.r_168, trip_k0_t1.sl.r_170, trip_k0_t1.sl.r_171, trip_k0_t1.sl.r_172, trip_k0_t1.sl.r_174, trip_k0_t1.sl.r_175, trip_k0_t1.sl.r_176, trip_k0_t1.sl.r_177, trip_k0_t1.sl.r_178, trip_k0_t1.sl.r_179, trip_k0_t1.sl.r_181, trip_k0_t1.sl.r_182, trip_k0_t1.sl.r_183, trip_k0_t1.sl.r_184, trip_k0_t1.sl.r_186, trip_k0_t1.sl.r_187, trip_k0_t1.sl.r_188, trip_k0_t1.sl.r_189, trip_k0_t1.sl.r_190, trip_k0_t1.sl.r_191, trip_k0_t1.sl.v193, trip_k0_t1.sl.v201, trip_k0_t1.sl.v208, trip_k0_t1.sl.v210, trip_k0_t1.sl.v212, trip_k0_t1.sl.v214, trip_k0_t1.sl.cst_226, trip_k0_t1.sl.cst_284, trip_k0_t1.sl.v2182, trip_k0_t1.sl.v2183, trip_k0_t1.sl.v2184, trip_k0_t1.sl.v2186, trip_k0_t1.sl.v2187, trip_k0_t1.sl.v2195, trip_k0_t1.sl.v2196, trip_k0_t1.sl.v2197, trip_k0_t1.sl.v2198]

theorem ck_0_7 : trip_k0_t1.sl.v2503 arg2 arg9 X2 X9 k = ckTile (wTile arg2 X2 (k0_off51 k 0#32) (k0_off51_inb k 0)) (k0_pay7 (rTile arg9 X9 (k0_off52 k) (k0_off52_inb k))) (wTile arg2 X2 (k0_off54 k 0#32) (k0_off54_inb k 0)) (k0_pay7 (rTile arg9 X9 (k0_off55 k) (k0_off55_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay368, k0_pay369, k0_pay370, k0_pay371, k0_pay373, k0_pay374, k0_pay376, k0_pay377, k0_pay378, k0_pay379, k0_pay380, k0_pay382, k0_pay383, k0_pay384, k0_pay387, k0_pay388, k0_pay389, k0_pay390, k0_pay391, k0_pay393, k0_pay394, k0_pay395, k0_pay396, k0_pay398, k0_pay399, k0_pay401, k0_pay402, k0_pay403, k0_pay404, k0_pay405, k0_pay407, k0_pay408, k0_pay411, k0_pay412, trip_k0_t1.sl.r_196, trip_k0_t1.sl.r_197, trip_k0_t1.sl.r_199, trip_k0_t1.sl.r_201, trip_k0_t1.sl.r_202, trip_k0_t1.sl.r_203, trip_k0_t1.sl.r_204, trip_k0_t1.sl.r_205, trip_k0_t1.sl.r_206, trip_k0_t1.sl.r_208, trip_k0_t1.sl.r_209, trip_k0_t1.sl.v210, trip_k0_t1.sl.r_211, trip_k0_t1.sl.r_212, trip_k0_t1.sl.r_214, trip_k0_t1.sl.r_216, trip_k0_t1.sl.r_217, trip_k0_t1.sl.r_218, trip_k0_t1.sl.r_219, trip_k0_t1.sl.r_221, trip_k0_t1.sl.v2203_hi, trip_k0_t1.sl.v2203_lo, trip_k0_t1.sl.v2208, trip_k0_t1.sl.v2209, trip_k0_t1.sl.v2210, trip_k0_t1.sl.v2211, trip_k0_t1.sl.v2212, trip_k0_t1.sl.v2213, trip_k0_t1.sl.v2214, trip_k0_t1.sl.v2215, trip_k0_t1.sl.v2216, trip_k0_t1.sl.v2217, trip_k0_t1.sl.v2218, trip_k0_t1.sl.v2219, trip_k0_t1.sl.v2220, trip_k0_t1.sl.v2497, trip_k0_t1.sl.v2499, trip_k0_t1.sl.v2500, trip_k0_t1.sl.v2501, trip_k0_t1.sl.v2502, trip_k0_t1.sl.v2503]

theorem ck_1_0 : k0_pay472 k0_pay3 (trip_k0_t1.sl.r_230 arg2 arg9 X2 X9 k) (trip_k0_t1.sl.r_251 arg2 arg9 X2 X9 k) (k0_pay471 k0_pay2) = ckTile (wTile arg2 X2 (k0_off2 k 64#32) (k0_off2_inb k 1)) (spreadB (rTile arg9 X9 (k0_off3 k) (k0_off3_inb k))) (wTile arg2 X2 (k0_off5 k 64#32) (k0_off5_inb k 1)) (spreadB (rTile arg9 X9 (k0_off6 k) (k0_off6_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay422, k0_pay423, k0_pay424, k0_pay425, k0_pay426, k0_pay427, k0_pay429, k0_pay430, k0_pay431, k0_pay432, k0_pay433, k0_pay434, k0_pay435, k0_pay436, k0_pay438, k0_pay441, k0_pay442, k0_pay443, k0_pay444, k0_pay445, k0_pay446, k0_pay448, k0_pay449, k0_pay450, k0_pay451, k0_pay453, k0_pay454, k0_pay455, k0_pay456, k0_pay458, k0_pay459, k0_pay460, k0_pay461, k0_pay462, k0_pay464, k0_pay465, k0_pay466, k0_pay467, k0_pay470, k0_pay471, k0_pay472, trip_k0_t1.sl.r_223, trip_k0_t1.sl.r_224, trip_k0_t1.sl.cst_226, trip_k0_t1.sl.r_226, trip_k0_t1.sl.r_227, trip_k0_t1.sl.r_228, trip_k0_t1.sl.r_230, trip_k0_t1.sl.r_231, trip_k0_t1.sl.r_232, trip_k0_t1.sl.r_233, trip_k0_t1.sl.r_235, trip_k0_t1.sl.r_236, trip_k0_t1.sl.r_237, trip_k0_t1.sl.r_239, trip_k0_t1.sl.r_240, trip_k0_t1.sl.r_242, trip_k0_t1.sl.r_243, trip_k0_t1.sl.r_245, trip_k0_t1.sl.r_246, trip_k0_t1.sl.r_247, trip_k0_t1.sl.r_249, trip_k0_t1.sl.r_250, trip_k0_t1.sl.r_251, trip_k0_t1.sl.v2514_hi, trip_k0_t1.sl.v2514_lo, trip_k0_t1.sl.v2519, trip_k0_t1.sl.v2520, trip_k0_t1.sl.v2521, trip_k0_t1.sl.v2522, trip_k0_t1.sl.v2523, trip_k0_t1.sl.v2524, trip_k0_t1.sl.v2525, trip_k0_t1.sl.v2526, trip_k0_t1.sl.v2527, trip_k0_t1.sl.v2528, trip_k0_t1.sl.v2529, trip_k0_t1.sl.v2530, trip_k0_t1.sl.v2531]

theorem ck_1_1 : k0_pay522 k0_pay2 k0_pay3 (trip_k0_t1.sl.v2966 arg2 arg9 X2 X9 k) (trip_k0_t1.sl.r_270 arg2 arg9 X2 X9 k) (trip_k0_t1.sl.r_272 arg2 arg9 X2 X9 k) (trip_k0_t1.sl.r_273 arg2 arg9 X2 X9 k) = ckTile (wTile arg2 X2 (k0_off9 k 64#32) (k0_off9_inb k 1)) (spreadB (rTile arg9 X9 (k0_off10 k) (k0_off10_inb k))) (wTile arg2 X2 (k0_off12 k 64#32) (k0_off12_inb k 1)) (spreadB (rTile arg9 X9 (k0_off13 k) (k0_off13_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay473, k0_pay474, k0_pay476, k0_pay477, k0_pay478, k0_pay479, k0_pay480, k0_pay481, k0_pay483, k0_pay484, k0_pay485, k0_pay486, k0_pay487, k0_pay488, k0_pay489, k0_pay490, k0_pay502, k0_pay503, k0_pay504, k0_pay505, k0_pay507, k0_pay508, k0_pay511, k0_pay512, k0_pay513, k0_pay514, k0_pay515, k0_pay517, k0_pay518, k0_pay519, k0_pay522, trip_k0_t1.sl.v193, trip_k0_t1.sl.v201, trip_k0_t1.sl.v208, trip_k0_t1.sl.v210, trip_k0_t1.sl.v212, trip_k0_t1.sl.v214, trip_k0_t1.sl.r_252, trip_k0_t1.sl.r_253, trip_k0_t1.sl.r_255, trip_k0_t1.sl.r_256, trip_k0_t1.sl.r_257, trip_k0_t1.sl.r_259, trip_k0_t1.sl.r_260, trip_k0_t1.sl.r_261, trip_k0_t1.sl.r_262, trip_k0_t1.sl.r_267, trip_k0_t1.sl.r_268, trip_k0_t1.sl.r_270, trip_k0_t1.sl.r_272, trip_k0_t1.sl.r_273, trip_k0_t1.sl.v2953, trip_k0_t1.sl.v2954, trip_k0_t1.sl.v2955, trip_k0_t1.sl.v2957, trip_k0_t1.sl.v2958, trip_k0_t1.sl.v2966, trip_k0_t1.sl.v2969_hi, trip_k0_t1.sl.v2969_lo, trip_k0_t1.sl.v2974, trip_k0_t1.sl.v2975, trip_k0_t1.sl.v2976, trip_k0_t1.sl.v2977, trip_k0_t1.sl.v2978, trip_k0_t1.sl.v2979, trip_k0_t1.sl.v2980, trip_k0_t1.sl.v2981, trip_k0_t1.sl.v2982, trip_k0_t1.sl.v2983, trip_k0_t1.sl.v2984, trip_k0_t1.sl.v2985, trip_k0_t1.sl.v2986]

theorem ck_1_2 : trip_k0_t1.sl.v3424 arg2 arg9 X2 X9 k = ckTile (wTile arg2 X2 (k0_off16 k 64#32) (k0_off16_inb k 1)) (spreadB (rTile arg9 X9 (k0_off17 k) (k0_off17_inb k))) (wTile arg2 X2 (k0_off19 k 64#32) (k0_off19_inb k 1)) (spreadB (rTile arg9 X9 (k0_off20 k) (k0_off20_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay523, k0_pay524, k0_pay525, k0_pay527, k0_pay528, k0_pay529, k0_pay530, k0_pay531, k0_pay532, k0_pay534, k0_pay535, k0_pay536, k0_pay537, k0_pay538, k0_pay539, k0_pay540, k0_pay541, k0_pay544, k0_pay545, k0_pay546, k0_pay547, k0_pay548, k0_pay550, k0_pay551, k0_pay552, k0_pay553, k0_pay554, k0_pay556, k0_pay557, k0_pay558, k0_pay559, k0_pay560, k0_pay561, k0_pay562, k0_pay563, k0_pay564, trip_k0_t1.sl.v193, trip_k0_t1.sl.v201, trip_k0_t1.sl.v208, trip_k0_t1.sl.v210, trip_k0_t1.sl.v212, trip_k0_t1.sl.v214, trip_k0_t1.sl.r_274, trip_k0_t1.sl.r_275, trip_k0_t1.sl.r_276, trip_k0_t1.sl.r_278, trip_k0_t1.sl.r_279, trip_k0_t1.sl.r_281, trip_k0_t1.sl.r_283, trip_k0_t1.sl.r_284, trip_k0_t1.sl.r_285, trip_k0_t1.sl.r_287, trip_k0_t1.sl.r_288, trip_k0_t1.sl.r_289, trip_k0_t1.sl.r_290, trip_k0_t1.sl.r_291, trip_k0_t1.sl.r_292, trip_k0_t1.sl.r_294, trip_k0_t1.sl.r_296, trip_k0_t1.sl.r_297, trip_k0_t1.sl.r_298, trip_k0_t1.sl.v3408, trip_k0_t1.sl.v3409, trip_k0_t1.sl.v3410, trip_k0_t1.sl.v3412, trip_k0_t1.sl.v3413, trip_k0_t1.sl.v3421, trip_k0_t1.sl.v3422, trip_k0_t1.sl.v3423, trip_k0_t1.sl.v3424]

theorem ck_1_3 : trip_k0_t1.sl.v3729 arg2 arg9 X2 X9 k = ckTile (wTile arg2 X2 (k0_off23 k 64#32) (k0_off23_inb k 1)) (spreadB (rTile arg9 X9 (k0_off24 k) (k0_off24_inb k))) (wTile arg2 X2 (k0_off26 k 64#32) (k0_off26_inb k 1)) (spreadB (rTile arg9 X9 (k0_off27 k) (k0_off27_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay574, k0_pay576, k0_pay577, k0_pay578, k0_pay579, k0_pay581, k0_pay582, k0_pay583, k0_pay584, k0_pay585, k0_pay587, k0_pay588, k0_pay589, k0_pay590, k0_pay591, k0_pay593, k0_pay594, k0_pay595, k0_pay596, k0_pay597, k0_pay600, k0_pay601, k0_pay602, k0_pay604, k0_pay605, k0_pay606, k0_pay607, k0_pay608, k0_pay610, k0_pay611, k0_pay612, k0_pay613, k0_pay614, k0_pay615, k0_pay616, k0_pay617, k0_pay618, k0_pay619, k0_pay622, trip_k0_t1.sl.v193, trip_k0_t1.sl.v208, trip_k0_t1.sl.v210, trip_k0_t1.sl.v212, trip_k0_t1.sl.v214, trip_k0_t1.sl.r_300, trip_k0_t1.sl.r_302, trip_k0_t1.sl.r_304, trip_k0_t1.sl.r_305, trip_k0_t1.sl.r_306, trip_k0_t1.sl.r_308, trip_k0_t1.sl.r_309, trip_k0_t1.sl.r_311, trip_k0_t1.sl.r_312, trip_k0_t1.sl.r_313, trip_k0_t1.sl.r_314, trip_k0_t1.sl.r_315, trip_k0_t1.sl.r_316, trip_k0_t1.sl.r_318, trip_k0_t1.sl.r_319, trip_k0_t1.sl.r_320, trip_k0_t1.sl.r_322, trip_k0_t1.sl.r_323, trip_k0_t1.sl.r_324, trip_k0_t1.sl.r_325, trip_k0_t1.sl.r_326, trip_k0_t1.sl.r_327, trip_k0_t1.sl.v3429_hi, trip_k0_t1.sl.v3429_lo, trip_k0_t1.sl.v3434, trip_k0_t1.sl.v3435, trip_k0_t1.sl.v3436, trip_k0_t1.sl.v3437, trip_k0_t1.sl.v3438, trip_k0_t1.sl.v3439, trip_k0_t1.sl.v3440, trip_k0_t1.sl.v3441, trip_k0_t1.sl.v3442, trip_k0_t1.sl.v3443, trip_k0_t1.sl.v3714, trip_k0_t1.sl.v3715, trip_k0_t1.sl.v3717, trip_k0_t1.sl.v3718, trip_k0_t1.sl.v3726, trip_k0_t1.sl.v3727, trip_k0_t1.sl.v3728, trip_k0_t1.sl.v3729]

theorem ck_1_4 : k0_pay682 k0_pay3 (trip_k0_t1.sl.r_336 arg2 arg9 X2 X9 k) (trip_k0_t1.sl.r_357 arg2 arg9 X2 X9 k) (k0_pay681 k0_pay2) = ckTile (wTile arg2 X2 (k0_off30 k 64#32) (k0_off30_inb k 1)) (spreadB (rTile arg9 X9 (k0_off31 k) (k0_off31_inb k))) (wTile arg2 X2 (k0_off33 k 64#32) (k0_off33_inb k 1)) (spreadB (rTile arg9 X9 (k0_off34 k) (k0_off34_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay632, k0_pay633, k0_pay634, k0_pay635, k0_pay636, k0_pay637, k0_pay639, k0_pay640, k0_pay641, k0_pay642, k0_pay643, k0_pay644, k0_pay645, k0_pay646, k0_pay648, k0_pay651, k0_pay652, k0_pay653, k0_pay654, k0_pay655, k0_pay656, k0_pay658, k0_pay659, k0_pay660, k0_pay661, k0_pay663, k0_pay664, k0_pay665, k0_pay666, k0_pay668, k0_pay669, k0_pay670, k0_pay671, k0_pay672, k0_pay674, k0_pay675, k0_pay676, k0_pay677, k0_pay680, k0_pay681, k0_pay682, trip_k0_t1.sl.cst_226, trip_k0_t1.sl.r_329, trip_k0_t1.sl.r_330, trip_k0_t1.sl.r_332, trip_k0_t1.sl.r_333, trip_k0_t1.sl.r_334, trip_k0_t1.sl.r_336, trip_k0_t1.sl.r_337, trip_k0_t1.sl.r_338, trip_k0_t1.sl.r_339, trip_k0_t1.sl.r_341, trip_k0_t1.sl.r_342, trip_k0_t1.sl.r_343, trip_k0_t1.sl.r_345, trip_k0_t1.sl.r_346, trip_k0_t1.sl.r_348, trip_k0_t1.sl.r_349, trip_k0_t1.sl.r_351, trip_k0_t1.sl.r_352, trip_k0_t1.sl.r_353, trip_k0_t1.sl.r_355, trip_k0_t1.sl.r_356, trip_k0_t1.sl.r_357, trip_k0_t1.sl.v3734_hi, trip_k0_t1.sl.v3734_lo, trip_k0_t1.sl.v3739, trip_k0_t1.sl.v3740, trip_k0_t1.sl.v3741, trip_k0_t1.sl.v3742, trip_k0_t1.sl.v3743, trip_k0_t1.sl.v3744, trip_k0_t1.sl.v3745, trip_k0_t1.sl.v3746, trip_k0_t1.sl.v3747, trip_k0_t1.sl.v3748, trip_k0_t1.sl.v3749, trip_k0_t1.sl.v3750, trip_k0_t1.sl.v3751]

theorem ck_1_5 : k0_pay732 k0_pay2 k0_pay3 (trip_k0_t1.sl.v4186 arg2 arg9 X2 X9 k) (trip_k0_t1.sl.r_376 arg2 arg9 X2 X9 k) (trip_k0_t1.sl.r_378 arg2 arg9 X2 X9 k) (trip_k0_t1.sl.r_379 arg2 arg9 X2 X9 k) = ckTile (wTile arg2 X2 (k0_off37 k 64#32) (k0_off37_inb k 1)) (spreadB (rTile arg9 X9 (k0_off38 k) (k0_off38_inb k))) (wTile arg2 X2 (k0_off40 k 64#32) (k0_off40_inb k 1)) (spreadB (rTile arg9 X9 (k0_off41 k) (k0_off41_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay683, k0_pay684, k0_pay686, k0_pay687, k0_pay688, k0_pay689, k0_pay690, k0_pay691, k0_pay693, k0_pay694, k0_pay695, k0_pay696, k0_pay697, k0_pay698, k0_pay699, k0_pay700, k0_pay712, k0_pay713, k0_pay714, k0_pay715, k0_pay717, k0_pay718, k0_pay721, k0_pay722, k0_pay723, k0_pay724, k0_pay725, k0_pay727, k0_pay728, k0_pay729, k0_pay732, trip_k0_t1.sl.v193, trip_k0_t1.sl.v201, trip_k0_t1.sl.v208, trip_k0_t1.sl.v210, trip_k0_t1.sl.v212, trip_k0_t1.sl.v214, trip_k0_t1.sl.r_358, trip_k0_t1.sl.r_359, trip_k0_t1.sl.r_361, trip_k0_t1.sl.r_362, trip_k0_t1.sl.r_363, trip_k0_t1.sl.r_365, trip_k0_t1.sl.r_366, trip_k0_t1.sl.r_367, trip_k0_t1.sl.r_368, trip_k0_t1.sl.r_373, trip_k0_t1.sl.r_374, trip_k0_t1.sl.r_376, trip_k0_t1.sl.r_378, trip_k0_t1.sl.r_379, trip_k0_t1.sl.v4173, trip_k0_t1.sl.v4174, trip_k0_t1.sl.v4175, trip_k0_t1.sl.v4177, trip_k0_t1.sl.v4178, trip_k0_t1.sl.v4186, trip_k0_t1.sl.v4189_hi, trip_k0_t1.sl.v4189_lo, trip_k0_t1.sl.v4194, trip_k0_t1.sl.v4195, trip_k0_t1.sl.v4196, trip_k0_t1.sl.v4197, trip_k0_t1.sl.v4198, trip_k0_t1.sl.v4199, trip_k0_t1.sl.v4200, trip_k0_t1.sl.v4201, trip_k0_t1.sl.v4202, trip_k0_t1.sl.v4203, trip_k0_t1.sl.v4204, trip_k0_t1.sl.v4205, trip_k0_t1.sl.v4206]

theorem ck_1_6 : trip_k0_t1.sl.v4644 arg2 arg9 X2 X9 k = ckTile (wTile arg2 X2 (k0_off44 k 64#32) (k0_off44_inb k 1)) (spreadB (rTile arg9 X9 (k0_off45 k) (k0_off45_inb k))) (wTile arg2 X2 (k0_off47 k 64#32) (k0_off47_inb k 1)) (spreadB (rTile arg9 X9 (k0_off48 k) (k0_off48_inb k))) := by
  dsimp only [ckTile, ckWord, codeV, spreadB, wTile, rTile, k0_pay2, k0_pay3, k0_pay7, k0_pay18, k0_pay19, k0_pay20, k0_pay21, k0_pay22, k0_pay23, k0_pay24, k0_pay26, k0_pay27, k0_pay733, k0_pay734, k0_pay735, k0_pay737, k0_pay738, k0_pay739, k0_pay740, k0_pay741, k0_pay742, k0_pay744, k0_pay745, k0_pay746, k0_pay747, k0_pay748, k0_pay749, k0_pay750, k0_pay751, k0_pay754, k0_pay755, k0_pay756, k0_pay757, k0_pay758, k0_pay760, k0_pay761, k0_pay762, k0_pay763, k0_pay764, k0_pay766, k0_pay767, k0_pay768, k0_pay769, k0_pay770, k0_pay771, k0_pay772, k0_pay773, k0_pay774, trip_k0_t1.sl.v193, trip_k0_t1.sl.v201, trip_k0_t1.sl.v208, trip_k0_t1.sl.v210, trip_k0_t1.sl.v212, trip_k0_t1.sl.v214, trip_k0_t1.sl.r_380, trip_k0_t1.sl.r_381, trip_k0_t1.sl.r_382, trip_k0_t1.sl.r_384, trip_k0_t1.sl.r_385, trip_k0_t1.sl.r_387, trip_k0_t1.sl.r_389, trip_k0_t1.sl.r_390, trip_k0_t1.sl.r_391, trip_k0_t1.sl.r_393, trip_k0_t1.sl.r_394, trip_k0_t1.sl.r_395, trip_k0_t1.sl.r_396, trip_k0_t1.sl.r_397, trip_k0_t1.sl.r_398, trip_k0_t1.sl.r_400, trip_k0_t1.sl.r_402, trip_k0_t1.sl.r_403, trip_k0_t1.sl.r_404, trip_k0_t1.sl.v4628, trip_k0_t1.sl.v4629, trip_k0_t1.sl.v4630, trip_k0_t1.sl.v4632, trip_k0_t1.sl.v4633, trip_k0_t1.sl.v4641, trip_k0_t1.sl.v4642, trip_k0_t1.sl.v4643, trip_k0_t1.sl.v4644]

theorem ck_1_7 : k0_pay4 (trip_k0_t1.sl.r_420 arg2 arg9 X2 X9 k) (trip_k0_t1.sl.r_434 arg2 arg9 X2 X9 k) (k0_pay834 k0_pay2) k0_pay835 = ckTile (wTile arg2 X2 (k0_off51 k 64#32) (k0_off51_inb k 1)) (spreadB (rTile arg9 X9 (k0_off52 k) (k0_off52_inb k))) (wTile arg2 X2 (k0_off54 k 64#32) (k0_off54_inb k 1)) (spreadB (rTile arg9 X9 (k0_off55 k) (k0_off55_inb k))) := by
  dsimp only [ckTile, ckWord, codeV, spreadB, wTile, rTile, k0_pay2, k0_pay3, k0_pay4, k0_pay7, k0_pay18, k0_pay19, k0_pay20, k0_pay21, k0_pay22, k0_pay23, k0_pay24, k0_pay26, k0_pay27, k0_pay784, k0_pay786, k0_pay787, k0_pay788, k0_pay789, k0_pay791, k0_pay792, k0_pay793, k0_pay794, k0_pay795, k0_pay797, k0_pay798, k0_pay799, k0_pay800, k0_pay801, k0_pay803, k0_pay804, k0_pay805, k0_pay806, k0_pay807, k0_pay810, k0_pay811, k0_pay812, k0_pay814, k0_pay815, k0_pay816, k0_pay817, k0_pay818, k0_pay820, k0_pay821, k0_pay822, k0_pay823, k0_pay824, k0_pay825, k0_pay826, k0_pay827, k0_pay828, k0_pay829, k0_pay832, k0_pay833, k0_pay834, k0_pay835, trip_k0_t1.sl.r_406, trip_k0_t1.sl.r_408, trip_k0_t1.sl.r_410, trip_k0_t1.sl.r_411, trip_k0_t1.sl.r_412, trip_k0_t1.sl.r_414, trip_k0_t1.sl.r_415, trip_k0_t1.sl.r_417, trip_k0_t1.sl.r_418, trip_k0_t1.sl.r_419, trip_k0_t1.sl.r_420, trip_k0_t1.sl.r_421, trip_k0_t1.sl.r_422, trip_k0_t1.sl.r_424, trip_k0_t1.sl.r_425, trip_k0_t1.sl.r_426, trip_k0_t1.sl.r_428, trip_k0_t1.sl.r_429, trip_k0_t1.sl.r_430, trip_k0_t1.sl.r_431, trip_k0_t1.sl.r_432, trip_k0_t1.sl.r_433, trip_k0_t1.sl.r_434, trip_k0_t1.sl.v4649_hi, trip_k0_t1.sl.v4649_lo, trip_k0_t1.sl.v4654, trip_k0_t1.sl.v4655, trip_k0_t1.sl.v4656, trip_k0_t1.sl.v4657, trip_k0_t1.sl.v4658, trip_k0_t1.sl.v4659, trip_k0_t1.sl.v4660, trip_k0_t1.sl.v4661, trip_k0_t1.sl.v4662, trip_k0_t1.sl.v4663]

/-- The tiles of the packed pairs of rows, last first. -/
def cnList : List (View.Piece (Elt F) S256x2048 .i8) := [
  ⟨Rect.unit (s := S256x2048) (k0_off56 k 32#32) S32x128.size (k0_off56_inb k 1), cnTile (wTile arg2 X2 (k0_off54 k 64#32) (k0_off54_inb k 1)) (spreadB (rTile arg9 X9 (k0_off55 k) (k0_off55_inb k)))⟩,
  ⟨Rect.unit (s := S256x2048) (k0_off53 k 32#32) S32x128.size (k0_off53_inb k 1), cnTile (wTile arg2 X2 (k0_off51 k 64#32) (k0_off51_inb k 1)) (spreadB (rTile arg9 X9 (k0_off52 k) (k0_off52_inb k)))⟩,
  ⟨Rect.unit (s := S256x2048) (k0_off49 k 32#32) S32x128.size (k0_off49_inb k 1), cnTile (wTile arg2 X2 (k0_off47 k 64#32) (k0_off47_inb k 1)) (spreadB (rTile arg9 X9 (k0_off48 k) (k0_off48_inb k)))⟩,
  ⟨Rect.unit (s := S256x2048) (k0_off46 k 32#32) S32x128.size (k0_off46_inb k 1), cnTile (wTile arg2 X2 (k0_off44 k 64#32) (k0_off44_inb k 1)) (spreadB (rTile arg9 X9 (k0_off45 k) (k0_off45_inb k)))⟩,
  ⟨Rect.unit (s := S256x2048) (k0_off42 k 32#32) S32x128.size (k0_off42_inb k 1), cnTile (wTile arg2 X2 (k0_off40 k 64#32) (k0_off40_inb k 1)) (spreadB (rTile arg9 X9 (k0_off41 k) (k0_off41_inb k)))⟩,
  ⟨Rect.unit (s := S256x2048) (k0_off39 k 32#32) S32x128.size (k0_off39_inb k 1), cnTile (wTile arg2 X2 (k0_off37 k 64#32) (k0_off37_inb k 1)) (spreadB (rTile arg9 X9 (k0_off38 k) (k0_off38_inb k)))⟩,
  ⟨Rect.unit (s := S256x2048) (k0_off35 k 32#32) S32x128.size (k0_off35_inb k 1), cnTile (wTile arg2 X2 (k0_off33 k 64#32) (k0_off33_inb k 1)) (spreadB (rTile arg9 X9 (k0_off34 k) (k0_off34_inb k)))⟩,
  ⟨Rect.unit (s := S256x2048) (k0_off32 k 32#32) S32x128.size (k0_off32_inb k 1), cnTile (wTile arg2 X2 (k0_off30 k 64#32) (k0_off30_inb k 1)) (spreadB (rTile arg9 X9 (k0_off31 k) (k0_off31_inb k)))⟩,
  ⟨Rect.unit (s := S256x2048) (k0_off28 k 32#32) S32x128.size (k0_off28_inb k 1), cnTile (wTile arg2 X2 (k0_off26 k 64#32) (k0_off26_inb k 1)) (spreadB (rTile arg9 X9 (k0_off27 k) (k0_off27_inb k)))⟩,
  ⟨Rect.unit (s := S256x2048) (k0_off25 k 32#32) S32x128.size (k0_off25_inb k 1), cnTile (wTile arg2 X2 (k0_off23 k 64#32) (k0_off23_inb k 1)) (spreadB (rTile arg9 X9 (k0_off24 k) (k0_off24_inb k)))⟩,
  ⟨Rect.unit (s := S256x2048) (k0_off21 k 32#32) S32x128.size (k0_off21_inb k 1), cnTile (wTile arg2 X2 (k0_off19 k 64#32) (k0_off19_inb k 1)) (spreadB (rTile arg9 X9 (k0_off20 k) (k0_off20_inb k)))⟩,
  ⟨Rect.unit (s := S256x2048) (k0_off18 k 32#32) S32x128.size (k0_off18_inb k 1), cnTile (wTile arg2 X2 (k0_off16 k 64#32) (k0_off16_inb k 1)) (spreadB (rTile arg9 X9 (k0_off17 k) (k0_off17_inb k)))⟩,
  ⟨Rect.unit (s := S256x2048) (k0_off14 k 32#32) S32x128.size (k0_off14_inb k 1), cnTile (wTile arg2 X2 (k0_off12 k 64#32) (k0_off12_inb k 1)) (spreadB (rTile arg9 X9 (k0_off13 k) (k0_off13_inb k)))⟩,
  ⟨Rect.unit (s := S256x2048) (k0_off11 k 32#32) S32x128.size (k0_off11_inb k 1), cnTile (wTile arg2 X2 (k0_off9 k 64#32) (k0_off9_inb k 1)) (spreadB (rTile arg9 X9 (k0_off10 k) (k0_off10_inb k)))⟩,
  ⟨Rect.unit (s := S256x2048) (k0_off7 k 32#32) S32x128.size (k0_off7_inb k 1), cnTile (wTile arg2 X2 (k0_off5 k 64#32) (k0_off5_inb k 1)) (spreadB (rTile arg9 X9 (k0_off6 k) (k0_off6_inb k)))⟩,
  ⟨Rect.unit (s := S256x2048) (k0_off4 k 32#32) S32x128.size (k0_off4_inb k 1), cnTile (wTile arg2 X2 (k0_off2 k 64#32) (k0_off2_inb k 1)) (spreadB (rTile arg9 X9 (k0_off3 k) (k0_off3_inb k)))⟩,
  ⟨Rect.unit (s := S256x2048) (k0_off56 k 0#32) S32x128.size (k0_off56_inb k 0), cnTile (wTile arg2 X2 (k0_off54 k 0#32) (k0_off54_inb k 0)) (k0_pay7 (rTile arg9 X9 (k0_off55 k) (k0_off55_inb k)))⟩,
  ⟨Rect.unit (s := S256x2048) (k0_off53 k 0#32) S32x128.size (k0_off53_inb k 0), cnTile (wTile arg2 X2 (k0_off51 k 0#32) (k0_off51_inb k 0)) (k0_pay7 (rTile arg9 X9 (k0_off52 k) (k0_off52_inb k)))⟩,
  ⟨Rect.unit (s := S256x2048) (k0_off49 k 0#32) S32x128.size (k0_off49_inb k 0), cnTile (wTile arg2 X2 (k0_off47 k 0#32) (k0_off47_inb k 0)) (k0_pay7 (rTile arg9 X9 (k0_off48 k) (k0_off48_inb k)))⟩,
  ⟨Rect.unit (s := S256x2048) (k0_off46 k 0#32) S32x128.size (k0_off46_inb k 0), cnTile (wTile arg2 X2 (k0_off44 k 0#32) (k0_off44_inb k 0)) (k0_pay7 (rTile arg9 X9 (k0_off45 k) (k0_off45_inb k)))⟩,
  ⟨Rect.unit (s := S256x2048) (k0_off42 k 0#32) S32x128.size (k0_off42_inb k 0), cnTile (wTile arg2 X2 (k0_off40 k 0#32) (k0_off40_inb k 0)) (k0_pay7 (rTile arg9 X9 (k0_off41 k) (k0_off41_inb k)))⟩,
  ⟨Rect.unit (s := S256x2048) (k0_off39 k 0#32) S32x128.size (k0_off39_inb k 0), cnTile (wTile arg2 X2 (k0_off37 k 0#32) (k0_off37_inb k 0)) (k0_pay7 (rTile arg9 X9 (k0_off38 k) (k0_off38_inb k)))⟩,
  ⟨Rect.unit (s := S256x2048) (k0_off35 k 0#32) S32x128.size (k0_off35_inb k 0), cnTile (wTile arg2 X2 (k0_off33 k 0#32) (k0_off33_inb k 0)) (k0_pay7 (rTile arg9 X9 (k0_off34 k) (k0_off34_inb k)))⟩,
  ⟨Rect.unit (s := S256x2048) (k0_off32 k 0#32) S32x128.size (k0_off32_inb k 0), cnTile (wTile arg2 X2 (k0_off30 k 0#32) (k0_off30_inb k 0)) (k0_pay7 (rTile arg9 X9 (k0_off31 k) (k0_off31_inb k)))⟩,
  ⟨Rect.unit (s := S256x2048) (k0_off28 k 0#32) S32x128.size (k0_off28_inb k 0), cnTile (wTile arg2 X2 (k0_off26 k 0#32) (k0_off26_inb k 0)) (k0_pay7 (rTile arg9 X9 (k0_off27 k) (k0_off27_inb k)))⟩,
  ⟨Rect.unit (s := S256x2048) (k0_off25 k 0#32) S32x128.size (k0_off25_inb k 0), cnTile (wTile arg2 X2 (k0_off23 k 0#32) (k0_off23_inb k 0)) (k0_pay7 (rTile arg9 X9 (k0_off24 k) (k0_off24_inb k)))⟩,
  ⟨Rect.unit (s := S256x2048) (k0_off21 k 0#32) S32x128.size (k0_off21_inb k 0), cnTile (wTile arg2 X2 (k0_off19 k 0#32) (k0_off19_inb k 0)) (k0_pay7 (rTile arg9 X9 (k0_off20 k) (k0_off20_inb k)))⟩,
  ⟨Rect.unit (s := S256x2048) (k0_off18 k 0#32) S32x128.size (k0_off18_inb k 0), cnTile (wTile arg2 X2 (k0_off16 k 0#32) (k0_off16_inb k 0)) (k0_pay7 (rTile arg9 X9 (k0_off17 k) (k0_off17_inb k)))⟩,
  ⟨Rect.unit (s := S256x2048) (k0_off14 k 0#32) S32x128.size (k0_off14_inb k 0), cnTile (wTile arg2 X2 (k0_off12 k 0#32) (k0_off12_inb k 0)) (k0_pay7 (rTile arg9 X9 (k0_off13 k) (k0_off13_inb k)))⟩,
  ⟨Rect.unit (s := S256x2048) (k0_off11 k 0#32) S32x128.size (k0_off11_inb k 0), cnTile (wTile arg2 X2 (k0_off9 k 0#32) (k0_off9_inb k 0)) (k0_pay7 (rTile arg9 X9 (k0_off10 k) (k0_off10_inb k)))⟩,
  ⟨Rect.unit (s := S256x2048) (k0_off7 k 0#32) S32x128.size (k0_off7_inb k 0), cnTile (wTile arg2 X2 (k0_off5 k 0#32) (k0_off5_inb k 0)) (k0_pay7 (rTile arg9 X9 (k0_off6 k) (k0_off6_inb k)))⟩,
  ⟨Rect.unit (s := S256x2048) (k0_off4 k 0#32) S32x128.size (k0_off4_inb k 0), cnTile (wTile arg2 X2 (k0_off2 k 0#32) (k0_off2_inb k 0)) (k0_pay7 (rTile arg9 X9 (k0_off3 k) (k0_off3_inb k)))⟩]

/-- The tiles of the packed pairs of columns, last first. -/
def ckList : List (View.Piece (Elt F) S512x1024 .i8) := [
  ⟨Rect.unit (s := S512x1024) (k0_off57 k 64#32) S64x128.size (k0_off57_inb k 1), ckTile (wTile arg2 X2 (k0_off51 k 64#32) (k0_off51_inb k 1)) (spreadB (rTile arg9 X9 (k0_off52 k) (k0_off52_inb k))) (wTile arg2 X2 (k0_off54 k 64#32) (k0_off54_inb k 1)) (spreadB (rTile arg9 X9 (k0_off55 k) (k0_off55_inb k)))⟩,
  ⟨Rect.unit (s := S512x1024) (k0_off50 k 64#32) S64x128.size (k0_off50_inb k 1), ckTile (wTile arg2 X2 (k0_off44 k 64#32) (k0_off44_inb k 1)) (spreadB (rTile arg9 X9 (k0_off45 k) (k0_off45_inb k))) (wTile arg2 X2 (k0_off47 k 64#32) (k0_off47_inb k 1)) (spreadB (rTile arg9 X9 (k0_off48 k) (k0_off48_inb k)))⟩,
  ⟨Rect.unit (s := S512x1024) (k0_off43 k 64#32) S64x128.size (k0_off43_inb k 1), ckTile (wTile arg2 X2 (k0_off37 k 64#32) (k0_off37_inb k 1)) (spreadB (rTile arg9 X9 (k0_off38 k) (k0_off38_inb k))) (wTile arg2 X2 (k0_off40 k 64#32) (k0_off40_inb k 1)) (spreadB (rTile arg9 X9 (k0_off41 k) (k0_off41_inb k)))⟩,
  ⟨Rect.unit (s := S512x1024) (k0_off36 k 64#32) S64x128.size (k0_off36_inb k 1), ckTile (wTile arg2 X2 (k0_off30 k 64#32) (k0_off30_inb k 1)) (spreadB (rTile arg9 X9 (k0_off31 k) (k0_off31_inb k))) (wTile arg2 X2 (k0_off33 k 64#32) (k0_off33_inb k 1)) (spreadB (rTile arg9 X9 (k0_off34 k) (k0_off34_inb k)))⟩,
  ⟨Rect.unit (s := S512x1024) (k0_off29 k 64#32) S64x128.size (k0_off29_inb k 1), ckTile (wTile arg2 X2 (k0_off23 k 64#32) (k0_off23_inb k 1)) (spreadB (rTile arg9 X9 (k0_off24 k) (k0_off24_inb k))) (wTile arg2 X2 (k0_off26 k 64#32) (k0_off26_inb k 1)) (spreadB (rTile arg9 X9 (k0_off27 k) (k0_off27_inb k)))⟩,
  ⟨Rect.unit (s := S512x1024) (k0_off22 k 64#32) S64x128.size (k0_off22_inb k 1), ckTile (wTile arg2 X2 (k0_off16 k 64#32) (k0_off16_inb k 1)) (spreadB (rTile arg9 X9 (k0_off17 k) (k0_off17_inb k))) (wTile arg2 X2 (k0_off19 k 64#32) (k0_off19_inb k 1)) (spreadB (rTile arg9 X9 (k0_off20 k) (k0_off20_inb k)))⟩,
  ⟨Rect.unit (s := S512x1024) (k0_off15 k 64#32) S64x128.size (k0_off15_inb k 1), ckTile (wTile arg2 X2 (k0_off9 k 64#32) (k0_off9_inb k 1)) (spreadB (rTile arg9 X9 (k0_off10 k) (k0_off10_inb k))) (wTile arg2 X2 (k0_off12 k 64#32) (k0_off12_inb k 1)) (spreadB (rTile arg9 X9 (k0_off13 k) (k0_off13_inb k)))⟩,
  ⟨Rect.unit (s := S512x1024) (k0_off8 k 64#32) S64x128.size (k0_off8_inb k 1), ckTile (wTile arg2 X2 (k0_off2 k 64#32) (k0_off2_inb k 1)) (spreadB (rTile arg9 X9 (k0_off3 k) (k0_off3_inb k))) (wTile arg2 X2 (k0_off5 k 64#32) (k0_off5_inb k 1)) (spreadB (rTile arg9 X9 (k0_off6 k) (k0_off6_inb k)))⟩,
  ⟨Rect.unit (s := S512x1024) (k0_off57 k 0#32) S64x128.size (k0_off57_inb k 0), ckTile (wTile arg2 X2 (k0_off51 k 0#32) (k0_off51_inb k 0)) (k0_pay7 (rTile arg9 X9 (k0_off52 k) (k0_off52_inb k))) (wTile arg2 X2 (k0_off54 k 0#32) (k0_off54_inb k 0)) (k0_pay7 (rTile arg9 X9 (k0_off55 k) (k0_off55_inb k)))⟩,
  ⟨Rect.unit (s := S512x1024) (k0_off50 k 0#32) S64x128.size (k0_off50_inb k 0), ckTile (wTile arg2 X2 (k0_off44 k 0#32) (k0_off44_inb k 0)) (k0_pay7 (rTile arg9 X9 (k0_off45 k) (k0_off45_inb k))) (wTile arg2 X2 (k0_off47 k 0#32) (k0_off47_inb k 0)) (k0_pay7 (rTile arg9 X9 (k0_off48 k) (k0_off48_inb k)))⟩,
  ⟨Rect.unit (s := S512x1024) (k0_off43 k 0#32) S64x128.size (k0_off43_inb k 0), ckTile (wTile arg2 X2 (k0_off37 k 0#32) (k0_off37_inb k 0)) (k0_pay7 (rTile arg9 X9 (k0_off38 k) (k0_off38_inb k))) (wTile arg2 X2 (k0_off40 k 0#32) (k0_off40_inb k 0)) (k0_pay7 (rTile arg9 X9 (k0_off41 k) (k0_off41_inb k)))⟩,
  ⟨Rect.unit (s := S512x1024) (k0_off36 k 0#32) S64x128.size (k0_off36_inb k 0), ckTile (wTile arg2 X2 (k0_off30 k 0#32) (k0_off30_inb k 0)) (k0_pay7 (rTile arg9 X9 (k0_off31 k) (k0_off31_inb k))) (wTile arg2 X2 (k0_off33 k 0#32) (k0_off33_inb k 0)) (k0_pay7 (rTile arg9 X9 (k0_off34 k) (k0_off34_inb k)))⟩,
  ⟨Rect.unit (s := S512x1024) (k0_off29 k 0#32) S64x128.size (k0_off29_inb k 0), ckTile (wTile arg2 X2 (k0_off23 k 0#32) (k0_off23_inb k 0)) (k0_pay7 (rTile arg9 X9 (k0_off24 k) (k0_off24_inb k))) (wTile arg2 X2 (k0_off26 k 0#32) (k0_off26_inb k 0)) (k0_pay7 (rTile arg9 X9 (k0_off27 k) (k0_off27_inb k)))⟩,
  ⟨Rect.unit (s := S512x1024) (k0_off22 k 0#32) S64x128.size (k0_off22_inb k 0), ckTile (wTile arg2 X2 (k0_off16 k 0#32) (k0_off16_inb k 0)) (k0_pay7 (rTile arg9 X9 (k0_off17 k) (k0_off17_inb k))) (wTile arg2 X2 (k0_off19 k 0#32) (k0_off19_inb k 0)) (k0_pay7 (rTile arg9 X9 (k0_off20 k) (k0_off20_inb k)))⟩,
  ⟨Rect.unit (s := S512x1024) (k0_off15 k 0#32) S64x128.size (k0_off15_inb k 0), ckTile (wTile arg2 X2 (k0_off9 k 0#32) (k0_off9_inb k 0)) (k0_pay7 (rTile arg9 X9 (k0_off10 k) (k0_off10_inb k))) (wTile arg2 X2 (k0_off12 k 0#32) (k0_off12_inb k 0)) (k0_pay7 (rTile arg9 X9 (k0_off13 k) (k0_off13_inb k)))⟩,
  ⟨Rect.unit (s := S512x1024) (k0_off8 k 0#32) S64x128.size (k0_off8_inb k 0), ckTile (wTile arg2 X2 (k0_off2 k 0#32) (k0_off2_inb k 0)) (k0_pay7 (rTile arg9 X9 (k0_off3 k) (k0_off3_inb k))) (wTile arg2 X2 (k0_off5 k 0#32) (k0_off5_inb k 0)) (k0_pay7 (rTile arg9 X9 (k0_off6 k) (k0_off6_inb k)))⟩]

end Tiles

set_option maxHeartbeats 4000000 in
theorem trip_cn (𝒱 : Variants) (c : Dev nD) (bd : Option 𝒱.V) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (X2 : BufTy.Contents (Elt F) arg2.view.ty) (X9 : BufTy.Contents (Elt F) arg9.view.ty) (X10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 X2 X9 X10 k).2.2 = cnList arg2 arg9 X2 X9 k := by
  unfold tripL_k0_t1 trip_k0_t1 cnList
  dsimp only
  simp only [cn_0_0, cn_0_1, cn_0_2, cn_0_3, cn_0_4, cn_0_5, cn_0_6, cn_0_7, cn_0_8, cn_0_9, cn_0_10, cn_0_11, cn_0_12, cn_0_13, cn_0_14, cn_0_15, cn_1_0, cn_1_1, cn_1_2, cn_1_3, cn_1_4, cn_1_5, cn_1_6, cn_1_7, cn_1_8, cn_1_9, cn_1_10, cn_1_11, cn_1_12, cn_1_13, cn_1_14, cn_1_15]

set_option maxHeartbeats 4000000 in
theorem trip_ck (𝒱 : Variants) (c : Dev nD) (bd : Option 𝒱.V) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (X2 : BufTy.Contents (Elt F) arg2.view.ty) (X9 : BufTy.Contents (Elt F) arg9.view.ty) (X10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 X2 X9 X10 k).2.1 = ckList arg2 arg9 X2 X9 k := by
  unfold tripL_k0_t1 trip_k0_t1 ckList
  dsimp only
  simp only [ck_0_0, ck_0_1, ck_0_2, ck_0_3, ck_0_4, ck_0_5, ck_0_6, ck_0_7, ck_1_0, ck_1_1, ck_1_2, ck_1_3, ck_1_4, ck_1_5, ck_1_6, ck_1_7]

end Cert.QuantIdeal.Codes
end
-- ==== Proof.CodesMath.lean ====
/-
  One code, as the kernel rounds it and as the reference does: over the numbers from -6 to 6 the two agree.
-/
module

public import Idealize.ShloMosaic.Lib.Pointwise
public import Idealize.ShloMosaic.Lib.IdealHost

@[expose] public section

noncomputable section

namespace Cert.Codes

open Idealize.ShloMosaic Idealize.ShloMosaic.TcCoe

abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32
abbrev four : EReal := Ideal.ofBits .f32 0x40800000#32
abbrev six : EReal := Ideal.ofBits .f32 0x40C00000#32
abbrev negSix : EReal := Ideal.ofBits .f32 0xC0C00000#32

theorem zero_eq : zero = ((0 : ℝ) : EReal) := by simp [Ideal.ofBits, Ideal.ieee]
theorem half_eq : half = ((1 / 2 : ℝ) : EReal) := by simp [Ideal.ofBits, Ideal.ieee]; rw [← EReal.coe_mul]; norm_num
theorem one_eq : one = ((1 : ℝ) : EReal) := by simp [Ideal.ofBits, Ideal.ieee]
theorem two_eq : two = ((2 : ℝ) : EReal) := by simp [Ideal.ofBits, Ideal.ieee]; rw [← EReal.coe_mul]; norm_num
theorem four_eq : four = ((4 : ℝ) : EReal) := by simp [Ideal.ofBits, Ideal.ieee]; rw [← EReal.coe_mul]; norm_num
theorem six_eq : six = ((6 : ℝ) : EReal) := by simp [Ideal.ofBits, Ideal.ieee]; rw [← EReal.coe_mul]; norm_num
theorem negSix_eq : negSix = ((-6 : ℝ) : EReal) := by simp [Ideal.ofBits, Ideal.ieee]; rw [← EReal.coe_mul]; norm_num

/-- Rounding to nearest even. -/
abbrev rnd (x : EReal) : EReal := Ideal.liftRound Ideal.roundHalfEven x

/-- The kernel's code of a magnitude: the rounded multiple of the step of its range, and the range's first code. -/
def kmag (a : EReal) : BitVec 32 :=
  IntOp.addi (Ideal.fptosi 32 (rnd (Ideal.div a (Scalar.select (Ideal.cmp .olt a two) one (Scalar.select (Ideal.cmp .olt a four) two four) * half))))
    (Scalar.select (Ideal.cmp .olt a two) 0#32 (Scalar.select (Ideal.cmp .olt a four) 2#32 4#32))

/-- The kernel's code of a number: the sign in the fourth bit. -/
def knib (v : EReal) : BitVec 32 :=
  Scalar.select (Ideal.cmp .olt v zero) (IntOp.ori (kmag (max v (-v))) 8#32) (kmag (max v (-v)))

/-- The reference's rounded magnitude, -/
def rq (a : EReal) : EReal :=
  Scalar.select (Ideal.cmp .olt a two) (Ideal.div (rnd (two * a)) two)
    (Scalar.select (Ideal.cmp .olt a four) (rnd a) (two * rnd (Ideal.div a two)))

/-- its code, -/
def ridx (q : EReal) : BitVec 32 :=
  Ideal.fptosi 32 (Scalar.select (Ideal.cmp .olt q two) (two * q) (Scalar.select (Ideal.cmp .olt q four) (q + two) (Ideal.div q two + four)))

/-- and the code of a number. -/
def rnib (v : EReal) : BitVec 32 :=
  IntOp.ori (IntOp.shli .vector (BitVec.setWidth 32 (Ideal.cmp .olt v zero)) 3#32) (ridx (rq (max v (-v))))

theorem lt_iff (x y : ℝ) : Ideal.cmp .olt (x : EReal) (y : EReal) = BitVec.ofBool (decide (x < y)) := by
  simp [Ideal.cmp]
theorem sel_pos {α : Type} {p : Prop} [Decidable p] (h : p) (x y : α) : Scalar.select (BitVec.ofBool (decide p)) x y = x := by
  simp [Scalar.select, h]
theorem sel_neg {α : Type} {p : Prop} [Decidable p] (h : ¬ p) (x y : α) : Scalar.select (BitVec.ofBool (decide p)) x y = y := by
  simp [Scalar.select, h]

theorem rnd_coe (x : ℝ) : rnd (x : EReal) = ((Ideal.roundHalfEven x : ℝ) : EReal) := rfl

theorem div_real (x y : ℝ) (h : y ≠ 0) : Ideal.div (x : EReal) (y : EReal) = ((x / y : ℝ) : EReal) := by
  rw [Ideal.div_coe h, ← EReal.coe_mul]; congr 1; field_simp

theorem rnd_mem (x : ℝ) (lo hi : ℤ) (h : (lo : ℝ) ≤ x) (h' : x ≤ hi) : lo ≤ Ideal.roundHalfEven x ∧ Ideal.roundHalfEven x ≤ hi := by
  have f0 : lo ≤ ⌊x⌋ := Int.le_floor.2 h
  have f1 : (⌊x⌋ : ℝ) ≤ x := Int.floor_le x
  have f2 : ⌊x⌋ ≤ hi := by exact_mod_cast f1.trans h'
  have f3 : ⌊x⌋ = hi → x - ⌊x⌋ < 1 / 2 := fun e => by rw [e]; linarith
  unfold Ideal.roundHalfEven
  dsimp only
  by_cases c1 : x - ⌊x⌋ < 1 / 2
  · rw [if_pos c1]; exact ⟨f0, f2⟩
  · have f4 : ⌊x⌋ < hi := lt_of_le_of_ne f2 fun e => c1 (f3 e)
    rw [if_neg c1]
    split_ifs <;> constructor <;> omega

theorem int_coe (n : ℤ) (h : 0 ≤ n) (h' : n ≤ 8) : Ideal.fptosi 32 ((n : ℝ) : EReal) = BitVec.ofInt 32 n := by
  unfold Ideal.fptosi
  have : Ideal.toIntClamped (-(2 ^ (32 - 1) : Nat)) ((2 ^ (32 - 1) : Nat) - 1) ((n : ℝ) : EReal) = n := by
    have hr : (0 : ℝ) ≤ (n : ℝ) := by exact_mod_cast h
    show max _ (min _ (if (0 : ℝ) ≤ (n : ℝ) then ⌊(n : ℝ)⌋ else ⌈(n : ℝ)⌉)) = n
    rw [if_pos hr, Int.floor_intCast]
    norm_num
    omega
  rw [this]

/-- The two agree on a magnitude from 0 to 6. -/
theorem mag_eq (a : ℝ) (h0 : 0 ≤ a) (h6 : a ≤ 6) : kmag (a : EReal) = ridx (rq (a : EReal)) := by
  unfold kmag ridx rq
  simp only [two_eq, four_eq, one_eq, half_eq, lt_iff]
  by_cases c2 : a < 2
  · simp only [sel_pos c2]
    rw [← EReal.coe_mul, div_real _ _ (by norm_num), rnd_coe, ← EReal.coe_mul, rnd_coe, div_real _ _ (by norm_num),
      show a / (1 * (1 / 2)) = 2 * a by ring]
    obtain ⟨l, u⟩ := rnd_mem (2 * a) 0 4 (by norm_num; linarith) (by norm_num; linarith)
    generalize Ideal.roundHalfEven (2 * a) = n at l u ⊢
    rw [int_coe n l (by omega)]
    by_cases c : n < 4
    · have : (n : ℝ) / 2 < 2 := by
        have : (n : ℝ) < 4 := by exact_mod_cast c
        linarith
      rw [lt_iff, sel_pos this, ← EReal.coe_mul, show 2 * ((n : ℝ) / 2) = n by ring, int_coe n l (by omega)]
      simp [IntOp.addi]
    · obtain rfl : n = 4 := by omega
      rw [lt_iff, lt_iff, sel_neg (by norm_num), sel_pos (by norm_num), ← EReal.coe_add,
        show (((4 : ℤ) : ℝ) / 2 + 2) = ((4 : ℤ) : ℝ) by norm_num, int_coe 4 l (by omega)]
      simp [IntOp.addi]
  · by_cases c4 : a < 4
    · simp only [sel_neg c2, sel_pos c4]
      rw [← EReal.coe_mul, div_real _ _ (by norm_num), rnd_coe, rnd_coe, show a / (2 * (1 / 2)) = a by ring]
      obtain ⟨l, u⟩ := rnd_mem a 2 4 (by norm_num; linarith) (by norm_num; linarith)
      generalize Ideal.roundHalfEven a = n at l u ⊢
      rw [int_coe n (by omega) (by omega)]
      have d2 : ¬ (n : ℝ) < 2 := by
        have : (2 : ℝ) ≤ n := by exact_mod_cast l
        linarith
      by_cases c : n < 4
      · have d4 : (n : ℝ) < 4 := by exact_mod_cast c
        rw [lt_iff, lt_iff, sel_neg d2, sel_pos d4, ← EReal.coe_add,
          show ((n : ℝ) + 2) = ((n + 2 : ℤ) : ℝ) by push_cast; ring, int_coe _ (by omega) (by omega)]
        have : n = 2 ∨ n = 3 := by omega
        rcases this with rfl | rfl <;> decide
      · obtain rfl : n = 4 := by omega
        rw [lt_iff, lt_iff, sel_neg (by norm_num), sel_neg (by norm_num), div_real _ _ (by norm_num), ← EReal.coe_add,
          show (((4 : ℤ) : ℝ) / 2 + 4) = ((6 : ℤ) : ℝ) by norm_num, int_coe 6 (by omega) (by omega)]
        decide
    · simp only [sel_neg c2, sel_neg c4]
      rw [← EReal.coe_mul, div_real _ _ (by norm_num), rnd_coe, div_real _ _ (by norm_num), rnd_coe, ← EReal.coe_mul,
        show a / (4 * (1 / 2)) = a / 2 by ring]
      obtain ⟨l, u⟩ := rnd_mem (a / 2) 2 3 (by norm_num; linarith) (by norm_num; linarith)
      generalize Ideal.roundHalfEven (a / 2) = n at l u ⊢
      rw [int_coe n (by omega) (by omega)]
      have : n = 2 ∨ n = 3 := by omega
      rcases this with rfl | rfl
      · rw [lt_iff, lt_iff, sel_neg (by norm_num), sel_neg (by norm_num), div_real _ _ (by norm_num), ← EReal.coe_add,
          show (2 * ((2 : ℤ) : ℝ) / 2 + 4) = ((6 : ℤ) : ℝ) by norm_num, int_coe 6 (by omega) (by omega)]
        decide
      · rw [lt_iff, lt_iff, sel_neg (by norm_num), sel_neg (by norm_num), div_real _ _ (by norm_num), ← EReal.coe_add,
          show (2 * ((3 : ℤ) : ℝ) / 2 + 4) = ((7 : ℤ) : ℝ) by norm_num, int_coe 7 (by omega) (by omega)]
        decide

/-- And on a number from -6 to 6. -/
theorem nib_eq (v : ℝ) (h0 : -6 ≤ v) (h6 : v ≤ 6) : knib (v : EReal) = rnib (v : EReal) := by
  have hm : max (v : EReal) (-(v : EReal)) = ((|v| : ℝ) : EReal) := by
    rw [← EReal.coe_neg, abs_eq_max_neg]; exact (EReal.coe_strictMono.monotone.map_max).symm
  unfold knib rnib
  rw [hm, ← mag_eq |v| (abs_nonneg v) (abs_le.2 ⟨h0, h6⟩), zero_eq, lt_iff]
  by_cases c : v < 0
  · rw [sel_pos c]
    simp only [c, decide_true, IntOp.ori, IntOp.shli]
    rw [BitVec.or_comm]; rfl
  · rw [sel_neg c]
    simp [c, IntOp.ori, IntOp.shli]

/-- A number clipped to the range. -/
abbrev clip (v : EReal) : EReal := min six (max negSix v)

theorem clip_real (v : EReal) : ∃ r : ℝ, clip v = (r : EReal) ∧ -6 ≤ r ∧ r ≤ 6 := by
  unfold clip
  rw [six_eq, negSix_eq]
  induction v with
  | bot => exact ⟨-6, by rw [max_eq_left bot_le, min_eq_right (by exact_mod_cast (by norm_num : (-6 : ℝ) ≤ 6))], le_rfl, by norm_num⟩
  | top => exact ⟨6, by rw [max_eq_right le_top, min_eq_left le_top], by norm_num, le_rfl⟩
  | coe v =>
    refine ⟨min 6 (max (-6) v), ?_, le_min (by norm_num) (le_max_left _ _), min_le_left _ _⟩
    rw [EReal.coe_strictMono.monotone.map_min, EReal.coe_strictMono.monotone.map_max]

/-- The kernel's factor of a scale: its reciprocal, and nothing where the scale is not positive. -/
def recip (d : EReal) : EReal :=
  Scalar.select (Ideal.cmp .ogt d zero) (Ideal.div one (Scalar.select (Ideal.cmp .ogt d zero) d one)) zero

/-- The reference's quotient. -/
def quot (w d : EReal) : EReal :=
  Scalar.select (Ideal.cmp .ogt d zero) (Ideal.div w (Scalar.select (Ideal.cmp .ogt d zero) d one)) zero

theorem mul_recip (w d : EReal) : w * recip d = quot w d := by
  unfold recip quot
  have hc : Ideal.cmp .ogt d zero = BitVec.ofBool (decide (0 < d)) := by
    rw [zero_eq]; simp [Ideal.cmp]; rfl
  rw [hc]
  by_cases h : 0 < d
  · simp only [sel_pos h]
    rw [one_eq, EReal.coe_one]
    unfold Ideal.div; rw [if_neg (ne_of_gt h), if_neg (ne_of_gt h), one_mul]
  · simp only [sel_neg h]
    rw [zero_eq, EReal.coe_zero, mul_zero]

/-- One code of the kernel is the reference's. -/
theorem code_eq (w d : EReal) : knib (clip (w * recip d)) = rnib (clip (quot w d)) := by
  rw [mul_recip]
  obtain ⟨r, h, h0, h6⟩ := clip_real (quot w d)
  rw [h]; exact nib_eq r h0 h6

theorem mag_low (a : ℝ) (h0 : 0 ≤ a) (h6 : a ≤ 6) : ∃ n : Fin 8, kmag (a : EReal) = BitVec.ofNat 32 n.val := by
  unfold kmag
  simp only [two_eq, four_eq, one_eq, half_eq, lt_iff]
  by_cases c2 : a < 2
  · simp only [sel_pos c2]
    rw [← EReal.coe_mul, div_real _ _ (by norm_num), rnd_coe, show a / (1 * (1 / 2)) = 2 * a by ring]
    obtain ⟨l, u⟩ := rnd_mem (2 * a) 0 4 (by norm_num; linarith) (by norm_num; linarith)
    generalize Ideal.roundHalfEven (2 * a) = n at l u ⊢
    rw [int_coe n l (by omega)]
    interval_cases n <;> first | exact ⟨0, by decide⟩ | exact ⟨1, by decide⟩ | exact ⟨2, by decide⟩ | exact ⟨3, by decide⟩ | exact ⟨4, by decide⟩
  · by_cases c4 : a < 4
    · simp only [sel_neg c2, sel_pos c4]
      rw [← EReal.coe_mul, div_real _ _ (by norm_num), rnd_coe, show a / (2 * (1 / 2)) = a by ring]
      obtain ⟨l, u⟩ := rnd_mem a 2 4 (by norm_num; linarith) (by norm_num; linarith)
      generalize Ideal.roundHalfEven a = n at l u ⊢
      rw [int_coe n (by omega) (by omega)]
      interval_cases n <;> first | exact ⟨4, by decide⟩ | exact ⟨5, by decide⟩ | exact ⟨6, by decide⟩
    · simp only [sel_neg c2, sel_neg c4]
      rw [← EReal.coe_mul, div_real _ _ (by norm_num), rnd_coe, show a / (4 * (1 / 2)) = a / 2 by ring]
      obtain ⟨l, u⟩ := rnd_mem (a / 2) 2 3 (by norm_num; linarith) (by norm_num; linarith)
      generalize Ideal.roundHalfEven (a / 2) = n at l u ⊢
      rw [int_coe n (by omega) (by omega)]
      interval_cases n <;> first | exact ⟨6, by decide⟩ | exact ⟨7, by decide⟩

theorem ori8 : ∀ n : Fin 8, IntOp.ori (BitVec.ofNat 32 n.val) 8#32 = BitVec.ofNat 32 (8 + n.val) := by decide

/-- A code has four bits. -/
theorem nib_low (v : EReal) : ∃ n : Fin 16, knib (clip v) = BitVec.ofNat 32 n.val := by
  obtain ⟨r, h, h0, h6⟩ := clip_real v
  rw [h]
  have hm : max (r : EReal) (-(r : EReal)) = ((|r| : ℝ) : EReal) := by
    rw [← EReal.coe_neg, abs_eq_max_neg]; exact (EReal.coe_strictMono.monotone.map_max).symm
  obtain ⟨n, hn⟩ := mag_low |r| (abs_nonneg r) (abs_le.2 ⟨h0, h6⟩)
  unfold knib
  rw [hm, hn, zero_eq, lt_iff]
  by_cases c : r < 0
  · rw [sel_pos c]
    exact ⟨⟨8 + n.val, by omega⟩, ori8 n⟩
  · rw [sel_neg c]
    exact ⟨⟨n.val, by omega⟩, rfl⟩

end Cert.Codes
end
-- ==== Proof.CodesTile.lean ====
/-
  What the tiles of the codes hold, element by element.
-/
module

public import proofs.«01_k».proof.Proof.CodesTrip
public import proofs.«01_k».proof.Proof.CodesMath
public import Idealize.ShloMosaic.Lib.Pipeline.Value
public import Idealize.ShloMosaic.Lib.BitcastPair
public import Idealize.ShloMosaic.Lib.KernelVsHost

@[expose] public section

set_option maxRecDepth 16384

noncomputable section

namespace Cert.QuantIdeal.Codes

open Cert.QuantIdeal Cert.QuantIdeal.Gen Idealize.ShloMosaic Idealize.ShloMosaic.TcCoe Idealize.SL.Sem
open Cert.Codes (knib clip)

theorem rows_even (w : Vec Ideal S64x128 .bf16) (p : Fin 32) (q : Fin 128) :
    rowsOfParity 0 S32x128 w bitcasts_S64x128_w16_S32x128_w32 (ix2 p q) = w (ix2 ⟨2 * p.val, by omega⟩ q) := by
  unfold rowsOfParity
  refine congrArg w (Shape.idx_ext₂ rfl rfl)
theorem rows_odd (w : Vec Ideal S64x128 .bf16) (p : Fin 32) (q : Fin 128) :
    rowsOfParity 1 S32x128 w bitcasts_S64x128_w16_S32x128_w32 (ix2 p q) = w (ix2 ⟨2 * p.val + 1, by omega⟩ q) := by
  unfold rowsOfParity
  refine congrArg w (Shape.idx_ext₂ rfl rfl)

theorem codeV_apply (p : Fin 2) (w : Vec Ideal S64x128 .bf16) (r : FVec Ideal S32x128 .f32) (j : S32x128.Idx) :
    codeV p w r j = knib (clip (rowsOfParity p S32x128 w bitcasts_S64x128_w16_S32x128_w32 j * r j)) := rfl

/-- A pair of codes in a byte. -/
def pair (a b : EReal) : BitVec 8 := BitVec.setWidth 8 (knib (clip a) ||| (knib (clip b) <<< 4))

theorem cnTile_apply (w : Vec Ideal S64x128 .bf16) (r : FVec Ideal S32x128 .f32) (p : Fin 32) (q : Fin 128) :
    cnTile w r (ix2 p q) = pair (w (ix2 ⟨2 * p.val, by omega⟩ q) * r (ix2 p q)) (w (ix2 ⟨2 * p.val + 1, by omega⟩ q) * r (ix2 p q)) := by
  rw [← rows_even w p q, ← rows_odd w p q]
  unfold cnTile k0_pay26
  rw [shapeCast_self]
  rfl

/-- A row of the factors over eight rows. -/
theorem over_apply (v : Vec Ideal S8x128 .f32) (o : Fin 8) (h : S8x128.Slices ![o.val, 0] S1x128) (j : S8x128.Idx) (t : Fin 8) (q : Fin 128) (hj : j = ix2 t q) :
    broadcastTo S8x128 (shapeCast S1x128 (extractStridedSlice S1x128 ![o.val, 0] v h) shapeCasts_S1x128_S1x128) broadcasts_S1x128_S8x128 j = v (ix2 o q) := by
  subst hj
  rw [shapeCast_self]
  refine (broadcastTo_apply _ _ _ (ix2 0 q) fun a => ?_).trans ?_
  · match a with
    | ⟨0, _⟩ => rfl
    | ⟨1, _⟩ => rfl
  · refine extractStridedSlice_apply _ _ _ _ _ fun a => ?_
    match a with
    | ⟨0, _⟩ => show o.val = o.val + 0; omega
    | ⟨1, _⟩ => show q.val = 0 + q.val; omega

theorem spread_piece (xs : List ((s : Shape) × (s.Idx → EReal))) (h : Shape.Concatenates (xs.map (·.1)) S32x128 0) (p : Fin 32) (q : Fin 128)
    (k : Nat) (hk : k < xs.length) (x₁ : S8x128.Idx → EReal) (hxk : xs[k] = ⟨S8x128, x₁⟩)
    (hpre : (((xs.take k).map (·.1)).map fun s => if h : s.rank = S32x128.rank then s.size ((0 : Fin S32x128.rank).cast h.symm) else 0).sum = 8 * k)
    (hp : p.val / 8 = k) : concatenate S32x128 0 xs h (ix2 p q) = x₁ (ix2 ⟨p.val % 8, by omega⟩ q) := by
  refine concatenate_apply_piece (t := S32x128) 0 xs h (ix2 p q) k hk S8x128 x₁ hxk rfl (8 * k) hpre _ (fun b hb => ?_) ?_
  · match b with
    | ⟨0, _⟩ => exact absurd rfl hb
    | ⟨1, _⟩ => rfl
  · show 8 * k + p.val % 8 = p.val; omega

theorem spreadA_apply (v : Vec Ideal S8x128 .f32) (p : Fin 32) (q : Fin 128) :
    k0_pay7 v (ix2 p q) = v (ix2 ⟨p.val / 8, by omega⟩ q) := by
  unfold k0_pay7
  obtain ⟨k, hk⟩ : ∃ k : Fin 4, k.val = p.val / 8 := ⟨⟨p.val / 8, by omega⟩, rfl⟩
  have e : (⟨p.val / 8, by omega⟩ : Fin 8) = ⟨k.val, by omega⟩ := Fin.ext hk.symm
  rw [e]
  fin_cases k
  · exact (spread_piece _ _ p q 0 (by show _ < 4; decide) _ rfl rfl hk.symm).trans (over_apply v 0 _ _ _ _ rfl)
  · exact (spread_piece _ _ p q 1 (by show _ < 4; decide) _ rfl rfl hk.symm).trans (over_apply v 1 _ _ _ _ rfl)
  · exact (spread_piece _ _ p q 2 (by show _ < 4; decide) _ rfl rfl hk.symm).trans (over_apply v 2 _ _ _ _ rfl)
  · exact (spread_piece _ _ p q 3 (by show _ < 4; decide) _ rfl rfl hk.symm).trans (over_apply v 3 _ _ _ _ rfl)

theorem spreadB_apply (v : Vec Ideal S8x128 .f32) (p : Fin 32) (q : Fin 128) :
    spreadB v (ix2 p q) = v (ix2 ⟨4 + p.val / 8, by omega⟩ q) := by
  unfold spreadB
  obtain ⟨k, hk⟩ : ∃ k : Fin 4, k.val = p.val / 8 := ⟨⟨p.val / 8, by omega⟩, rfl⟩
  have e : (⟨4 + p.val / 8, by omega⟩ : Fin 8) = ⟨4 + k.val, by omega⟩ := Fin.ext (congrArg (4 + ·) hk.symm)
  rw [e]
  fin_cases k
  · exact (spread_piece _ _ p q 0 (by show _ < 4; decide) _ rfl rfl hk.symm).trans (over_apply v 4 _ _ _ _ rfl)
  · exact (spread_piece _ _ p q 1 (by show _ < 4; decide) _ rfl rfl hk.symm).trans (over_apply v 5 _ _ _ _ rfl)
  · exact (spread_piece _ _ p q 2 (by show _ < 4; decide) _ rfl rfl hk.symm).trans (over_apply v 6 _ _ _ _ rfl)
  · exact (spread_piece _ _ p q 3 (by show _ < 4; decide) _ rfl rfl hk.symm).trans (over_apply v 7 _ _ _ _ rfl)

/-- The columns gathered: the even ones. -/
def gcol : IVec S32x128 32 :=
  shapeCast S32x128 (shapeCast S32x128x1 (select (cmpi .slt k0_pay2 (broadcast S32x128 0#32)) (addi k0_pay2 (broadcast S32x128 128#32)) k0_pay2) shapeCasts_S32x128_S32x128x1) shapeCasts_S32x128x1_S32x128

theorem gcol_word (q : Fin 128) :
    (Scalar.select (IntOp.cmpi .slt (IntOp.andi (IntOp.muli 2#32 (BitVec.ofNat 32 q.val)) 127#32) 0#32) (IntOp.addi (IntOp.andi (IntOp.muli 2#32 (BitVec.ofNat 32 q.val)) 127#32) 128#32) (IntOp.andi (IntOp.muli 2#32 (BitVec.ofNat 32 q.val)) 127#32)).toNat % 128 = 2 * q.val % 128 := by
  revert q; decide +kernel

theorem gcol_apply (p : Fin 32) (q : Fin 128) : (gcol (ix2 p q)).toNat % 128 = 2 * q.val % 128 := by
  refine Eq.trans ?_ (gcol_word q)
  unfold gcol
  rw [shapeCast_shapeCast]
  pointwise [k0_pay2]

/-- Both codes of a pair of rows, with the next column's above them. -/
def both (w : Vec Ideal S64x128 .bf16) (r : FVec Ideal S32x128 .f32) : IVec S32x128 32 :=
  ori (codeV 0 w r) (shli (codeV 1 w r) (broadcast S32x128 16#32))

theorem both_apply (w : Vec Ideal S64x128 .bf16) (r : FVec Ideal S32x128 .f32) (p : Fin 32) (q : Fin 128) :
    both w r (ix2 p q) = knib (clip (w (ix2 ⟨2 * p.val, by omega⟩ q) * r (ix2 p q))) ||| (knib (clip (w (ix2 ⟨2 * p.val + 1, by omega⟩ q) * r (ix2 p q))) <<< 16) := by
  rw [← rows_even w p q, ← rows_odd w p q]
  rfl

theorem ckWord_apply (w : Vec Ideal S64x128 .bf16) (r : FVec Ideal S32x128 .f32) (p : Fin 32) (q l l' : Fin 128) (hl : l.val = 2 * q.val % 128) (hl' : l'.val = l.val + 1) :
    ckWord w r (ix2 p q) = both w r (ix2 p l) ||| (both w r (ix2 p l') <<< 4) := by
  have hr : dynamicRotate 1 127#32 none (both w r) rotates_S32x128_d1 (ix2 p l) = both w r (ix2 p l') :=
    dynamicRotate_apply 1 127#32 _ rotates_S32x128_d1 _ _ fun b => by
      match b with
      | ⟨0, _⟩ => rfl
      | ⟨1, _⟩ =>
        show l'.val = (l.val + 128 - 127 % 128) % 128
        omega
  rw [← hr]
  have e : ckWord w r = dynamicGather 1 (ori (both w r) (shli (dynamicRotate 1 127#32 none (both w r) rotates_S32x128_d1) (broadcast S32x128 4#32))) gcol := rfl
  rw [e]
  refine (congrArg (ori (both w r) (shli (dynamicRotate 1 127#32 none (both w r) rotates_S32x128_d1) (broadcast S32x128 4#32))) (?_ : _ = ix2 p l)).trans rfl
  refine Shape.idx_ext₂ rfl ?_
  show (gcol (ix2 p q)).toNat % 128 = l.val
  rw [gcol_apply, hl]

theorem low_bits (a b a' b' : EReal) :
    BitVec.setWidth 8 (((knib (clip a) ||| (knib (clip b) <<< 16)) ||| ((knib (clip a') ||| (knib (clip b') <<< 16)) <<< 4)).extractLsb' (16 * 0) 16) = pair a a' := by
  unfold pair
  generalize knib (clip a) = x
  generalize knib (clip b) = y
  generalize knib (clip a') = x'
  generalize knib (clip b') = y'
  apply BitVec.eq_of_getLsbD_eq
  intro i hi
  have : i = 0 ∨ i = 1 ∨ i = 2 ∨ i = 3 ∨ i = 4 ∨ i = 5 ∨ i = 6 ∨ i = 7 := by omega
  rcases this with rfl | rfl | rfl | rfl | rfl | rfl | rfl | rfl <;> simp

theorem high_zero : ∀ n : Fin 16, (BitVec.ofNat 32 n.val)[12] = false ∧ (BitVec.ofNat 32 n.val)[13] = false ∧ (BitVec.ofNat 32 n.val)[14] = false ∧ (BitVec.ofNat 32 n.val)[15] = false ∧ (BitVec.ofNat 32 n.val)[16] = false ∧ (BitVec.ofNat 32 n.val)[17] = false ∧ (BitVec.ofNat 32 n.val)[18] = false ∧ (BitVec.ofNat 32 n.val)[19] = false ∧ (BitVec.ofNat 32 n.val)[20] = false ∧ (BitVec.ofNat 32 n.val)[21] = false ∧ (BitVec.ofNat 32 n.val)[22] = false ∧ (BitVec.ofNat 32 n.val)[23] = false := by decide

theorem high_bits (a b a' b' : EReal) :
    BitVec.setWidth 8 (((knib (clip a) ||| (knib (clip b) <<< 16)) ||| ((knib (clip a') ||| (knib (clip b') <<< 16)) <<< 4)).extractLsb' (16 * 1) 16) = pair b b' := by
  unfold pair
  obtain ⟨n, hn⟩ := Cert.Codes.nib_low a
  obtain ⟨n', hn'⟩ := Cert.Codes.nib_low a'
  obtain ⟨e12, e13, e14, e15, e16, e17, e18, e19, e20, e21, e22, e23⟩ := high_zero n
  obtain ⟨f12, f13, f14, f15, f16, f17, f18, f19, f20, f21, f22, f23⟩ := high_zero n'
  rw [← hn] at e12 e13 e14 e15 e16 e17 e18 e19 e20 e21 e22 e23
  rw [← hn'] at f12 f13 f14 f15 f16 f17 f18 f19 f20 f21 f22 f23
  generalize knib (clip a) = x at e12 e13 e14 e15 e16 e17 e18 e19 e20 e21 e22 e23 ⊢
  generalize knib (clip b) = y
  generalize knib (clip a') = x' at f12 f13 f14 f15 f16 f17 f18 f19 f20 f21 f22 f23 ⊢
  generalize knib (clip b') = y'
  clear hn hn'
  apply BitVec.eq_of_getLsbD_eq
  intro i hi
  have : i = 0 ∨ i = 1 ∨ i = 2 ∨ i = 3 ∨ i = 4 ∨ i = 5 ∨ i = 6 ∨ i = 7 := by omega
  rcases this with rfl | rfl | rfl | rfl | rfl | rfl | rfl | rfl <;> simp [e12, e13, e14, e15, e16, e17, e18, e19, e20, e21, e22, e23, f12, f13, f14, f15, f16, f17, f18, f19, f20, f21, f22, f23]

theorem pay3_apply (p : Fin 32) (q : Fin 128) : k0_pay3 (ix2 p q) = BitVec.ofBool (decide (q.val < 64)) := by
  have h : ∀ q : Fin 128, IntOp.cmpi .slt (BitVec.ofNat 32 q.val) 64#32 = BitVec.ofBool (decide (q.val < 64)) := by decide +kernel
  refine Eq.trans ?_ (h q)
  pointwise [k0_pay3]

/-- An entry of a tile of packed pairs of columns: the tile and the lane are those of twice the column. -/
theorem ckTile_apply (w : Vec Ideal S64x128 .bf16) (r : FVec Ideal S32x128 .f32) (w' : Vec Ideal S64x128 .bf16) (r' : FVec Ideal S32x128 .f32) (p : Fin 64) (q : Fin 128)
    (l l' : Fin 128) (hl : l.val = 2 * q.val % 128) (hl' : l'.val = l.val + 1) :
    ckTile w r w' r' (ix2 p q) = if q.val < 64 then pair (w (ix2 p l) * r (ix2 ⟨p.val / 2, by omega⟩ l)) (w (ix2 p l') * r (ix2 ⟨p.val / 2, by omega⟩ l'))
      else pair (w' (ix2 p l) * r' (ix2 ⟨p.val / 2, by omega⟩ l)) (w' (ix2 p l') * r' (ix2 ⟨p.val / 2, by omega⟩ l')) := by
  have hb : ckTile w r w' r' (ix2 p q) = BitVec.setWidth 8 ((select k0_pay3 (ckWord w r) (ckWord w' r') (ix2 ⟨p.val / 2, by omega⟩ q)).extractLsb' (16 * (p.val % 2)) 16) := by
    unfold ckTile
    refine congrArg (BitVec.setWidth 8) ((bitcast_32_16 _ bitcasts_S32x128_w32_S64x128_w16 _).trans ?_)
    refine congrArg₂ (fun j n => (select k0_pay3 (ckWord w r) (ckWord w' r') j).extractLsb' (16 * n) 16) (Shape.idx_ext₂ rfl rfl) rfl
  have hs : select k0_pay3 (ckWord w r) (ckWord w' r') (ix2 ⟨p.val / 2, by omega⟩ q) = if q.val < 64 then ckWord w r (ix2 ⟨p.val / 2, by omega⟩ q) else ckWord w' r' (ix2 ⟨p.val / 2, by omega⟩ q) := by
    show Scalar.select (k0_pay3 (ix2 ⟨p.val / 2, by omega⟩ q)) _ _ = _
    rw [pay3_apply]
    by_cases h : q.val < 64
    · rw [if_pos h, Cert.Codes.sel_pos h]
    · rw [if_neg h, Cert.Codes.sel_neg h]
  rw [hb, hs]
  have key : ∀ (w : Vec Ideal S64x128 .bf16) (r : FVec Ideal S32x128 .f32), BitVec.setWidth 8 ((ckWord w r (ix2 ⟨p.val / 2, by omega⟩ q)).extractLsb' (16 * (p.val % 2)) 16)
      = pair (w (ix2 p l) * r (ix2 ⟨p.val / 2, by omega⟩ l)) (w (ix2 p l') * r (ix2 ⟨p.val / 2, by omega⟩ l')) := by
    intro w r
    rw [ckWord_apply w r _ q l l' hl hl', both_apply, both_apply]
    by_cases h : p.val % 2 = 0
    · rw [h, low_bits]
      rw [show (⟨2 * (p.val / 2), by omega⟩ : Fin 64) = p from Fin.ext (by show 2 * (p.val / 2) = p.val; omega)]
    · have h1 : p.val % 2 = 1 := by omega
      rw [h1, high_bits]
      rw [show (⟨2 * (p.val / 2) + 1, by omega⟩ : Fin 64) = p from Fin.ext (by show 2 * (p.val / 2) + 1 = p.val; omega)]
  by_cases h : q.val < 64
  · rw [if_pos h, if_pos h]; exact key w r
  · rw [if_neg h, if_neg h]; exact key w' r'

end Cert.QuantIdeal.Codes
end
-- ==== Proof.CodesLoop.lean ====
/-
  What the loop over the rows of a block leaves in the two windows of codes: each pair of codes where it belongs.
-/
module

public import proofs.«01_k».proof.Proof.CodesTile
public import Idealize.ShloMosaic.Lib.Pipeline.ReadBack

@[expose] public section

set_option maxRecDepth 16384

noncomputable section

namespace Cert.QuantIdeal.Codes

open Cert.QuantIdeal Cert.QuantIdeal.Gen Idealize.ShloMosaic Idealize.ShloMosaic.TcCoe Idealize.SL.Sem

theorem trips_lt (k : Fin k0_t1_loop.trips) : k.val < 4 := k.isLt

/-- The pairs of rows' codes, -/
def cnG (W : Vec Ideal S512x2048 .bf16) (R : Vec Ideal S32x2048 .f32) : Vec Ideal S256x2048 .i8 := fun y =>
  pair (W (ix2 ⟨2 * (y 0).val, by have h : (y 0).val < 256 := (y 0).isLt; omega⟩ ⟨(y 1).val, (y 1).isLt⟩) * R (ix2 ⟨(y 0).val / 8, by have h : (y 0).val < 256 := (y 0).isLt; omega⟩ ⟨(y 1).val, (y 1).isLt⟩))
    (W (ix2 ⟨2 * (y 0).val + 1, by have h : (y 0).val < 256 := (y 0).isLt; omega⟩ ⟨(y 1).val, (y 1).isLt⟩) * R (ix2 ⟨(y 0).val / 8, by have h : (y 0).val < 256 := (y 0).isLt; omega⟩ ⟨(y 1).val, (y 1).isLt⟩))

/-- and the pairs of columns'. -/
def ckG (W : Vec Ideal S512x2048 .bf16) (R : Vec Ideal S32x2048 .f32) : Vec Ideal S512x1024 .i8 := fun y =>
  pair (W (ix2 ⟨(y 0).val, (y 0).isLt⟩ ⟨2 * (y 1).val, by have h : (y 1).val < 1024 := (y 1).isLt; omega⟩) * R (ix2 ⟨(y 0).val / 16, by have h : (y 0).val < 512 := (y 0).isLt; omega⟩ ⟨2 * (y 1).val, by have h : (y 1).val < 1024 := (y 1).isLt; omega⟩))
    (W (ix2 ⟨(y 0).val, (y 0).isLt⟩ ⟨2 * (y 1).val + 1, by have h : (y 1).val < 1024 := (y 1).isLt; omega⟩) * R (ix2 ⟨(y 0).val / 16, by have h : (y 0).val < 512 := (y 0).isLt; omega⟩ ⟨2 * (y 1).val + 1, by have h : (y 1).val < 1024 := (y 1).isLt; omega⟩))

section Tiles

variable (arg2 : Memref sig .tc .vmem S512x2048 .bf16) (arg9 : Memref sig .tc .vmem S32x2048 .f32)
  (X2 : BufTy.Contents (Elt Ideal) arg2.view.ty) (X9 : BufTy.Contents (Elt Ideal) arg9.view.ty) (k : Fin k0_t1_loop.trips)

theorem wTile_apply (off : Fin 2 → Nat) (hb) (p : Fin 64) (q : Fin 128) (r : Fin 512) (l : Fin 2048) (hr : r.val = off 0 + p.val) (hl : l.val = off 1 + q.val) :
    wTile arg2 X2 off hb (ix2 p q) = arg2.view.read (Elt Ideal) X2 (ix2 r l) := by
  show arg2.view.read (Elt Ideal) X2 ((Rect.unit (s := S512x2048) off S64x128.size hb).idx (ix2 p q)) = _
  refine congrArg (arg2.view.read (Elt Ideal) X2) (Shape.idx_ext₂ ?_ ?_)
  · show off 0 + 1 * p.val = r.val; omega
  · show off 1 + 1 * q.val = l.val; omega

theorem rTile_apply (off : Fin 2 → Nat) (hb) (p : Fin 8) (q : Fin 128) (r : Fin 32) (l : Fin 2048) (hr : r.val = off 0 + p.val) (hl : l.val = off 1 + q.val) :
    rTile arg9 X9 off hb (ix2 p q) = arg9.view.read (Elt Ideal) X9 (ix2 r l) := by
  show arg9.view.read (Elt Ideal) X9 ((Rect.unit (s := S32x2048) off S8x128.size hb).idx (ix2 p q)) = _
  refine congrArg (arg9.view.read (Elt Ideal) X9) (Shape.idx_ext₂ ?_ ?_)
  · show off 0 + 1 * p.val = r.val; omega
  · show off 1 + 1 * q.val = l.val; omega

/-- The factors over the rows of the tile's half. -/
def spread (h : Fin 2) (v : Vec Ideal S8x128 .f32) : FVec Ideal S32x128 .f32 := if h.val = 0 then k0_pay7 v else spreadB v
theorem spread_apply (h : Fin 2) (v : Vec Ideal S8x128 .f32) (p : Fin 32) (q : Fin 128) : spread h v (ix2 p q) = v (ix2 ⟨4 * h.val + p.val / 8, by omega⟩ q) := by
  match h with
  | ⟨0, _⟩ => exact (spreadA_apply v p q).trans (congrArg (fun r => v (ix2 r q)) (Fin.ext (by show p.val / 8 = 4 * 0 + p.val / 8; omega)))
  | ⟨1, _⟩ => exact spreadB_apply v p q

theorem cn_piece (h : Fin 2) (col : Nat) (hcol : col + 128 ≤ 2048) (oS oW oR : Fin 2 → Nat) (hS) (hW) (hR) (eS : oS = ![64 * k.val + 32 * h.val, col]) (eW : oW = ![128 * k.val + 64 * h.val, col]) (eR : oR = ![8 * k.val, col])
    (x : S32x128.Idx) : cnTile (wTile arg2 X2 oW hW) (spread h (rTile arg9 X9 oR hR)) x = cnG (arg2.view.read (Elt Ideal) X2) (arg9.view.read (Elt Ideal) X9) ((Rect.unit (s := S256x2048) oS S32x128.size hS).emb x) := by
  obtain ⟨p, q, rfl⟩ : ∃ (p : Fin 32) (q : Fin 128), x = ix2 p q := ⟨x 0, x 1, eq_ix2 x⟩
  have hk := trips_lt k
  have hh := h.isLt
  have hp := p.isLt
  have hq := q.isLt
  subst eS eW eR
  have he : (Rect.unit (s := S256x2048) ![64 * k.val + 32 * h.val, col] S32x128.size hS).emb (ix2 p q) = (ix2 ⟨64 * k.val + 32 * h.val + p.val, by omega⟩ ⟨col + q.val, by omega⟩ : S256x2048.Idx) := by
    refine Shape.idx_ext₂ ?_ ?_
    · show 64 * k.val + 32 * h.val + 1 * p.val = 64 * k.val + 32 * h.val + p.val; omega
    · show col + 1 * q.val = col + q.val; omega
  rw [he, cnTile_apply, spread_apply]
  unfold cnG
  rw [wTile_apply arg2 X2 _ _ _ q ⟨2 * (64 * k.val + 32 * h.val + p.val), by omega⟩ ⟨col + q.val, by omega⟩ (by show 2 * (64 * k.val + 32 * h.val + p.val) = 128 * k.val + 64 * h.val + 2 * p.val; omega) rfl,
    wTile_apply arg2 X2 _ _ _ q ⟨2 * (64 * k.val + 32 * h.val + p.val) + 1, by omega⟩ ⟨col + q.val, by omega⟩ (by show 2 * (64 * k.val + 32 * h.val + p.val) + 1 = 128 * k.val + 64 * h.val + (2 * p.val + 1); omega) rfl,
    rTile_apply arg9 X9 _ _ _ q ⟨(64 * k.val + 32 * h.val + p.val) / 8, by omega⟩ ⟨col + q.val, by omega⟩ (by show (64 * k.val + 32 * h.val + p.val) / 8 = 8 * k.val + (4 * h.val + p.val / 8); omega) rfl]
  rfl

theorem ck_piece (h : Fin 2) (col : Nat) (hcol : 2 * col + 256 ≤ 2048) (oS oW oR oW' oR' : Fin 2 → Nat) (hS) (hW) (hR) (hW') (hR') (eS : oS = ![128 * k.val + 64 * h.val, col]) (eW : oW = ![128 * k.val + 64 * h.val, 2 * col]) (eR : oR = ![8 * k.val, 2 * col])
    (eW' : oW' = ![128 * k.val + 64 * h.val, 2 * col + 128]) (eR' : oR' = ![8 * k.val, 2 * col + 128])
    (x : S64x128.Idx) : ckTile (wTile arg2 X2 oW hW) (spread h (rTile arg9 X9 oR hR)) (wTile arg2 X2 oW' hW') (spread h (rTile arg9 X9 oR' hR')) x
      = ckG (arg2.view.read (Elt Ideal) X2) (arg9.view.read (Elt Ideal) X9) ((Rect.unit (s := S512x1024) oS S64x128.size hS).emb x) := by
  obtain ⟨p, q, rfl⟩ : ∃ (p : Fin 64) (q : Fin 128), x = ix2 p q := ⟨x 0, x 1, eq_ix2 x⟩
  have hk := trips_lt k
  have hh := h.isLt
  have hp := p.isLt
  have hq := q.isLt
  subst eS eW eR eW' eR'
  have he : (Rect.unit (s := S512x1024) ![128 * k.val + 64 * h.val, col] S64x128.size hS).emb (ix2 p q) = (ix2 ⟨128 * k.val + 64 * h.val + p.val, by omega⟩ ⟨col + q.val, by omega⟩ : S512x1024.Idx) := by
    refine Shape.idx_ext₂ ?_ ?_
    · show 128 * k.val + 64 * h.val + 1 * p.val = 128 * k.val + 64 * h.val + p.val; omega
    · show col + 1 * q.val = col + q.val; omega
  obtain ⟨l, hl⟩ : ∃ l : Fin 128, l.val = 2 * q.val % 128 := ⟨⟨2 * q.val % 128, by omega⟩, rfl⟩
  obtain ⟨l', hl'⟩ : ∃ l' : Fin 128, l'.val = l.val + 1 := ⟨⟨l.val + 1, by omega⟩, rfl⟩
  rw [he, ckTile_apply _ _ _ _ p q l l' hl hl']
  simp only [spread_apply]
  unfold ckG
  by_cases c : q.val < 64
  · rw [if_pos c]
    rw [wTile_apply arg2 X2 _ _ p l ⟨128 * k.val + 64 * h.val + p.val, by omega⟩ ⟨2 * (col + q.val), by omega⟩ rfl (by show 2 * (col + q.val) = 2 * col + l.val; omega),
      wTile_apply arg2 X2 _ _ p l' ⟨128 * k.val + 64 * h.val + p.val, by omega⟩ ⟨2 * (col + q.val) + 1, by omega⟩ rfl (by show 2 * (col + q.val) + 1 = 2 * col + l'.val; omega),
      rTile_apply arg9 X9 _ _ _ l ⟨(128 * k.val + 64 * h.val + p.val) / 16, by omega⟩ ⟨2 * (col + q.val), by omega⟩ (by show (128 * k.val + 64 * h.val + p.val) / 16 = 8 * k.val + (4 * h.val + p.val / 2 / 8); omega) (by show 2 * (col + q.val) = 2 * col + l.val; omega),
      rTile_apply arg9 X9 _ _ _ l' ⟨(128 * k.val + 64 * h.val + p.val) / 16, by omega⟩ ⟨2 * (col + q.val) + 1, by omega⟩ (by show (128 * k.val + 64 * h.val + p.val) / 16 = 8 * k.val + (4 * h.val + p.val / 2 / 8); omega) (by show 2 * (col + q.val) + 1 = 2 * col + l'.val; omega)]
    rfl
  · rw [if_neg c]
    rw [wTile_apply arg2 X2 _ _ p l ⟨128 * k.val + 64 * h.val + p.val, by omega⟩ ⟨2 * (col + q.val), by omega⟩ rfl (by show 2 * (col + q.val) = 2 * col + 128 + l.val; omega),
      wTile_apply arg2 X2 _ _ p l' ⟨128 * k.val + 64 * h.val + p.val, by omega⟩ ⟨2 * (col + q.val) + 1, by omega⟩ rfl (by show 2 * (col + q.val) + 1 = 2 * col + 128 + l'.val; omega),
      rTile_apply arg9 X9 _ _ _ l ⟨(128 * k.val + 64 * h.val + p.val) / 16, by omega⟩ ⟨2 * (col + q.val), by omega⟩ (by show (128 * k.val + 64 * h.val + p.val) / 16 = 8 * k.val + (4 * h.val + p.val / 2 / 8); omega) (by show 2 * (col + q.val) = 2 * col + 128 + l.val; omega),
      rTile_apply arg9 X9 _ _ _ l' ⟨(128 * k.val + 64 * h.val + p.val) / 16, by omega⟩ ⟨2 * (col + q.val) + 1, by omega⟩ (by show (128 * k.val + 64 * h.val + p.val) / 16 = 8 * k.val + (4 * h.val + p.val / 2 / 8); omega) (by show 2 * (col + q.val) + 1 = 2 * col + 128 + l'.val; omega)]
    rfl

theorem cn_in (h : Fin 2) (col : Nat) (oS : Fin 2 → Nat) (hS) (eS : oS = ![64 * k.val + 32 * h.val, col]) (y : S256x2048.Idx)
    (h0 : (y 0).val / 32 = 2 * k.val + h.val) (h1 : col ≤ (y 1).val ∧ (y 1).val < col + 128) : y ∈ (Rect.unit (s := S256x2048) oS S32x128.size hS).set := by
  subst eS
  rw [Rect.mem_set_unit]
  intro a
  match a with
  | ⟨0, _⟩ => show 64 * k.val + 32 * h.val ≤ (y 0).val ∧ (y 0).val < 64 * k.val + 32 * h.val + 32; omega
  | ⟨1, _⟩ => exact h1

theorem ck_in (h : Fin 2) (col : Nat) (oS : Fin 2 → Nat) (hS) (eS : oS = ![128 * k.val + 64 * h.val, col]) (y : S512x1024.Idx)
    (h0 : (y 0).val / 64 = 2 * k.val + h.val) (h1 : col ≤ (y 1).val ∧ (y 1).val < col + 128) : y ∈ (Rect.unit (s := S512x1024) oS S64x128.size hS).set := by
  subst eS
  rw [Rect.mem_set_unit]
  intro a
  match a with
  | ⟨0, _⟩ => show 128 * k.val + 64 * h.val ≤ (y 0).val ∧ (y 0).val < 128 * k.val + 64 * h.val + 64; omega
  | ⟨1, _⟩ => exact h1

/-- A trip's tiles of pairs of rows are blocks of the one array, -/
theorem cn_pieces : View.PiecesOf (cnG (arg2.view.read (Elt Ideal) X2) (arg9.view.read (Elt Ideal) X9)) (cnList arg2 arg9 X2 X9 k) := by
  unfold cnList
  exact ⟨cn_piece arg2 arg9 X2 X9 k 1 1920 (by decide) _ _ _ (k0_off56_inb k 1) (k0_off54_inb k 1) (k0_off55_inb k) (k0_off56_eq k 1) (k0_off54_eq k 1) (k0_off55_eq k),
    cn_piece arg2 arg9 X2 X9 k 1 1792 (by decide) _ _ _ (k0_off53_inb k 1) (k0_off51_inb k 1) (k0_off52_inb k) (k0_off53_eq k 1) (k0_off51_eq k 1) (k0_off52_eq k),
    cn_piece arg2 arg9 X2 X9 k 1 1664 (by decide) _ _ _ (k0_off49_inb k 1) (k0_off47_inb k 1) (k0_off48_inb k) (k0_off49_eq k 1) (k0_off47_eq k 1) (k0_off48_eq k),
    cn_piece arg2 arg9 X2 X9 k 1 1536 (by decide) _ _ _ (k0_off46_inb k 1) (k0_off44_inb k 1) (k0_off45_inb k) (k0_off46_eq k 1) (k0_off44_eq k 1) (k0_off45_eq k),
    cn_piece arg2 arg9 X2 X9 k 1 1408 (by decide) _ _ _ (k0_off42_inb k 1) (k0_off40_inb k 1) (k0_off41_inb k) (k0_off42_eq k 1) (k0_off40_eq k 1) (k0_off41_eq k),
    cn_piece arg2 arg9 X2 X9 k 1 1280 (by decide) _ _ _ (k0_off39_inb k 1) (k0_off37_inb k 1) (k0_off38_inb k) (k0_off39_eq k 1) (k0_off37_eq k 1) (k0_off38_eq k),
    cn_piece arg2 arg9 X2 X9 k 1 1152 (by decide) _ _ _ (k0_off35_inb k 1) (k0_off33_inb k 1) (k0_off34_inb k) (k0_off35_eq k 1) (k0_off33_eq k 1) (k0_off34_eq k),
    cn_piece arg2 arg9 X2 X9 k 1 1024 (by decide) _ _ _ (k0_off32_inb k 1) (k0_off30_inb k 1) (k0_off31_inb k) (k0_off32_eq k 1) (k0_off30_eq k 1) (k0_off31_eq k),
    cn_piece arg2 arg9 X2 X9 k 1 896 (by decide) _ _ _ (k0_off28_inb k 1) (k0_off26_inb k 1) (k0_off27_inb k) (k0_off28_eq k 1) (k0_off26_eq k 1) (k0_off27_eq k),
    cn_piece arg2 arg9 X2 X9 k 1 768 (by decide) _ _ _ (k0_off25_inb k 1) (k0_off23_inb k 1) (k0_off24_inb k) (k0_off25_eq k 1) (k0_off23_eq k 1) (k0_off24_eq k),
    cn_piece arg2 arg9 X2 X9 k 1 640 (by decide) _ _ _ (k0_off21_inb k 1) (k0_off19_inb k 1) (k0_off20_inb k) (k0_off21_eq k 1) (k0_off19_eq k 1) (k0_off20_eq k),
    cn_piece arg2 arg9 X2 X9 k 1 512 (by decide) _ _ _ (k0_off18_inb k 1) (k0_off16_inb k 1) (k0_off17_inb k) (k0_off18_eq k 1) (k0_off16_eq k 1) (k0_off17_eq k),
    cn_piece arg2 arg9 X2 X9 k 1 384 (by decide) _ _ _ (k0_off14_inb k 1) (k0_off12_inb k 1) (k0_off13_inb k) (k0_off14_eq k 1) (k0_off12_eq k 1) (k0_off13_eq k),
    cn_piece arg2 arg9 X2 X9 k 1 256 (by decide) _ _ _ (k0_off11_inb k 1) (k0_off9_inb k 1) (k0_off10_inb k) (k0_off11_eq k 1) (k0_off9_eq k 1) (k0_off10_eq k),
    cn_piece arg2 arg9 X2 X9 k 1 128 (by decide) _ _ _ (k0_off7_inb k 1) (k0_off5_inb k 1) (k0_off6_inb k) (k0_off7_eq k 1) (k0_off5_eq k 1) (k0_off6_eq k),
    cn_piece arg2 arg9 X2 X9 k 1 0 (by decide) _ _ _ (k0_off4_inb k 1) (k0_off2_inb k 1) (k0_off3_inb k) (k0_off4_eq k 1) (k0_off2_eq k 1) (k0_off3_eq k),
    cn_piece arg2 arg9 X2 X9 k 0 1920 (by decide) _ _ _ (k0_off56_inb k 0) (k0_off54_inb k 0) (k0_off55_inb k) (k0_off56_eq k 0) (k0_off54_eq k 0) (k0_off55_eq k),
    cn_piece arg2 arg9 X2 X9 k 0 1792 (by decide) _ _ _ (k0_off53_inb k 0) (k0_off51_inb k 0) (k0_off52_inb k) (k0_off53_eq k 0) (k0_off51_eq k 0) (k0_off52_eq k),
    cn_piece arg2 arg9 X2 X9 k 0 1664 (by decide) _ _ _ (k0_off49_inb k 0) (k0_off47_inb k 0) (k0_off48_inb k) (k0_off49_eq k 0) (k0_off47_eq k 0) (k0_off48_eq k),
    cn_piece arg2 arg9 X2 X9 k 0 1536 (by decide) _ _ _ (k0_off46_inb k 0) (k0_off44_inb k 0) (k0_off45_inb k) (k0_off46_eq k 0) (k0_off44_eq k 0) (k0_off45_eq k),
    cn_piece arg2 arg9 X2 X9 k 0 1408 (by decide) _ _ _ (k0_off42_inb k 0) (k0_off40_inb k 0) (k0_off41_inb k) (k0_off42_eq k 0) (k0_off40_eq k 0) (k0_off41_eq k),
    cn_piece arg2 arg9 X2 X9 k 0 1280 (by decide) _ _ _ (k0_off39_inb k 0) (k0_off37_inb k 0) (k0_off38_inb k) (k0_off39_eq k 0) (k0_off37_eq k 0) (k0_off38_eq k),
    cn_piece arg2 arg9 X2 X9 k 0 1152 (by decide) _ _ _ (k0_off35_inb k 0) (k0_off33_inb k 0) (k0_off34_inb k) (k0_off35_eq k 0) (k0_off33_eq k 0) (k0_off34_eq k),
    cn_piece arg2 arg9 X2 X9 k 0 1024 (by decide) _ _ _ (k0_off32_inb k 0) (k0_off30_inb k 0) (k0_off31_inb k) (k0_off32_eq k 0) (k0_off30_eq k 0) (k0_off31_eq k),
    cn_piece arg2 arg9 X2 X9 k 0 896 (by decide) _ _ _ (k0_off28_inb k 0) (k0_off26_inb k 0) (k0_off27_inb k) (k0_off28_eq k 0) (k0_off26_eq k 0) (k0_off27_eq k),
    cn_piece arg2 arg9 X2 X9 k 0 768 (by decide) _ _ _ (k0_off25_inb k 0) (k0_off23_inb k 0) (k0_off24_inb k) (k0_off25_eq k 0) (k0_off23_eq k 0) (k0_off24_eq k),
    cn_piece arg2 arg9 X2 X9 k 0 640 (by decide) _ _ _ (k0_off21_inb k 0) (k0_off19_inb k 0) (k0_off20_inb k) (k0_off21_eq k 0) (k0_off19_eq k 0) (k0_off20_eq k),
    cn_piece arg2 arg9 X2 X9 k 0 512 (by decide) _ _ _ (k0_off18_inb k 0) (k0_off16_inb k 0) (k0_off17_inb k) (k0_off18_eq k 0) (k0_off16_eq k 0) (k0_off17_eq k),
    cn_piece arg2 arg9 X2 X9 k 0 384 (by decide) _ _ _ (k0_off14_inb k 0) (k0_off12_inb k 0) (k0_off13_inb k) (k0_off14_eq k 0) (k0_off12_eq k 0) (k0_off13_eq k),
    cn_piece arg2 arg9 X2 X9 k 0 256 (by decide) _ _ _ (k0_off11_inb k 0) (k0_off9_inb k 0) (k0_off10_inb k) (k0_off11_eq k 0) (k0_off9_eq k 0) (k0_off10_eq k),
    cn_piece arg2 arg9 X2 X9 k 0 128 (by decide) _ _ _ (k0_off7_inb k 0) (k0_off5_inb k 0) (k0_off6_inb k) (k0_off7_eq k 0) (k0_off5_eq k 0) (k0_off6_eq k),
    cn_piece arg2 arg9 X2 X9 k 0 0 (by decide) _ _ _ (k0_off4_inb k 0) (k0_off2_inb k 0) (k0_off3_inb k) (k0_off4_eq k 0) (k0_off2_eq k 0) (k0_off3_eq k),
    trivial⟩

/-- and its tiles of pairs of columns. -/
theorem ck_pieces : View.PiecesOf (ckG (arg2.view.read (Elt Ideal) X2) (arg9.view.read (Elt Ideal) X9)) (ckList arg2 arg9 X2 X9 k) := by
  unfold ckList
  exact ⟨ck_piece arg2 arg9 X2 X9 k 1 896 (by decide) _ _ _ _ _ (k0_off57_inb k 1) (k0_off51_inb k 1) (k0_off52_inb k) (k0_off54_inb k 1) (k0_off55_inb k) (k0_off57_eq k 1) (k0_off51_eq k 1) (k0_off52_eq k) (k0_off54_eq k 1) (k0_off55_eq k),
    ck_piece arg2 arg9 X2 X9 k 1 768 (by decide) _ _ _ _ _ (k0_off50_inb k 1) (k0_off44_inb k 1) (k0_off45_inb k) (k0_off47_inb k 1) (k0_off48_inb k) (k0_off50_eq k 1) (k0_off44_eq k 1) (k0_off45_eq k) (k0_off47_eq k 1) (k0_off48_eq k),
    ck_piece arg2 arg9 X2 X9 k 1 640 (by decide) _ _ _ _ _ (k0_off43_inb k 1) (k0_off37_inb k 1) (k0_off38_inb k) (k0_off40_inb k 1) (k0_off41_inb k) (k0_off43_eq k 1) (k0_off37_eq k 1) (k0_off38_eq k) (k0_off40_eq k 1) (k0_off41_eq k),
    ck_piece arg2 arg9 X2 X9 k 1 512 (by decide) _ _ _ _ _ (k0_off36_inb k 1) (k0_off30_inb k 1) (k0_off31_inb k) (k0_off33_inb k 1) (k0_off34_inb k) (k0_off36_eq k 1) (k0_off30_eq k 1) (k0_off31_eq k) (k0_off33_eq k 1) (k0_off34_eq k),
    ck_piece arg2 arg9 X2 X9 k 1 384 (by decide) _ _ _ _ _ (k0_off29_inb k 1) (k0_off23_inb k 1) (k0_off24_inb k) (k0_off26_inb k 1) (k0_off27_inb k) (k0_off29_eq k 1) (k0_off23_eq k 1) (k0_off24_eq k) (k0_off26_eq k 1) (k0_off27_eq k),
    ck_piece arg2 arg9 X2 X9 k 1 256 (by decide) _ _ _ _ _ (k0_off22_inb k 1) (k0_off16_inb k 1) (k0_off17_inb k) (k0_off19_inb k 1) (k0_off20_inb k) (k0_off22_eq k 1) (k0_off16_eq k 1) (k0_off17_eq k) (k0_off19_eq k 1) (k0_off20_eq k),
    ck_piece arg2 arg9 X2 X9 k 1 128 (by decide) _ _ _ _ _ (k0_off15_inb k 1) (k0_off9_inb k 1) (k0_off10_inb k) (k0_off12_inb k 1) (k0_off13_inb k) (k0_off15_eq k 1) (k0_off9_eq k 1) (k0_off10_eq k) (k0_off12_eq k 1) (k0_off13_eq k),
    ck_piece arg2 arg9 X2 X9 k 1 0 (by decide) _ _ _ _ _ (k0_off8_inb k 1) (k0_off2_inb k 1) (k0_off3_inb k) (k0_off5_inb k 1) (k0_off6_inb k) (k0_off8_eq k 1) (k0_off2_eq k 1) (k0_off3_eq k) (k0_off5_eq k 1) (k0_off6_eq k),
    ck_piece arg2 arg9 X2 X9 k 0 896 (by decide) _ _ _ _ _ (k0_off57_inb k 0) (k0_off51_inb k 0) (k0_off52_inb k) (k0_off54_inb k 0) (k0_off55_inb k) (k0_off57_eq k 0) (k0_off51_eq k 0) (k0_off52_eq k) (k0_off54_eq k 0) (k0_off55_eq k),
    ck_piece arg2 arg9 X2 X9 k 0 768 (by decide) _ _ _ _ _ (k0_off50_inb k 0) (k0_off44_inb k 0) (k0_off45_inb k) (k0_off47_inb k 0) (k0_off48_inb k) (k0_off50_eq k 0) (k0_off44_eq k 0) (k0_off45_eq k) (k0_off47_eq k 0) (k0_off48_eq k),
    ck_piece arg2 arg9 X2 X9 k 0 640 (by decide) _ _ _ _ _ (k0_off43_inb k 0) (k0_off37_inb k 0) (k0_off38_inb k) (k0_off40_inb k 0) (k0_off41_inb k) (k0_off43_eq k 0) (k0_off37_eq k 0) (k0_off38_eq k) (k0_off40_eq k 0) (k0_off41_eq k),
    ck_piece arg2 arg9 X2 X9 k 0 512 (by decide) _ _ _ _ _ (k0_off36_inb k 0) (k0_off30_inb k 0) (k0_off31_inb k) (k0_off33_inb k 0) (k0_off34_inb k) (k0_off36_eq k 0) (k0_off30_eq k 0) (k0_off31_eq k) (k0_off33_eq k 0) (k0_off34_eq k),
    ck_piece arg2 arg9 X2 X9 k 0 384 (by decide) _ _ _ _ _ (k0_off29_inb k 0) (k0_off23_inb k 0) (k0_off24_inb k) (k0_off26_inb k 0) (k0_off27_inb k) (k0_off29_eq k 0) (k0_off23_eq k 0) (k0_off24_eq k) (k0_off26_eq k 0) (k0_off27_eq k),
    ck_piece arg2 arg9 X2 X9 k 0 256 (by decide) _ _ _ _ _ (k0_off22_inb k 0) (k0_off16_inb k 0) (k0_off17_inb k) (k0_off19_inb k 0) (k0_off20_inb k) (k0_off22_eq k 0) (k0_off16_eq k 0) (k0_off17_eq k) (k0_off19_eq k 0) (k0_off20_eq k),
    ck_piece arg2 arg9 X2 X9 k 0 128 (by decide) _ _ _ _ _ (k0_off15_inb k 0) (k0_off9_inb k 0) (k0_off10_inb k) (k0_off12_inb k 0) (k0_off13_inb k) (k0_off15_eq k 0) (k0_off9_eq k 0) (k0_off10_eq k) (k0_off12_eq k 0) (k0_off13_eq k),
    ck_piece arg2 arg9 X2 X9 k 0 0 (by decide) _ _ _ _ _ (k0_off8_inb k 0) (k0_off2_inb k 0) (k0_off3_inb k) (k0_off5_inb k 0) (k0_off6_inb k) (k0_off8_eq k 0) (k0_off2_eq k 0) (k0_off3_eq k) (k0_off5_eq k 0) (k0_off6_eq k),
    trivial⟩

/-- A trip's tiles cover its 64 pairs of rows, -/
theorem cn_cover (y : S256x2048.Idx) (hy : (y 0).val / 64 = k.val) : ∃ p ∈ cnList arg2 arg9 X2 X9 k, y ∈ p.1.set := by
  have hy1 : (y 1).val < 2048 := (y 1).isLt
  unfold cnList
  have h0 : (y 0).val / 32 = 2 * k.val + 1 ∨ (y 0).val / 32 = 2 * k.val + 0 := by omega
  have h1 : (1920 ≤ (y 1).val ∧ (y 1).val < 1920 + 128) ∨ (1792 ≤ (y 1).val ∧ (y 1).val < 1792 + 128) ∨ (1664 ≤ (y 1).val ∧ (y 1).val < 1664 + 128) ∨ (1536 ≤ (y 1).val ∧ (y 1).val < 1536 + 128) ∨ (1408 ≤ (y 1).val ∧ (y 1).val < 1408 + 128) ∨ (1280 ≤ (y 1).val ∧ (y 1).val < 1280 + 128) ∨ (1152 ≤ (y 1).val ∧ (y 1).val < 1152 + 128) ∨ (1024 ≤ (y 1).val ∧ (y 1).val < 1024 + 128) ∨ (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128) := by omega
  rcases h0 with h0 | h0
  · rcases h1 with h1 | h1 | h1 | h1 | h1 | h1 | h1 | h1 | h1 | h1 | h1 | h1 | h1 | h1 | h1 | h1
    · exact ⟨_, .head _, cn_in k 1 1920 _ (k0_off56_inb k 1) (k0_off56_eq k 1) y h0 h1⟩
    · exact ⟨_, .tail _ (.head _), cn_in k 1 1792 _ (k0_off53_inb k 1) (k0_off53_eq k 1) y h0 h1⟩
    · exact ⟨_, .tail _ (.tail _ (.head _)), cn_in k 1 1664 _ (k0_off49_inb k 1) (k0_off49_eq k 1) y h0 h1⟩
    · exact ⟨_, .tail _ (.tail _ (.tail _ (.head _))), cn_in k 1 1536 _ (k0_off46_inb k 1) (k0_off46_eq k 1) y h0 h1⟩
    · exact ⟨_, .tail _ (.tail _ (.tail _ (.tail _ (.head _)))), cn_in k 1 1408 _ (k0_off42_inb k 1) (k0_off42_eq k 1) y h0 h1⟩
    · exact ⟨_, .tail _ (.tail _ (.tail _ (.tail _ (.tail _ (.head _))))), cn_in k 1 1280 _ (k0_off39_inb k 1) (k0_off39_eq k 1) y h0 h1⟩
    · exact ⟨_, .tail _ (.tail _ (.tail _ (.tail _ (.tail _ (.tail _ (.head _)))))), cn_in k 1 1152 _ (k0_off35_inb k 1) (k0_off35_eq k 1) y h0 h1⟩
    · exact ⟨_, .tail _ (.tail _ (.tail _ (.tail _ (.tail _ (.tail _ (.tail _ (.head _))))))), cn_in k 1 1024 _ (k0_off32_inb k 1) (k0_off32_eq k 1) y h0 h1⟩
    · exact ⟨_, .tail _ (.tail _ (.tail _ (.tail _ (.tail _ (.tail _ (.tail _ (.tail _ (.head _)))))))), cn_in k 1 896 _ (k0_off28_inb k 1) (k0_off28_eq k 1) y h0 h1⟩
    · exact ⟨_, .tail _ (.tail _ (.tail _ (.tail _ (.tail _ (.tail _ (.tail _ (.tail _ (.tail _ (.head _))))))))), cn_in k 1 768 _ (k0_off25_inb k 1) (k0_off25_eq k 1) y h0 h1⟩
    · exact ⟨_, .tail _ (.tail _ (.tail _ (.tail _ (.tail _ (.tail _ (.tail _ (.tail _ (.tail _ (.tail _ (.head _)))))))))), cn_in k 1 640 _ (k0_off21_inb k 1) (k0_off21_eq k 1) y h0 h1⟩
    · exact ⟨_, .tail _ (.tail _ (.tail _ (.tail _ (.tail _ (.tail _ (.tail _ (.tail _ (.tail _ (.tail _ (.tail _ (.head _))))))))))), cn_in k 1 512 _ (k0_off18_inb k 1) (k0_off18_eq k 1) y h0 h1⟩
    · exact ⟨_, .tail _ (.tail _ (.tail _ (.tail _ (.tail _ (.tail _ (.tail _ (.tail _ (.tail _ (.tail _ (.tail _ (.tail _ (.head _)))))))))))), cn_in k 1 384 _ (k0_off14_inb k 1) (k0_off14_eq k 1) y h0 h1⟩
    · exact ⟨_, .tail _ (.tail _ (.tail _ (.tail _ (.tail _ (.tail _ (.tail _ (.tail _ (.tail _ (.tail _ (.tail _ (.tail _ (.tail _ (.head _))))))))))))), cn_in k 1 256 _ (k0_off11_inb k 1) (k0_off11_eq k 1) y h0 h1⟩
    · exact ⟨_, .tail _ (.tail _ (.tail _ (.tail _ (.tail _ (.tail _ (.tail _ (.tail _ (.tail _ (.tail _ (.tail _ (.tail _ (.tail _ (.tail _ (.head _)))))))))))))), cn_in k 1 128 _ (k0_off7_inb k 1) (k0_off7_eq k 1) y h0 h1⟩
    · exact ⟨_, .tail _ (.tail _ (.tail _ (.tail _ (.tail _ (.tail _ (.tail _ (.tail _ (.tail _ (.tail _ (.tail _ (.tail _ (.tail _ (.tail _ (.tail _ (.head _))))))))))))))), cn_in k 1 0 _ (k0_off4_inb k 1) (k0_off4_eq k 1) y h0 h1⟩
  · rcases h1 with h1 | h1 | h1 | h1 | h1 | h1 | h1 | h1 | h1 | h1 | h1 | h1 | h1 | h1 | h1 | h1
    · exact ⟨_, .tail _ (.tail _ (.tail _ (.tail _ (.tail _ (.tail _ (.tail _ (.tail _ (.tail _ (.tail _ (.tail _ (.tail _ (.tail _ (.tail _ (.tail _ (.tail _ (.head _)))))))))))))))), cn_in k 0 1920 _ (k0_off56_inb k 0) (k0_off56_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.head _))))))))))))))))), cn_in k 0 1792 _ (k0_off53_inb k 0) (k0_off53_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), cn_in k 0 1664 _ (k0_off49_inb k 0) (k0_off49_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), cn_in k 0 1536 _ (k0_off46_inb k 0) (k0_off46_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), cn_in k 0 1408 _ (k0_off42_inb k 0) (k0_off42_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), cn_in k 0 1280 _ (k0_off39_inb k 0) (k0_off39_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), cn_in k 0 1152 _ (k0_off35_inb k 0) (k0_off35_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), cn_in k 0 1024 _ (k0_off32_inb k 0) (k0_off32_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), cn_in k 0 896 _ (k0_off28_inb k 0) (k0_off28_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), cn_in k 0 768 _ (k0_off25_inb k 0) (k0_off25_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), cn_in k 0 640 _ (k0_off21_inb k 0) (k0_off21_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), cn_in k 0 512 _ (k0_off18_inb k 0) (k0_off18_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), cn_in k 0 384 _ (k0_off14_inb k 0) (k0_off14_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), cn_in k 0 256 _ (k0_off11_inb k 0) (k0_off11_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), cn_in k 0 128 _ (k0_off7_inb k 0) (k0_off7_eq k 0) y h0 h1⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), cn_in k 0 0 _ (k0_off4_inb k 0) (k0_off4_eq k 0) y h0 h1⟩

/-- and its 128 rows. -/
theorem ck_cover (y : S512x1024.Idx) (hy : (y 0).val / 128 = k.val) : ∃ p ∈ ckList arg2 arg9 X2 X9 k, y ∈ p.1.set := by
  have hy1 : (y 1).val < 1024 := (y 1).isLt
  unfold ckList
  have h0 : (y 0).val / 64 = 2 * k.val + 1 ∨ (y 0).val / 64 = 2 * k.val + 0 := by omega
  have h1 : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128) := by omega
  rcases h0 with h0 | h0
  · rcases h1 with h1 | h1 | h1 | h1 | h1 | h1 | h1 | h1
    · exact ⟨_, .head _, ck_in k 1 896 _ (k0_off57_inb k 1) (k0_off57_eq k 1) y h0 h1⟩
    · exact ⟨_, .tail _ (.head _), ck_in k 1 768 _ (k0_off50_inb k 1) (k0_off50_eq k 1) y h0 h1⟩
    · exact ⟨_, .tail _ (.tail _ (.head _)), ck_in k 1 640 _ (k0_off43_inb k 1) (k0_off43_eq k 1) y h0 h1⟩
    · exact ⟨_, .tail _ (.tail _ (.tail _ (.head _))), ck_in k 1 512 _ (k0_off36_inb k 1) (k0_off36_eq k 1) y h0 h1⟩
    · exact ⟨_, .tail _ (.tail _ (.tail _ (.tail _ (.head _)))), ck_in k 1 384 _ (k0_off29_inb k 1) (k0_off29_eq k 1) y h0 h1⟩
    · exact ⟨_, .tail _ (.tail _ (.tail _ (.tail _ (.tail _ (.head _))))), ck_in k 1 256 _ (k0_off22_inb k 1) (k0_off22_eq k 1) y h0 h1⟩
    · exact ⟨_, .tail _ (.tail _ (.tail _ (.tail _ (.tail _ (.tail _ (.head _)))))), ck_in k 1 128 _ (k0_off15_inb k 1) (k0_off15_eq k 1) y h0 h1⟩
    · exact ⟨_, .tail _ (.tail _ (.tail _ (.tail _ (.tail _ (.tail _ (.tail _ (.head _))))))), ck_in k 1 0 _ (k0_off8_inb k 1) (k0_off8_eq k 1) y h0 h1⟩
  · rcases h1 with h1 | h1 | h1 | h1 | h1 | h1 | h1 | h1
    · exact ⟨_, .tail _ (.tail _ (.tail _ (.tail _ (.tail _ (.tail _ (.tail _ (.tail _ (.head _)))))))), ck_in k 0 896 _ (k0_off57_inb k 0) (k0_off57_eq k 0) y h0 h1⟩
    · exact ⟨_, .tail _ (.tail _ (.tail _ (.tail _ (.tail _ (.tail _ (.tail _ (.tail _ (.tail _ (.head _))))))))), ck_in k 0 768 _ (k0_off50_inb k 0) (k0_off50_eq k 0) y h0 h1⟩
    · exact ⟨_, .tail _ (.tail _ (.tail _ (.tail _ (.tail _ (.tail _ (.tail _ (.tail _ (.tail _ (.tail _ (.head _)))))))))), ck_in k 0 640 _ (k0_off43_inb k 0) (k0_off43_eq k 0) y h0 h1⟩
    · exact ⟨_, .tail _ (.tail _ (.tail _ (.tail _ (.tail _ (.tail _ (.tail _ (.tail _ (.tail _ (.tail _ (.tail _ (.head _))))))))))), ck_in k 0 512 _ (k0_off36_inb k 0) (k0_off36_eq k 0) y h0 h1⟩
    · exact ⟨_, .tail _ (.tail _ (.tail _ (.tail _ (.tail _ (.tail _ (.tail _ (.tail _ (.tail _ (.tail _ (.tail _ (.tail _ (.head _)))))))))))), ck_in k 0 384 _ (k0_off29_inb k 0) (k0_off29_eq k 0) y h0 h1⟩
    · exact ⟨_, .tail _ (.tail _ (.tail _ (.tail _ (.tail _ (.tail _ (.tail _ (.tail _ (.tail _ (.tail _ (.tail _ (.tail _ (.tail _ (.head _))))))))))))), ck_in k 0 256 _ (k0_off22_inb k 0) (k0_off22_eq k 0) y h0 h1⟩
    · exact ⟨_, .tail _ (.tail _ (.tail _ (.tail _ (.tail _ (.tail _ (.tail _ (.tail _ (.tail _ (.tail _ (.tail _ (.tail _ (.tail _ (.tail _ (.head _)))))))))))))), ck_in k 0 128 _ (k0_off15_inb k 0) (k0_off15_eq k 0) y h0 h1⟩
    · exact ⟨_, .tail _ (.tail _ (.tail _ (.tail _ (.tail _ (.tail _ (.tail _ (.tail _ (.tail _ (.tail _ (.tail _ (.tail _ (.tail _ (.tail _ (.tail _ (.head _))))))))))))))), ck_in k 0 0 _ (k0_off8_inb k 0) (k0_off8_eq k 0) y h0 h1⟩

end Tiles

/-- The tiles of the trips before the `n`th, and what they cover. -/
theorem cn_upto (𝒱 : Variants) (c : Dev nD) (bd : Option 𝒱.V) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (X2 : BufTy.Contents (Elt Ideal) arg2.view.ty) (X9 : BufTy.Contents (Elt Ideal) arg9.view.ty) (X10 : BufTy.Contents (Elt Ideal) arg10.view.ty) :
    ∀ n, n ≤ k0_t1_loop.trips →
      (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 n).2.2, ∀ x : p.1.shape.Idx, p.2 x = cnG (arg2.view.read (Elt Ideal) X2) (arg9.view.read (Elt Ideal) X9) (p.1.emb x))
      ∧ ∀ y : S256x2048.Idx, (y 0).val / 64 < n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 n).2.2, y ∈ p.1.set
  | 0, _ => ⟨fun p hp => absurd hp (by rw [pb_k0_t1]; exact List.not_mem_nil), fun y hy => absurd hy (Nat.not_lt_zero _)⟩
  | n + 1, hn => by
    obtain ⟨ih, ihc⟩ := cn_upto 𝒱 c bd i arg1 harg1 arg2 harg2 arg3 harg3 arg4 harg4 arg5 harg5 arg6 harg6 arg7 harg7 arg8 harg8 arg9 harg9 arg10 harg10 arg11 harg11 X2 X9 X10 n (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 X2 X9 X10 ⟨n, hn⟩
    have e2 : (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 (n + 1)).2.2 = cnList arg2 arg9 X2 X9 ⟨n, hn⟩ ++ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 n).2.2 :=
      (congrArg (fun t => t.2.2) e).trans (congrArg (· ++ _) (trip_cn (F := Ideal) 𝒱 c bd i arg1 harg1 arg2 harg2 arg3 harg3 arg4 harg4 arg5 harg5 arg6 harg6 arg7 harg7 arg8 harg8 arg9 harg9 arg10 harg10 arg11 harg11 X2 X9 X10 ⟨n, hn⟩))
    rw [e2]
    refine ⟨fun p hp => ?_, fun y hy => ?_⟩
    · rcases List.mem_append.1 hp with hp | hp
      · exact (cn_pieces arg2 arg9 X2 X9 ⟨n, hn⟩).mem p hp
      · exact ih p hp
    · by_cases c : (y 0).val / 64 = n
      · obtain ⟨p, hp, h⟩ := cn_cover arg2 arg9 X2 X9 ⟨n, hn⟩ y c
        exact ⟨p, List.mem_append_left _ hp, h⟩
      · obtain ⟨p, hp, h⟩ := ihc y (by omega)
        exact ⟨p, List.mem_append_right _ hp, h⟩

/-- So the loop leaves the whole array in its window. -/
theorem cn_read (𝒱 : Variants) (c : Dev nD) (bd : Option 𝒱.V) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (X2 : BufTy.Contents (Elt Ideal) arg2.view.ty) (X9 : BufTy.Contents (Elt Ideal) arg9.view.ty) (X10 : BufTy.Contents (Elt Ideal) arg10.view.ty) {sp : Space} (v : View sig .tc sp S256x2048 .i8) (f : v.ty.Contents (Elt Ideal)) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 k0_t1_loop.trips).2.2) = cnG (arg2.view.read (Elt Ideal) X2) (arg9.view.read (Elt Ideal) X9) := by
  obtain ⟨hp, hc⟩ := cn_upto 𝒱 c bd i arg1 harg1 arg2 harg2 arg3 harg3 arg4 harg4 arg5 harg5 arg6 harg6 arg7 harg7 arg8 harg8 arg9 harg9 arg10 harg10 arg11 harg11 X2 X9 X10 k0_t1_loop.trips le_rfl
  have hc' : ∀ y : S256x2048.Idx, ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 k0_t1_loop.trips).2.2, y ∈ p.1.set := fun y => hc y (by
    have h : (y 0).val < 256 := (y 0).isLt
    show (y 0).val / 64 < 4; omega)
  exact funext fun y => (View.read_writes_apply_eq_canon v f y _ (hc' y)).trans (View.canon_apply_of_pieces _ _ hp y (hc' y))

/-- The tiles of the trips before the `n`th, and what they cover. -/
theorem ck_upto (𝒱 : Variants) (c : Dev nD) (bd : Option 𝒱.V) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (X2 : BufTy.Contents (Elt Ideal) arg2.view.ty) (X9 : BufTy.Contents (Elt Ideal) arg9.view.ty) (X10 : BufTy.Contents (Elt Ideal) arg10.view.ty) :
    ∀ n, n ≤ k0_t1_loop.trips →
      (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 n).2.1, ∀ x : p.1.shape.Idx, p.2 x = ckG (arg2.view.read (Elt Ideal) X2) (arg9.view.read (Elt Ideal) X9) (p.1.emb x))
      ∧ ∀ y : S512x1024.Idx, (y 0).val / 128 < n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 n).2.1, y ∈ p.1.set
  | 0, _ => ⟨fun p hp => absurd hp (by rw [pb_k0_t1]; exact List.not_mem_nil), fun y hy => absurd hy (Nat.not_lt_zero _)⟩
  | n + 1, hn => by
    obtain ⟨ih, ihc⟩ := ck_upto 𝒱 c bd i arg1 harg1 arg2 harg2 arg3 harg3 arg4 harg4 arg5 harg5 arg6 harg6 arg7 harg7 arg8 harg8 arg9 harg9 arg10 harg10 arg11 harg11 X2 X9 X10 n (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 X2 X9 X10 ⟨n, hn⟩
    have e2 : (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 (n + 1)).2.1 = ckList arg2 arg9 X2 X9 ⟨n, hn⟩ ++ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 n).2.1 :=
      (congrArg (fun t => t.2.1) e).trans (congrArg (· ++ _) (trip_ck (F := Ideal) 𝒱 c bd i arg1 harg1 arg2 harg2 arg3 harg3 arg4 harg4 arg5 harg5 arg6 harg6 arg7 harg7 arg8 harg8 arg9 harg9 arg10 harg10 arg11 harg11 X2 X9 X10 ⟨n, hn⟩))
    rw [e2]
    refine ⟨fun p hp => ?_, fun y hy => ?_⟩
    · rcases List.mem_append.1 hp with hp | hp
      · exact (ck_pieces arg2 arg9 X2 X9 ⟨n, hn⟩).mem p hp
      · exact ih p hp
    · by_cases c : (y 0).val / 128 = n
      · obtain ⟨p, hp, h⟩ := ck_cover arg2 arg9 X2 X9 ⟨n, hn⟩ y c
        exact ⟨p, List.mem_append_left _ hp, h⟩
      · obtain ⟨p, hp, h⟩ := ihc y (by omega)
        exact ⟨p, List.mem_append_right _ hp, h⟩

/-- So the loop leaves the whole array in its window. -/
theorem ck_read (𝒱 : Variants) (c : Dev nD) (bd : Option 𝒱.V) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (X2 : BufTy.Contents (Elt Ideal) arg2.view.ty) (X9 : BufTy.Contents (Elt Ideal) arg9.view.ty) (X10 : BufTy.Contents (Elt Ideal) arg10.view.ty) {sp : Space} (v : View sig .tc sp S512x1024 .i8) (f : v.ty.Contents (Elt Ideal)) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 k0_t1_loop.trips).2.1) = ckG (arg2.view.read (Elt Ideal) X2) (arg9.view.read (Elt Ideal) X9) := by
  obtain ⟨hp, hc⟩ := ck_upto 𝒱 c bd i arg1 harg1 arg2 harg2 arg3 harg3 arg4 harg4 arg5 harg5 arg6 harg6 arg7 harg7 arg8 harg8 arg9 harg9 arg10 harg10 arg11 harg11 X2 X9 X10 k0_t1_loop.trips le_rfl
  have hc' : ∀ y : S512x1024.Idx, ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 X2 X9 X10 k0_t1_loop.trips).2.1, y ∈ p.1.set := fun y => hc y (by
    have h : (y 0).val < 512 := (y 0).isLt
    show (y 0).val / 128 < 4; omega)
  exact funext fun y => (View.read_writes_apply_eq_canon v f y _ (hc' y)).trans (View.canon_apply_of_pieces _ _ hp y (hc' y))

end Cert.QuantIdeal.Codes
end
-- ==== Proof.QuantIdealRun.lean ====
/-
  The quantising call's body as a memory triple: from the block maxima it keeps the largest, and leaves the tensor scale and
  its block scales in their windows. Of the codes and of the dequantised weight nothing is said here.
-/
module

public import proofs.«01_k».proof.Proof.Gen.QuantIdeal.Frame
public import proofs.«01_k».proof.Proof.Gen.QuantIdeal.Loops
public import proofs.«01_k».proof.Proof.CodesLoop
public import Idealize.ShloMosaic.Lib.Pipeline.Value
public import Idealize.ShloMosaic.Lib.Tactic

@[expose] public section

set_option maxRecDepth 16384

noncomputable section

namespace Cert.QuantIdeal.Scales

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt Ideal) ℕ (UR sig nD τ) ℕ

/-- The rows of the block maxima the weight has, and those of one point. -/
abbrev rAll : Rect S704x2048 := Rect.unit (s := S704x2048) ![0, 0] S688x2048.size inb_S704x2048_S688x2048_0_0
abbrev rPt (i : grid0.Coords) : Rect S704x2048 := Rect.unit (s := S704x2048) (k0_off1 i) S32x2048.size (k0_off1_inb i)

/-- The largest block maximum. -/
def amaxOf (x : Vec F S704x2048 .f32) : Vec F S1x1 .f32 := k0_pay836 (View.ld x rAll)
/-- The tensor scale. -/
def stOut (a : Vec F S1x1 .f32) : Vec F S1x1 .f32 := k0_pay837 a
/-- The block scales of one point. -/
def sbOut (i : grid0.Coords) (a : Vec F S1x1 .f32) (x : Vec F S704x2048 .f32) : Vec F S32x128 .fp8e4m3 :=
  k0_pay1 (k0_pay838 a (View.ld x (rPt i))) (iota .tc S2048x128 32 [0] iota_S2048x128_d0_w32)

/-- The factors of one point. -/
def rOut (i : grid0.Coords) (a : Vec F S1x1 .f32) (x : Vec F S704x2048 .f32) : Vec F S32x2048 .f32 := k0_pay839 a (View.ld x (rPt i))
/-- The codes of one point, the pairs of rows transposed. -/
def ckOut (i : grid0.Coords) (a : Vec Ideal S1x1 .f32) (x : Vec Ideal S704x2048 .f32) (w : Vec Ideal S512x2048 .bf16) : Vec Ideal S512x1024 .i8 := Codes.ckG w (rOut i a x)
def cnOut (i : grid0.Coords) (a : Vec Ideal S1x1 .f32) (x : Vec Ideal S704x2048 .f32) (w : Vec Ideal S512x2048 .bf16) : Vec Ideal S2048x256 .i8 := k0_pay5 (Codes.cnG w (rOut i a x))

/-- The first point is found by its coordinate. -/
theorem cond_iff (n : Fin 22) : Scalar.cmpi .ne (Scalar.extui (Scalar.cmpi .eq (BitVec.ofNat 32 n.val) 0#32) : BitVec 32) 0#32 = 1#1 ↔ n.val = 0 := by
  revert n; decide +kernel
theorem cond_pos (i : grid0.Coords) (hi : (i 0).val = 0) : Scalar.cmpi .ne (Scalar.extui (Scalar.cmpi .eq (BitVec.ofNat 32 (i 0).val) 0#32) : BitVec 32) 0#32 = 1#1 :=
  (cond_iff (i 0)).2 hi
theorem cond_neg (i : grid0.Coords) (hi : (i 0).val ≠ 0) : ¬ Scalar.cmpi .ne (Scalar.extui (Scalar.cmpi .eq (BitVec.ofNat 32 (i 0).val) 0#32) : BitVec 32) 0#32 = 1#1 :=
  fun h => hi ((cond_iff (i 0)).1 h)

theorem hz : (![0, 0] : Fin 2 → Nat) = fun _ => 0 := funext fun a => by fin_cases a <;> rfl

/-- One store over a whole buffer leaves what was stored, -/
theorem one_store {sp : Space} {S : Shape} {e : EltTy} (v : View sig .tc sp S e) (f : v.ty.Contents (Elt F)) (off : Fin S.rank → Nat)
    (h : off = fun _ => 0) (inb : ∀ a, off a + S.size a ≤ S.size a) (X : S.Idx → Elt F e) :
    v.read (Elt F) (v.writes (Elt F) f [⟨Rect.unit off S.size inb, X⟩]) = X :=
  (View.read_writes_eq_canon v f _ fun y => ⟨_, List.mem_singleton_self _, View.mem_set_unit_zero h inb y⟩).trans (View.canon_unit_zero h inb X)

/-- and a load of one reads what it holds. -/
theorem whole_load {sp : Space} {S : Shape} {e : EltTy} (v : View sig .tc sp S e) {off : Fin S.rank → Nat} (f : v.ty.Contents (Elt F))
    (h : off = fun _ => 0) (inb : ∀ a, off a + S.size a ≤ S.size a) :
    v.readAt (Elt F) (Rect.unit off S.size inb).toLoadRect f = v.read (Elt F) f :=
  View.ld_unit_zero h inb (v.read (Elt F) f)

set_option maxHeartbeats 4000000 in
/-- The body at a later point: it reads the maximum kept. -/
theorem sound_later (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (hi : (i 0).val ≠ 0) (x : Vec Ideal S704x2048 .f32) (w : Vec Ideal S512x2048 .bf16) (a : Vec Ideal S1x1 .f32) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare a ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ (∃ d, owns (c : Thread nD τ) arg3 fullShare d) ∗ owns (c : Thread nD τ) arg4 fullShare (ckOut i a x w) ∗ owns (c : Thread nD τ) arg5 fullShare (cnOut i a x w) ∗ owns (c : Thread nD τ) arg6 fullShare (sbOut i a x) ∗ owns (c : Thread nD τ) arg7 fullShare (stOut a) ∗ owns (c : Thread nD τ) arg8 fullShare a ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_quantise i arg1 harg1 arg2 harg2 arg3 harg3 arg4 harg4 arg5 harg5 arg6 harg6 arg7 harg7 arg8 harg8 arg9 harg9 arg10 harg10 arg11 harg11) K := by
  simp only [cc0_quantise_eq_skeleton]; unfold cc0_quantise_skel
  simp only [k0_part111_eq_skeleton]; unfold k0_part111_skel
  simp only [dif_neg (cond_neg i hi)]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, Hk⟩
  subst hf1 hf2 hf8
  sl_exec
  sl_step
  iapply Hk
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; isplitr
    swap; · iexact H4
    ipureintro
    have hR : arg9.view.read (Elt Ideal) (arg9.view.writes (Elt Ideal) arg9.view.junk (sound_later.sl.H9_1 c i arg1 arg8 f1 f8)) = rOut i (arg8.view.read (Elt Ideal) f8) (arg1.view.read (Elt Ideal) f1) := by
      unfold sound_later.sl.H9_1
      refine (one_store _ _ _ hz _ _).trans ?_
      rw [whole_load _ _ hz]
      rfl
    refine (Codes.ck_read _ _ _ _ _ _ _ _ _ _ _ _ _ _ _ _ _ _ _ _ _ _ _ _ _ _ _ _ _ _ _).trans ?_
    rw [hR]; rfl
  isplitl [H5]
  · iexists _; isplitr
    swap; · iexact H5
    ipureintro
    have hR : arg9.view.read (Elt Ideal) (arg9.view.writes (Elt Ideal) arg9.view.junk (sound_later.sl.H9_1 c i arg1 arg8 f1 f8)) = rOut i (arg8.view.read (Elt Ideal) f8) (arg1.view.read (Elt Ideal) f1) := by
      unfold sound_later.sl.H9_1
      refine (one_store _ _ _ hz _ _).trans ?_
      rw [whole_load _ _ hz]
      rfl
    refine (one_store _ _ _ hz _ _).trans ?_
    unfold sound_later.sl.v55
    rw [whole_load _ _ hz]
    refine congrArg k0_pay5 ((Codes.cn_read _ _ _ _ _ _ _ _ _ _ _ _ _ _ _ _ _ _ _ _ _ _ _ _ _ _ _ _ _ _ _).trans ?_)
    rw [hR]
  isplitl [H6]
  · iexists _; isplitr
    swap; · iexact H6
    ipureintro
    unfold sound_later.sl.H6_1
    refine (one_store _ _ _ hz _ _).trans ?_
    rw [whole_load _ _ hz]
    rfl
  isplitl [H7]
  · iexists _; isplitr
    swap; · iexact H7
    ipureintro
    unfold sound_later.sl.H7_1
    refine (one_store _ _ _ hz _ _).trans ?_
    rw [whole_load _ _ hz]
    rfl
  isplitl [H8]
  · iexists f8; isplitr; · ipureintro; rfl
    iexact H8
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

set_option maxHeartbeats 4000000 in
/-- The body at the first point: it finds the maximum and keeps it. -/
theorem sound_first (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (hi : (i 0).val = 0) (x : Vec Ideal S704x2048 .f32) (w : Vec Ideal S512x2048 .bf16) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ (∃ d, owns (c : Thread nD τ) arg3 fullShare d) ∗ owns (c : Thread nD τ) arg4 fullShare (ckOut i (amaxOf x) x w) ∗ owns (c : Thread nD τ) arg5 fullShare (cnOut i (amaxOf x) x w) ∗ owns (c : Thread nD τ) arg6 fullShare (sbOut i (amaxOf x) x) ∗ owns (c : Thread nD τ) arg7 fullShare (stOut (amaxOf x)) ∗ owns (c : Thread nD τ) arg8 fullShare (amaxOf x) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_quantise i arg1 harg1 arg2 harg2 arg3 harg3 arg4 harg4 arg5 harg5 arg6 harg6 arg7 harg7 arg8 harg8 arg9 harg9 arg10 harg10 arg11 harg11) K := by
  simp only [cc0_quantise_eq_skeleton]; unfold cc0_quantise_skel
  simp only [k0_part111_eq_skeleton]; unfold k0_part111_skel
  simp only [dif_pos (cond_pos i hi)]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; isplitr
    swap; · iexact H4
    ipureintro
    have hR : arg9.view.read (Elt Ideal) (arg9.view.writes (Elt Ideal) arg9.view.junk (sound_first.sl.H9_1 c i arg1 arg8 f1)) = rOut i (amaxOf (arg1.view.read (Elt Ideal) f1)) (arg1.view.read (Elt Ideal) f1) := by
      unfold sound_first.sl.H9_1; unfold sound_first.sl.v3 sound_first.sl.H8_1
      refine (one_store _ _ _ hz _ _).trans ?_
      rw [View.readCov_unit_zero _ hz]
      rfl
    refine (Codes.ck_read _ _ _ _ _ _ _ _ _ _ _ _ _ _ _ _ _ _ _ _ _ _ _ _ _ _ _ _ _ _ _).trans ?_
    rw [hR]; rfl
  isplitl [H5]
  · iexists _; isplitr
    swap; · iexact H5
    ipureintro
    have hR : arg9.view.read (Elt Ideal) (arg9.view.writes (Elt Ideal) arg9.view.junk (sound_first.sl.H9_1 c i arg1 arg8 f1)) = rOut i (amaxOf (arg1.view.read (Elt Ideal) f1)) (arg1.view.read (Elt Ideal) f1) := by
      unfold sound_first.sl.H9_1; unfold sound_first.sl.v3 sound_first.sl.H8_1
      refine (one_store _ _ _ hz _ _).trans ?_
      rw [View.readCov_unit_zero _ hz]
      rfl
    refine (one_store _ _ _ hz _ _).trans ?_
    unfold sound_first.sl.v55
    rw [whole_load _ _ hz]
    refine congrArg k0_pay5 ((Codes.cn_read _ _ _ _ _ _ _ _ _ _ _ _ _ _ _ _ _ _ _ _ _ _ _ _ _ _ _ _ _ _ _).trans ?_)
    rw [hR]
  isplitl [H6]
  · iexists _; isplitr
    swap; · iexact H6
    ipureintro
    unfold sound_first.sl.H6_1; unfold sound_first.sl.v3 sound_first.sl.H8_1
    refine (one_store _ _ _ hz _ _).trans ?_
    rw [View.readCov_unit_zero _ hz]
    rfl
  isplitl [H7]
  · iexists _; isplitr
    swap; · iexact H7
    ipureintro
    unfold sound_first.sl.H7_1; unfold sound_first.sl.v3 sound_first.sl.H8_1
    refine (one_store _ _ _ hz _ _).trans ?_
    rw [View.readCov_unit_zero _ hz]
    rfl
  isplitl [H8]
  · iexists _; isplitr
    swap; · iexact H8
    ipureintro
    unfold sound_first.sl.H8_1
    refine (one_store _ _ _ hz _ _).trans ?_
    rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

end Cert.QuantIdeal.Scales
end
-- ==== Proof.QuantIdealValue.lean ====
/-
  What the quantising call's two scales are, element by element: the tensor scale, the block scales, and the product with the
  zero-one matrix that takes every sixteenth lane.
-/
module

public import proofs.«01_k».proof.Proof.QuantIdealRun
public import Idealize.ShloMosaic.Lib.Pointwise

@[expose] public section

noncomputable section

namespace Cert.QuantIdeal.Scales

open Cert.QuantIdeal Cert.QuantIdeal.Gen Idealize.ShloMosaic Idealize.ShloMosaic.TcCoe Idealize.SL.Sem

/-- The tensor scale from the maximum. -/
def tscale (a : EReal) : EReal := FloatOps.divf (F := Ideal) (φ := .f32) a (Ideal.ofBits .f32 0x45280000#32)

/-- A block's scale from its maximum `e` and the tensor's scale `s`. -/
def bscale (s e : EReal) : EReal :=
  FloatOps.minimumf (F := Ideal) (φ := .f32) (FloatOps.divf (F := Ideal) (φ := .f32) e (s * Ideal.ofBits .f32 0x40C00000#32)) (Ideal.ofBits .f32 0x43E00000#32)

/-- A block's divisor from its maximum `e` and the tensor's scale `s`. -/
def dOf (s e : EReal) : EReal := bscale s e * s

theorem pay839_apply (a : Vec Ideal S1x1 .f32) (v : Vec Ideal S32x2048 .f32) (j : Fin 32) (l : Fin 2048) :
    k0_pay839 a v (ix2 j l) = Codes.recip (dOf (tscale (a (ix2 0 0))) (v (ix2 j l))) := by
  unfold Codes.recip dOf
  pointwise [k0_pay839, k0_pay838, k0_pay837, bscale, tscale]

/-- The two results of codes, as functions of the block maxima and the weight. -/
def ckF (x : S704x2048.Idx → EReal) (w : S11008x2048.Idx → EReal) : S11008x1024.Idx → BitVec 8 := fun i =>
  Codes.pair
    (w (ix2 ⟨(i 0).val, (i 0).isLt⟩ ⟨2 * (i 1).val, by have h : (i 1).val < 1024 := (i 1).isLt; omega⟩)
      * Codes.recip (dOf (tscale (amaxOf (F := Ideal) x (ix2 0 0))) (x (ix2 ⟨(i 0).val / 16, by have h : (i 0).val < 11008 := (i 0).isLt; omega⟩ ⟨2 * (i 1).val, by have h : (i 1).val < 1024 := (i 1).isLt; omega⟩))))
    (w (ix2 ⟨(i 0).val, (i 0).isLt⟩ ⟨2 * (i 1).val + 1, by have h : (i 1).val < 1024 := (i 1).isLt; omega⟩)
      * Codes.recip (dOf (tscale (amaxOf (F := Ideal) x (ix2 0 0))) (x (ix2 ⟨(i 0).val / 16, by have h : (i 0).val < 11008 := (i 0).isLt; omega⟩ ⟨2 * (i 1).val + 1, by have h : (i 1).val < 1024 := (i 1).isLt; omega⟩))))
def cnF (x : S704x2048.Idx → EReal) (w : S11008x2048.Idx → EReal) : S2048x5504.Idx → BitVec 8 := fun i =>
  Codes.pair
    (w (ix2 ⟨2 * (i 1).val, by have h : (i 1).val < 5504 := (i 1).isLt; omega⟩ ⟨(i 0).val, (i 0).isLt⟩)
      * Codes.recip (dOf (tscale (amaxOf (F := Ideal) x (ix2 0 0))) (x (ix2 ⟨(i 1).val / 8, by have h : (i 1).val < 5504 := (i 1).isLt; omega⟩ ⟨(i 0).val, (i 0).isLt⟩))))
    (w (ix2 ⟨2 * (i 1).val + 1, by have h : (i 1).val < 5504 := (i 1).isLt; omega⟩ ⟨(i 0).val, (i 0).isLt⟩)
      * Codes.recip (dOf (tscale (amaxOf (F := Ideal) x (ix2 0 0))) (x (ix2 ⟨(i 1).val / 8, by have h : (i 1).val < 5504 := (i 1).isLt; omega⟩ ⟨(i 0).val, (i 0).isLt⟩))))

theorem stOut_apply (a : Vec Ideal S1x1 .f32) : stOut a (ix2 0 0) = tscale (a (ix2 0 0)) := rfl

theorem pay838_apply (a : Vec Ideal S1x1 .f32) (v : Vec Ideal S32x2048 .f32) (j : Fin 32) (l : Fin 2048) :
    k0_pay838 a v (ix2 j l) = bscale (tscale (a (ix2 0 0))) (v (ix2 j l)) := by
  pointwise [k0_pay838, k0_pay837, bscale, tscale]

/-- The zero-one matrix's entry: one at row sixteen times the column, zero elsewhere. -/
theorem pick_entry (l : Fin 2048) (k : Fin 128) :
    FloatOps.sitofp (F := Ideal) FTy.f32 (BitVec.setWidth 32 (IntOp.cmpi CmpIPredicate.eq (BitVec.ofNat 32 l.val) (IntOp.muli (16#32) (BitVec.ofNat 32 k.val))))
      = if l.val = 16 * k.val then (1 : EReal) else 0 := by
  have hk := k.isLt
  have hl := l.isLt
  have e : (BitVec.ofNat 32 l.val == 16#32 * BitVec.ofNat 32 k.val) = decide (l.val = 16 * k.val) := by
    rw [Bool.eq_iff_iff, beq_iff_eq, decide_eq_true_iff, ← BitVec.toNat_inj]
    simp only [BitVec.toNat_ofNat, BitVec.toNat_mul]
    omega
  change (((BitVec.setWidth 32 (BitVec.ofBool (BitVec.ofNat 32 l.val == 16#32 * BitVec.ofNat 32 k.val))).toInt : ℝ) : EReal) = _
  rw [e]
  by_cases h : l.val = 16 * k.val
  · rw [decide_eq_true h, if_pos h, show (BitVec.setWidth 32 (BitVec.ofBool true)).toInt = 1 by decide]; simp
  · rw [decide_eq_false h, if_neg h, show (BitVec.setWidth 32 (BitVec.ofBool false)).toInt = 0 by decide]; simp

theorem pick_sum (v : FVec Ideal S32x2048 .f32) (j : Fin 32) (k : Fin 128) :
    k0_pay1 v (iota .tc S2048x128 32 [0] iota_S2048x128_d0_w32) (ix2 j k)
      = ∑ l : Fin 2048, v (ix2 j l) * FloatOps.sitofp (F := Ideal) FTy.f32 (BitVec.setWidth 32 (IntOp.cmpi CmpIPredicate.eq (BitVec.ofNat 32 l.val) (IntOp.muli (16#32) (BitVec.ofNat 32 k.val)))) := by
  pointwise [k0_pay1]

/-- The product with the zero-one matrix takes the lane sixteen times the column. -/
theorem pick_apply (v : FVec Ideal S32x2048 .f32) (j : Fin 32) (k : Fin 128) (l : Fin 2048) (hl : l.val = 16 * k.val) :
    k0_pay1 v (iota .tc S2048x128 32 [0] iota_S2048x128_d0_w32) (ix2 j k) = v (ix2 j l) := by
  rw [pick_sum, Finset.sum_eq_single l]
  · rw [pick_entry, if_pos hl, mul_one]
  · intro b _ hb
    rw [pick_entry, if_neg (fun h => hb (Fin.ext (h.trans hl.symm))), mul_zero]
  · intro h; exact absurd (Finset.mem_univ l) h

end Cert.QuantIdeal.Scales
end
-- ==== Proof.QuantIdealEnd.lean ====
/-
  The run of the quantising call at the ideal instance: from the block maxima and the weight, the codes, the tensor scale
  and the block scales its result arrays end at. The kept maximum lives in a scratch buffer across the grid's points, and
  the invariant says so. Of the dequantised weight nothing is said.
-/
module

public import proofs.«01_k».proof.Proof.QuantIdealValue

@[expose] public section

set_option maxRecDepth 16384

noncomputable section

namespace Cert.QuantIdeal.Scales

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The values -/

/-- The block maxima as launched, the largest of them, and the two scales. -/
def bam (c : Dev nD) : Vec Ideal S704x2048 .f32 := m ((c : Thread nD τ).loc main_arg0)
def kept (c : Dev nD) : Vec Ideal S1x1 .f32 := amaxOf (bam m c)
def stVal (c : Dev nD) : Buf (Elt Ideal) ((c : Thread nD τ).loc main_v0_4) := stOut (kept m c)
def sbVal (c : Dev nD) : Buf (Elt Ideal) ((c : Thread nD τ).loc main_v0_3) := fun (i : S688x128.Idx) =>
  bscale (tscale (kept m c (ix2 0 0))) (bam m c (ix2 ⟨(i 0).val, (i 0).isLt.trans (by decide)⟩ ⟨16 * (i 1).val, by
    have h : (i 1).val < 128 := (i 1).isLt; omega⟩))

def wt (c : Dev nD) : Vec Ideal S11008x2048 .bf16 := m ((c : Thread nD τ).loc main_arg1)
def ckVal (c : Dev nD) : Buf (Elt Ideal) ((c : Thread nD τ).loc main_v0_1) := ckF (bam m c) (wt m c)
def cnVal (c : Dev nD) : Buf (Elt Ideal) ((c : Thread nD τ).loc main_v0_2) := cnF (bam m c) (wt m c)

theorem w_size : ∀ t : Fin cfg0.N, win0_1.xsize (grid0.coords t) 0 = min 512 (11008 - 512 * t.val) ∧ win0_1.xsize (grid0.coords t) 1 = 2048 :=
  (by decide +kernel : ∀ t : Fin grid0.N, win0_1.xsize (grid0.coords t) 0 = min 512 (11008 - 512 * t.val) ∧ win0_1.xsize (grid0.coords t) 1 = 2048)
theorem ck_size : ∀ t : Fin cfg0.N, win0_3.xsize (grid0.coords t) 0 = min 512 (11008 - 512 * t.val) ∧ win0_3.xsize (grid0.coords t) 1 = 1024 :=
  (by decide +kernel : ∀ t : Fin grid0.N, win0_3.xsize (grid0.coords t) 0 = min 512 (11008 - 512 * t.val) ∧ win0_3.xsize (grid0.coords t) 1 = 1024)
theorem cn_size : ∀ t : Fin cfg0.N, win0_4.xsize (grid0.coords t) 0 = 2048 ∧ win0_4.xsize (grid0.coords t) 1 = min 256 (5504 - 256 * t.val) :=
  (by decide +kernel : ∀ t : Fin grid0.N, win0_4.xsize (grid0.coords t) 0 = 2048 ∧ win0_4.xsize (grid0.coords t) 1 = min 256 (5504 - 256 * t.val))
theorem code_idx : ∀ t : Fin cfg0.N, win0_1.index t 0 = t.val ∧ win0_1.index t 1 = 0 ∧ win0_3.index t 0 = t.val ∧ win0_3.index t 1 = 0 ∧ win0_4.index t 0 = 0 ∧ win0_4.index t 1 = t.val :=
  (by decide +kernel : ∀ t : Fin grid0.N, win0_1.index t 0 = t.val ∧ win0_1.index t 1 = 0 ∧ win0_3.index t 0 = t.val ∧ win0_3.index t 1 = 0 ∧ win0_4.index t 0 = 0 ∧ win0_4.index t 1 = t.val)

theorem size_facts : ∀ t : Fin cfg0.N, win0_5.xsize (grid0.coords t) 0 = min 32 (688 - 32 * t.val) ∧ win0_5.xsize (grid0.coords t) 1 = 128 :=
  (by decide +kernel : ∀ t : Fin grid0.N, win0_5.xsize (grid0.coords t) 0 = min 32 (688 - 32 * t.val) ∧ win0_5.xsize (grid0.coords t) 1 = 128)
theorem idx_facts : ∀ t : Fin cfg0.N, win0_0.index t 0 = 0 ∧ win0_0.index t 1 = 0 ∧ win0_5.index t 0 = t.val ∧ win0_5.index t 1 = 0 ∧ win0_6.index t 0 = 0 ∧ win0_6.index t 1 = 0 :=
  (by decide +kernel : ∀ t : Fin grid0.N, win0_0.index t 0 = 0 ∧ win0_0.index t 1 = 0 ∧ win0_5.index t 0 = t.val ∧ win0_5.index t 1 = 0 ∧ win0_6.index t 0 = 0 ∧ win0_6.index t 1 = 0)
theorem off_facts : ∀ t : Fin cfg0.N, k0_off1 (grid0.coords t) 0 = 32 * t.val ∧ k0_off1 (grid0.coords t) 1 = 0 ∧ ((grid0.coords t) 0).val = t.val :=
  (by decide +kernel : ∀ t : Fin grid0.N, k0_off1 (grid0.coords t) 0 = 32 * t.val ∧ k0_off1 (grid0.coords t) 1 = 0 ∧ ((grid0.coords t) 0).val = t.val)

/-- The first window's block is the whole array of block maxima. -/
theorem iblk_0 (c : Dev nD) (t : Fin cfg0.N) : iblk m c 0 t = bam m c := by
  refine funext fun y => ?_
  obtain ⟨h0, h1, -⟩ := idx_facts t
  show m ((c : Thread nD τ).loc main_arg0) ((win0_0.rect t).emb y) = m ((c : Thread nD τ).loc main_arg0) y
  congr 1
  refine Shape.idx_ext₂ ?_ ?_
  · rw [Window.rect_emb_val win0_0 t y 0, h0]; show 0 * 704 + (y 0).val = (y 0).val; omega
  · rw [Window.rect_emb_val win0_0 t y 1, h1]; show 0 * 2048 + (y 1).val = (y 1).val; omega

/-- The block scales of a point, on the rows inside the result array. -/
theorem sbOut_apply (t : Fin cfg0.N) (a : Vec Ideal S1x1 .f32) (x : Vec Ideal S704x2048 .f32) (j : Fin 32) (k : Fin 128) (h : t.val * 32 + j.val < 704) :
    sbOut (grid0.coords t) a x (ix2 j k) = bscale (tscale (a (ix2 0 0))) (x (ix2 ⟨t.val * 32 + j.val, h⟩ ⟨16 * k.val, by omega⟩)) := by
  obtain ⟨o0, o1, -⟩ := off_facts t
  refine (pick_apply _ j k ⟨16 * k.val, by omega⟩ rfl).trans ?_
  rw [pay838_apply]
  refine congrArg (bscale _) ?_
  show x ((rPt (grid0.coords t)).idx (ix2 j ⟨16 * k.val, by omega⟩)) = _
  refine congrArg x (Shape.idx_ext₂ ?_ ?_)
  · show k0_off1 (grid0.coords t) 0 + 1 * j.val = t.val * 32 + j.val; rw [o0]; omega
  · show k0_off1 (grid0.coords t) 1 + 1 * (16 * k.val) = 16 * k.val; rw [o1]; omega

theorem cut_sb (c : Dev nD) (t : Fin cfg0.N) :
    win0_5.cut (grid0.coords t) (sbOut (F := Ideal) (grid0.coords t) (kept m c) (bam m c)) = (win0_5.blk t).view.read (Elt Ideal) (sbVal m c) := by
  refine funext fun y => ?_
  obtain ⟨s0, s1⟩ := size_facts t
  obtain ⟨-, -, h0, h1, -⟩ := idx_facts t
  have y0 : (y 0).val < min 32 (688 - 32 * t.val) := lt_of_lt_of_eq (y 0).isLt s0
  have y1 : (y 1).val < 128 := lt_of_lt_of_eq (y 1).isLt s1
  obtain ⟨j, hj⟩ : ∃ j : Fin 32, j.val = (y 0).val := ⟨⟨(y 0).val, by omega⟩, rfl⟩
  obtain ⟨l, hl⟩ : ∃ l : Fin 128, l.val = (y 1).val := ⟨⟨(y 1).val, y1⟩, rfl⟩
  have hr : t.val * 32 + j.val < 688 := by omega
  have hx : (win0_5.xinj (grid0.coords t) y : S32x128.Idx) = ix2 j l := Shape.idx_ext₂ hj.symm hl.symm
  have he : ((win0_5.rect t).emb y : S688x128.Idx) = ix2 ⟨t.val * 32 + j.val, hr⟩ l := by
    refine Shape.idx_ext₂ ?_ ?_
    · rw [Window.rect_emb_val win0_5 t y 0, h0]; show t.val * 32 + (y 0).val = t.val * 32 + j.val; omega
    · rw [Window.rect_emb_val win0_5 t y 1, h1]; show 0 * 128 + (y 1).val = l.val; omega
  refine (congrArg (sbOut (F := Ideal) (grid0.coords t) (kept m c) (bam m c)) hx).trans (Eq.trans ?_ (congrArg (sbVal m c) he.symm))
  exact sbOut_apply t _ _ j l (by omega)

/-- The weight's block at a point, on the rows inside the array, whatever lies beyond. -/
def wBlk (c : Dev nD) (t : Fin cfg0.N) (d : S512x2048.Idx → EReal) : S512x2048.Idx → EReal := win0_1.fill (grid0.coords t) d (iblk m c 1 t)

theorem wBlk_apply (c : Dev nD) (t : Fin cfg0.N) (d : S512x2048.Idx → EReal) (p : Fin 512) (l : Fin 2048) (h : t.val * 512 + p.val < 11008) :
    wBlk m c t d (ix2 p l) = wt m c (ix2 ⟨t.val * 512 + p.val, h⟩ l) := by
  obtain ⟨s0, s1⟩ := w_size t
  obtain ⟨h0, h1, -⟩ := code_idx t
  have hm : ∀ a : Fin 2, ((ix2 p l : S512x2048.Idx) a).val < win0_1.xsize (grid0.coords t) a := by
    intro a
    match a with
    | ⟨0, _⟩ => show p.val < win0_1.xsize (grid0.coords t) 0; rw [s0]; omega
    | ⟨1, _⟩ => show l.val < win0_1.xsize (grid0.coords t) 1; rw [s1]; exact l.isLt
  unfold wBlk
  have e := win0_1.fill_xinj (grid0.coords t) d (iblk m c 1 t) (fun a => ⟨((ix2 p l : S512x2048.Idx) a).val, hm a⟩)
  refine Eq.trans (congrArg (win0_1.fill (grid0.coords t) d (iblk m c 1 t)) ?_) (e.trans ?_)
  · exact Shape.idx_ext₂ rfl rfl
  · show m ((c : Thread nD τ).loc main_arg1) ((win0_1.rect t).emb (fun a => ⟨((ix2 p l : S512x2048.Idx) a).val, hm a⟩)) = m ((c : Thread nD τ).loc main_arg1) _
    refine congrArg _ (Shape.idx_ext₂ ?_ ?_)
    · rw [Window.rect_emb_val win0_1 t _ 0, h0]; show t.val * 512 + p.val = _; rfl
    · rw [Window.rect_emb_val win0_1 t _ 1, h1]; show 0 * 2048 + l.val = l.val; omega

/-- The reciprocals of a point's rows. -/
theorem rOut_apply (t : Fin cfg0.N) (a : Vec Ideal S1x1 .f32) (x : Vec Ideal S704x2048 .f32) (j : Fin 32) (l : Fin 2048) (r : Fin 704) (h : r.val = t.val * 32 + j.val) :
    rOut (grid0.coords t) a x (ix2 j l) = Codes.recip (dOf (tscale (a (ix2 0 0))) (x (ix2 r l))) := by
  obtain ⟨o0, o1, -⟩ := off_facts t
  refine (pay839_apply _ _ _ _).trans ?_
  refine congrArg (fun e => Codes.recip (dOf (tscale (a (ix2 0 0))) e)) ?_
  show x ((rPt (grid0.coords t)).idx (ix2 j l)) = _
  refine congrArg x (Shape.idx_ext₂ ?_ ?_)
  · show k0_off1 (grid0.coords t) 0 + 1 * j.val = r.val; rw [o0]; omega
  · show k0_off1 (grid0.coords t) 1 + 1 * l.val = l.val; rw [o1]; omega

/-- The codes a point leaves, rows' pairs and columns', on the part inside the arrays. -/
theorem ckOut_apply (c : Dev nD) (t : Fin cfg0.N) (d : S512x2048.Idx → EReal) (p : Fin 512) (k : Fin 1024) (h : t.val * 512 + p.val < 11008) :
    ckOut (grid0.coords t) (kept m c) (bam m c) (wBlk m c t d) (ix2 p k) = ckF (bam m c) (wt m c) (ix2 ⟨t.val * 512 + p.val, h⟩ k) := by
  unfold ckOut Codes.ckG ckF
  refine congrArg₂ Codes.pair (congrArg₂ (· * ·) (wBlk_apply m c t d _ _ h) ?_) (congrArg₂ (· * ·) (wBlk_apply m c t d _ _ h) ?_)
  · exact rOut_apply t _ _ _ _ _ (by show (t.val * 512 + p.val) / 16 = t.val * 32 + p.val / 16; omega)
  · exact rOut_apply t _ _ _ _ _ (by show (t.val * 512 + p.val) / 16 = t.val * 32 + p.val / 16; omega)

theorem cnOut_apply (c : Dev nD) (t : Fin cfg0.N) (d : S512x2048.Idx → EReal) (l : Fin 2048) (q : Fin 256) (h : t.val * 256 + q.val < 5504) :
    cnOut (grid0.coords t) (kept m c) (bam m c) (wBlk m c t d) (ix2 l q) = cnF (bam m c) (wt m c) (ix2 l ⟨t.val * 256 + q.val, h⟩) := by
  have e : cnOut (grid0.coords t) (kept m c) (bam m c) (wBlk m c t d) (ix2 l q)
      = Codes.cnG (wBlk m c t d) (rOut (grid0.coords t) (kept m c) (bam m c)) (ix2 q l) := by
    unfold cnOut
    pointwise [k0_pay5]
  rw [e]
  unfold Codes.cnG cnF
  refine congrArg₂ Codes.pair (congrArg₂ (· * ·) ((wBlk_apply m c t d _ _ (by show t.val * 512 + 2 * q.val < 11008; omega)).trans ?_) ?_)
    (congrArg₂ (· * ·) ((wBlk_apply m c t d _ _ (by show t.val * 512 + (2 * q.val + 1) < 11008; omega)).trans ?_) ?_)
  · exact congrArg (wt m c) (Shape.idx_ext₂ (by show t.val * 512 + 2 * q.val = 2 * (t.val * 256 + q.val); omega) rfl)
  · exact rOut_apply t _ _ _ _ _ (by show (t.val * 256 + q.val) / 8 = t.val * 32 + q.val / 8; omega)
  · exact congrArg (wt m c) (Shape.idx_ext₂ (by show t.val * 512 + (2 * q.val + 1) = 2 * (t.val * 256 + q.val) + 1; omega) rfl)
  · exact rOut_apply t _ _ _ _ _ (by show (t.val * 256 + q.val) / 8 = t.val * 32 + q.val / 8; omega)

theorem cut_ck (c : Dev nD) (t : Fin cfg0.N) (d : S512x2048.Idx → EReal) :
    win0_3.cut (grid0.coords t) (ckOut (grid0.coords t) (kept m c) (bam m c) (wBlk m c t d)) = (win0_3.blk t).view.read (Elt Ideal) (ckVal m c) := by
  refine funext fun y => ?_
  obtain ⟨s0, s1⟩ := ck_size t
  obtain ⟨-, -, h0, h1, -⟩ := code_idx t
  have y0 : (y 0).val < min 512 (11008 - 512 * t.val) := lt_of_lt_of_eq (y 0).isLt s0
  have y1 : (y 1).val < 1024 := lt_of_lt_of_eq (y 1).isLt s1
  obtain ⟨j, hj⟩ : ∃ j : Fin 512, j.val = (y 0).val := ⟨⟨(y 0).val, by omega⟩, rfl⟩
  obtain ⟨l, hl⟩ : ∃ l : Fin 1024, l.val = (y 1).val := ⟨⟨(y 1).val, y1⟩, rfl⟩
  have hr : t.val * 512 + j.val < 11008 := by omega
  have hx : (win0_3.xinj (grid0.coords t) y : S512x1024.Idx) = ix2 j l := Shape.idx_ext₂ hj.symm hl.symm
  have he : ((win0_3.rect t).emb y : S11008x1024.Idx) = ix2 ⟨t.val * 512 + j.val, hr⟩ l := by
    refine Shape.idx_ext₂ ?_ ?_
    · rw [Window.rect_emb_val win0_3 t y 0, h0]; show t.val * 512 + (y 0).val = t.val * 512 + j.val; omega
    · rw [Window.rect_emb_val win0_3 t y 1, h1]; show 0 * 1024 + (y 1).val = l.val; omega
  refine (congrArg (ckOut (grid0.coords t) (kept m c) (bam m c) (wBlk m c t d)) hx).trans (Eq.trans ?_ (congrArg (ckVal m c) he.symm))
  exact ckOut_apply m c t d j l hr

theorem cut_cn (c : Dev nD) (t : Fin cfg0.N) (d : S512x2048.Idx → EReal) :
    win0_4.cut (grid0.coords t) (cnOut (grid0.coords t) (kept m c) (bam m c) (wBlk m c t d)) = (win0_4.blk t).view.read (Elt Ideal) (cnVal m c) := by
  refine funext fun y => ?_
  obtain ⟨s0, s1⟩ := cn_size t
  obtain ⟨-, -, -, -, h0, h1⟩ := code_idx t
  have y0 : (y 0).val < 2048 := lt_of_lt_of_eq (y 0).isLt s0
  have y1 : (y 1).val < min 256 (5504 - 256 * t.val) := lt_of_lt_of_eq (y 1).isLt s1
  obtain ⟨j, hj⟩ : ∃ j : Fin 2048, j.val = (y 0).val := ⟨⟨(y 0).val, y0⟩, rfl⟩
  obtain ⟨l, hl⟩ : ∃ l : Fin 256, l.val = (y 1).val := ⟨⟨(y 1).val, by omega⟩, rfl⟩
  have hr : t.val * 256 + l.val < 5504 := by omega
  have hx : (win0_4.xinj (grid0.coords t) y : S2048x256.Idx) = ix2 j l := Shape.idx_ext₂ hj.symm hl.symm
  have he : ((win0_4.rect t).emb y : S2048x5504.Idx) = ix2 j ⟨t.val * 256 + l.val, hr⟩ := by
    refine Shape.idx_ext₂ ?_ ?_
    · rw [Window.rect_emb_val win0_4 t y 0, h0]; show 0 * 2048 + (y 0).val = j.val; omega
    · rw [Window.rect_emb_val win0_4 t y 1, h1]; show t.val * 256 + (y 1).val = t.val * 256 + l.val; omega
  refine (congrArg (cnOut (grid0.coords t) (kept m c) (bam m c) (wBlk m c t d)) hx).trans (Eq.trans ?_ (congrArg (cnVal m c) he.symm))
  exact cnOut_apply m c t d j l hr

/-! ## The proof data and the run -/

/-- Between points: the scratch buffers, the first of them holding the largest block maximum from the first point on. -/
def inv (c : Dev nD) (p : Fin (cfg0.N + 1)) : sProp 𝕄 :=
  iprop((∃ a : Buf (Elt Ideal) ((c : Thread nD τ).loc cc0_scratch0), ⌜p.val ≠ 0 → a = kept m c⌝ ∗ (((c : Thread nD τ).loc cc0_scratch0) ↦{fullShare} a))
      ∗ (∃ f : Buf (Elt Ideal) ((c : Thread nD τ).loc cc0_scratch1), ((c : Thread nD τ).loc cc0_scratch1) ↦{fullShare} f)
      ∗ (∃ f : Buf (Elt Ideal) ((c : Thread nD τ).loc cc0_scratch2), ((c : Thread nD τ).loc cc0_scratch2) ↦{fullShare} f)
      ∗ (∃ f : Buf (Elt Ideal) ((c : Thread nD τ).loc cc0_scratch3), ((c : Thread nD τ).loc cc0_scratch3) ↦{fullShare} f)
      ∗ (∃ r, prngReg c r))

/-- The arrays as launched; the inputs' buffers at their blocks, the codes' and the scales' at theirs. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => fun _ => (0 : EReal)
    | ⟨3, _⟩ => ckOut (grid0.coords t) (kept m c) (bam m c) (wBlk m c t fun _ => 0)
    | ⟨4, _⟩ => cnOut (grid0.coords t) (kept m c) (bam m c) (wBlk m c t fun _ => 0)
    | ⟨5, _⟩ => sbOut (F := Ideal) (grid0.coords t) (kept m c) (bam m c)
    | ⟨6, _⟩ => stOut (F := Ideal) (kept m c)
  Φ := inv m c
  q _ := fullShare
  owed _ := 0

/-- The window whose contents are not named: the dequantised weight's. -/
def fgt : Fin cfg0.W → Bool := ![false, false, true, false, false, false, false]

theorem A_eq (c : Dev nD) (w : Fin cfg0.W) : (dats m 0 c).A w = V m c (Pipeline.arrRef spec0 w) := by dsimp only [dats]

theorem before_0 (c : Dev nD) (t : Fin cfg0.N) (d) : (dats m 0 c).before (0 : Fin 7) t d = bam m c :=
  (before0_0_of m (dats m 0 c) (A_eq m c 0) (fun t => by dsimp only [dats]) t d).trans (iblk_0 m c t)

theorem before_1 (c : Dev nD) (t : Fin cfg0.N) (d) :
    (dats m 0 c).before (1 : Fin 7) t d = win0_1.fill (grid0.coords t) d (iblk m c 1 t) := by
  unfold Dat.before; rw [if_pos (fetch0_1 t)]; rfl

theorem defs₀_row (t : Fin cfg0.N) : defs₀ (F := Ideal) .tc cfg0.body (cfg0.bodyArgs t (cfg0.slots t)) = bodyAt0 t := by
  unfold defs₀; rw [Defs.onTc_tc]

set_option maxHeartbeats 1000000 in
/-- The body at any point, the scratch buffer holding the maximum if the point is not the first. -/
theorem sound_any (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole) (arg8 : Memref sig .tc .vmem S1x1 .f32) (harg8 : arg8.IsWhole) (arg9 : Memref sig .tc .vmem S32x2048 .f32) (harg9 : arg9.IsWhole) (arg10 : Memref sig .tc .vmem S32x2048 .f32) (harg10 : arg10.IsWhole) (arg11 : Memref sig .tc .vmem S256x2048 .i8) (harg11 : arg11.IsWhole)
    (x : Vec Ideal S704x2048 .f32) (w : Vec Ideal S512x2048 .bf16) (a : Vec Ideal S1x1 .f32) (ha : (i 0).val ≠ 0 → a = amaxOf x) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare a ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ (∃ d, owns (c : Thread nD τ) arg3 fullShare d) ∗ owns (c : Thread nD τ) arg4 fullShare (ckOut i (amaxOf x) x w) ∗ owns (c : Thread nD τ) arg5 fullShare (cnOut i (amaxOf x) x w) ∗ owns (c : Thread nD τ) arg6 fullShare (sbOut i (amaxOf x) x) ∗ owns (c : Thread nD τ) arg7 fullShare (stOut (amaxOf x)) ∗ owns (c : Thread nD τ) arg8 fullShare (amaxOf x) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_quantise i arg1 harg1 arg2 harg2 arg3 harg3 arg4 harg4 arg5 harg5 arg6 harg6 arg7 harg7 arg8 harg8 arg9 harg9 arg10 harg10 arg11 harg11) K := by
  by_cases hi : (i 0).val = 0
  · iintro ⟨H1, H2, H3, H4, H5, H6, H7, H8, H9, H10, H11, Hk⟩
    iapply (sound_first c E i arg1 harg1 arg2 harg2 arg3 harg3 arg4 harg4 arg5 harg5 arg6 harg6 arg7 harg7 arg8 harg8 arg9 harg9 arg10 harg10 arg11 harg11 hi x w K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists a; iexact H8
    isplitl [H9]; · iexact H9
    isplitl [H10]; · iexact H10
    isplitl [H11]; · iexact H11
    iexact Hk
  · have e := ha hi
    subst e
    exact sound_later c E i arg1 harg1 arg2 harg2 arg3 harg3 arg4 harg4 arg5 harg5 arg6 harg6 arg7 harg7 arg8 harg8 arg9 harg9 arg10 harg10 arg11 harg11 hi x w (amaxOf x) K

set_option maxHeartbeats 1000000 in
/-- The same with the scratch buffers themselves. -/
theorem sound_scratch (c : Dev nD) (E : Set ℕ) (i : grid0.Coords) (arg1 : Memref sig .tc .vmem S704x2048 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .i8) (harg4 : arg4.IsWhole) (arg5 : Memref sig .tc .vmem S2048x256 .i8) (harg5 : arg5.IsWhole) (arg6 : Memref sig .tc .vmem S32x128 .fp8e4m3) (harg6 : arg6.IsWhole) (arg7 : Memref sig .tc .vmem S1x1 .f32) (harg7 : arg7.IsWhole)
    (x : Vec Ideal S704x2048 .f32) (w : Vec Ideal S512x2048 .bf16) (a : Vec Ideal S1x1 .f32) (ha : (i 0).val ≠ 0 → a = amaxOf x) (K : PUnit → sProp 𝕄) :
    iprop(owns (c : Thread nD τ) arg1 fullShare x ∗ owns (c : Thread nD τ) arg2 fullShare w ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (((c : Thread nD τ).loc cc0_scratch0) ↦{fullShare} a) ∗ (∃ d : Buf (Elt Ideal) ((c : Thread nD τ).loc cc0_scratch1), (((c : Thread nD τ).loc cc0_scratch1) ↦{fullShare} d)) ∗ (∃ d : Buf (Elt Ideal) ((c : Thread nD τ).loc cc0_scratch2), (((c : Thread nD τ).loc cc0_scratch2) ↦{fullShare} d)) ∗ (∃ d : Buf (Elt Ideal) ((c : Thread nD τ).loc cc0_scratch3), (((c : Thread nD τ).loc cc0_scratch3) ↦{fullShare} d))
        ∗ (iprop(owns (c : Thread nD τ) arg1 fullShare x ∗ owns (c : Thread nD τ) arg2 fullShare w ∗ (∃ d, owns (c : Thread nD τ) arg3 fullShare d) ∗ owns (c : Thread nD τ) arg4 fullShare (ckOut i (amaxOf x) x w) ∗ owns (c : Thread nD τ) arg5 fullShare (cnOut i (amaxOf x) x w) ∗ owns (c : Thread nD τ) arg6 fullShare (sbOut i (amaxOf x) x) ∗ owns (c : Thread nD τ) arg7 fullShare (stOut (amaxOf x)) ∗ (((c : Thread nD τ).loc cc0_scratch0) ↦{fullShare} (amaxOf x)) ∗ (∃ d : Buf (Elt Ideal) ((c : Thread nD τ).loc cc0_scratch1), (((c : Thread nD τ).loc cc0_scratch1) ↦{fullShare} d)) ∗ (∃ d : Buf (Elt Ideal) ((c : Thread nD τ).loc cc0_scratch2), (((c : Thread nD τ).loc cc0_scratch2) ↦{fullShare} d)) ∗ (∃ d : Buf (Elt Ideal) ((c : Thread nD τ).loc cc0_scratch3), (((c : Thread nD τ).loc cc0_scratch3) ↦{fullShare} d))) -∗ K ⟨⟩))
      ⊢ wp frame (wpE (defs₀ (F := Ideal)) Variants.none c none) E (cc0_quantise i arg1 harg1 arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  have h := sound_any c E i arg1 harg1 arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) x w a ha K
  simp only [owns_whole] at h
  exact h

theorem body_obligation (c : Dev nD) : BodyObligationLoose (dats m 0 c) (defs₀ (F := Ideal)) Variants.none () Set.univ fgt := fun t => by
  rw [bigSep_W0, bigSep_W0, defs₀_row]
  simp only [show fgt (0 : Fin 7) = false from rfl, show fgt (1 : Fin 7) = false from rfl, show fgt (2 : Fin 7) = true from rfl, show fgt (3 : Fin 7) = false from rfl, show fgt (4 : Fin 7) = false from rfl, show fgt (5 : Fin 7) = false from rfl, show fgt (6 : Fin 7) = false from rfl]
  rw [show (dats m 0 c).owesAt () t.succ = (dats m 0 c).owesAt () t.castSucc from rfl]
  rw [show (dats m 0 c).Φ t.castSucc = inv m c t.castSucc from rfl, show (dats m 0 c).Φ t.succ = inv m c t.succ from rfl]
  unfold inv
  iintro ⟨⟨⟨%a, %ha, Hs0⟩, ⟨%f1, Hs1⟩, ⟨%f2, Hs2⟩, ⟨%f3, Hs3⟩, Hp⟩, Ho, ⟨%d0, H0⟩, ⟨%d1, H1⟩, H2, ⟨%d3, H3⟩, ⟨%d4, H4⟩, ⟨%d5, H5⟩, ⟨%d6, H6⟩⟩
  rw [before_0 m c t d0, before_1 m c t d1]
  iapply (sound_scratch c Set.univ (grid0.coords t) _ _ _ _ _ _ _ _ _ _ _ _ _ _ (bam m c) (wBlk m c t d1) a (fun h => ha (fun h' => h ((off_facts t).2.2.trans h'))) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [Hs0]; · iexact Hs0
  isplitl [Hs1]; · iexists f1; iexact Hs1
  isplitl [Hs2]; · iexists f2; iexact Hs2
  isplitl [Hs3]; · iexists f3; iexact Hs3
  iintro ⟨H0, H1, H2, H3, H4, H5, H6, Hs0, ⟨%g1, Hs1⟩, ⟨%g2, Hs2⟩, ⟨%g3, Hs3⟩⟩
  isplitl [Hs0 Hs1 Hs2 Hs3 Hp]
  · isplitl [Hs0]
    · iexists kept m c; isplitr; · ipureintro; exact fun _ => rfl
      iexact Hs0
    isplitl [Hs1]; · iexists g1; iexact Hs1
    isplitl [Hs2]; · iexists g2; iexact Hs2
    isplitl [Hs3]; · iexists g3; iexact Hs3
    iexact Hp
  isplitl [Ho]; · iexact Ho
  isplitl [H0]
  · rw [show (dats m 0 c).after 0 t = bam m c from iblk_0 m c t]; iexact H0
  isplitl [H1]
  · iexists d1
    change _ ⊢ owns (c : Thread nD τ) (st0_1 t) fullShare (win0_1.fill (grid0.coords t) d1 (win0_1.cut (grid0.coords t) (win0_1.fill (grid0.coords t) (fun _ => (0 : EReal)) (iblk m c 1 t))))
    rw [win0_1.cut_fill]; exact .rfl
  isplitl [H2]; · iexact H2
  isplitl [H3]
  · iexists ckOut (grid0.coords t) (kept m c) (bam m c) (wBlk m c t d1)
    change _ ⊢ owns (c : Thread nD τ) (st0_3 t) fullShare (win0_3.fill (grid0.coords t) (ckOut (grid0.coords t) (kept m c) (bam m c) (wBlk m c t d1))
      (win0_3.cut (grid0.coords t) (ckOut (grid0.coords t) (kept m c) (bam m c) (wBlk m c t fun _ => 0))))
    rw [(cut_ck m c t fun _ => 0).trans (cut_ck m c t d1).symm, win0_3.fill_cut]; exact .rfl
  isplitl [H4]
  · iexists cnOut (grid0.coords t) (kept m c) (bam m c) (wBlk m c t d1)
    change _ ⊢ owns (c : Thread nD τ) (st0_4 t) fullShare (win0_4.fill (grid0.coords t) (cnOut (grid0.coords t) (kept m c) (bam m c) (wBlk m c t d1))
      (win0_4.cut (grid0.coords t) (cnOut (grid0.coords t) (kept m c) (bam m c) (wBlk m c t fun _ => 0))))
    rw [(cut_cn m c t fun _ => 0).trans (cut_cn m c t d1).symm, win0_4.fill_cut]; exact .rfl
  isplitl [H5]
  · iexists sbOut (F := Ideal) (grid0.coords t) (kept m c) (bam m c)
    change _ ⊢ owns (c : Thread nD τ) (st0_5 t) fullShare (win0_5.fill (grid0.coords t) (sbOut (F := Ideal) (grid0.coords t) (kept m c) (bam m c))
      (win0_5.cut (grid0.coords t) (sbOut (F := Ideal) (grid0.coords t) (kept m c) (bam m c))))
    rw [win0_5.fill_cut]; exact .rfl
  iexact H6

/-- Before the first point the scratch buffers hold anything, -/
theorem hin (c : Dev nD) : Pipeline.ΦA spec0 c ⊢ (dats m 0 c).Φ 0 := by
  unfold Pipeline.ΦA
  rw [scopedRest0_eq c, show (dats m 0 c).Φ 0 = inv m c 0 from rfl]
  unfold inv
  iintro ⟨⟨⟨%a, Hs0⟩, Hs1, Hs2, Hs3⟩, Hp⟩
  isplitl [Hs0]
  · iexists a; isplitr; · ipureintro; exact fun h => absurd rfl h
    iexact Hs0
  isplitl [Hs1]; · iexact Hs1
  isplitl [Hs2]; · iexact Hs2
  isplitl [Hs3]; · iexact Hs3
  iexact Hp

/-- and after the last they are given back. -/
theorem hout (c : Dev nD) : (dats m 0 c).Φ (Fin.last cfg0.N) ⊢ Pipeline.ΦA spec0 c := by
  unfold Pipeline.ΦA
  rw [scopedRest0_eq c, show (dats m 0 c).Φ (Fin.last cfg0.N) = inv m c (Fin.last cfg0.N) from rfl]
  unfold inv
  iintro ⟨⟨%a, %ha, Hs0⟩, Hs1, Hs2, Hs3, Hp⟩
  isplitl [Hs0 Hs1 Hs2 Hs3]
  · isplitl [Hs0]; · iexists a; iexact Hs0
    isplitl [Hs1]; · iexact Hs1
    isplitl [Hs2]; · iexact Hs2
    iexact Hs3
  iexact Hp

set_option backward.isDefEq.respectTransparency.types false in
set_option maxHeartbeats 1600000 in
theorem run_frame : θ_run defs (onTc (τ := τ) (main (F := Ideal))) (s₀ m ρ)
    (fun r => (Pipeline.RDat.FramePost cfg0 (fun c => (dats m 0 c).toRForget fgt) (V m)) r ∧ r.2.sem = fun _ => 0) :=
  Pipeline.θ_run_frame_track_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hin := hin m) (hout := hout m)

theorem flushed_ck (c : Dev nD) (t : Fin cfg0.N) :
    (dats m 0 c).flushed 3 t = ((cfg0.win 3).blk t).view.read (Elt Ideal) (ckVal m c) := cut_ck m c t _
theorem flushed_cn (c : Dev nD) (t : Fin cfg0.N) :
    (dats m 0 c).flushed 4 t = ((cfg0.win 4).blk t).view.read (Elt Ideal) (cnVal m c) := cut_cn m c t _

/-- Every row of codes is in some point's block, and every column. -/
theorem cover_ck (i : S11008x1024.Idx) : ∃ t : Fin cfg0.N, (cfg0.win 3).flush t = true ∧ i ∈ ((cfg0.win 3).blk t).view.set := by
  have hi0 : (i 0).val < 11008 := (i 0).isLt
  have hi1 : (i 1).val < 1024 := (i 1).isLt
  have hN : cfg0.N = 22 := N_0
  obtain ⟨t, ht⟩ : ∃ t : Fin cfg0.N, t.val = (i 0).val / 512 := ⟨⟨(i 0).val / 512, by omega⟩, rfl⟩
  refine ⟨t, flush0_3 _, ?_⟩
  obtain ⟨-, -, h0, h1, -⟩ := code_idx t
  obtain ⟨s0, s1⟩ := ck_size t
  show i ∈ ((View.whole main_v0_1).slice (win0_3.rect t)).set
  rw [View.set_slice_whole, Rect.mem_set_unit]
  intro a
  match a with
  | ⟨0, _⟩ =>
    show win0_3.index t 0 * 512 ≤ (i 0).val ∧ (i 0).val < win0_3.index t 0 * 512 + win0_3.xsize (grid0.coords t) 0
    rw [h0, s0, ht]; omega
  | ⟨1, _⟩ =>
    show win0_3.index t 1 * 1024 ≤ (i 1).val ∧ (i 1).val < win0_3.index t 1 * 1024 + win0_3.xsize (grid0.coords t) 1
    rw [h1, s1]; omega

theorem cover_cn (i : S2048x5504.Idx) : ∃ t : Fin cfg0.N, (cfg0.win 4).flush t = true ∧ i ∈ ((cfg0.win 4).blk t).view.set := by
  have hi0 : (i 0).val < 2048 := (i 0).isLt
  have hi1 : (i 1).val < 5504 := (i 1).isLt
  have hN : cfg0.N = 22 := N_0
  obtain ⟨t, ht⟩ : ∃ t : Fin cfg0.N, t.val = (i 1).val / 256 := ⟨⟨(i 1).val / 256, by omega⟩, rfl⟩
  refine ⟨t, flush0_4 _, ?_⟩
  obtain ⟨-, -, -, -, h0, h1⟩ := code_idx t
  obtain ⟨s0, s1⟩ := cn_size t
  show i ∈ ((View.whole main_v0_2).slice (win0_4.rect t)).set
  rw [View.set_slice_whole, Rect.mem_set_unit]
  intro a
  match a with
  | ⟨0, _⟩ =>
    show win0_4.index t 0 * 2048 ≤ (i 0).val ∧ (i 0).val < win0_4.index t 0 * 2048 + win0_4.xsize (grid0.coords t) 0
    rw [h0, s0]; omega
  | ⟨1, _⟩ =>
    show win0_4.index t 1 * 256 ≤ (i 1).val ∧ (i 1).val < win0_4.index t 1 * 256 + win0_4.xsize (grid0.coords t) 1
    rw [h1, s1, ht]; omega

theorem flushed_sb (c : Dev nD) (t : Fin cfg0.N) :
    (dats m 0 c).flushed 5 t = ((cfg0.win 5).blk t).view.read (Elt Ideal) (sbVal m c) := cut_sb m c t

theorem flushed_st (c : Dev nD) (t : Fin cfg0.N) :
    (dats m 0 c).flushed 6 t = ((cfg0.win 6).blk t).view.read (Elt Ideal) (stVal m c) := by
  refine funext fun y => ?_
  obtain ⟨-, -, -, -, h0, h1⟩ := idx_facts t
  show stVal m c y = stVal m c ((win0_6.rect t).emb y)
  congr 1
  refine (Shape.idx_ext₂ ?_ ?_).symm
  · rw [Window.rect_emb_val win0_6 t y 0, h0]; show 0 * 1 + (y 0).val = (y 0).val; omega
  · rw [Window.rect_emb_val win0_6 t y 1, h1]; show 0 * 1 + (y 1).val = (y 1).val; omega

/-- Every row of block scales is in some point's block, the last of them cut at the array's end. -/
theorem cover_sb (i : S688x128.Idx) : ∃ t : Fin cfg0.N, (cfg0.win 5).flush t = true ∧ i ∈ ((cfg0.win 5).blk t).view.set := by
  have hi0 : (i 0).val < 688 := (i 0).isLt
  have hi1 : (i 1).val < 128 := (i 1).isLt
  have hN : cfg0.N = 22 := N_0
  obtain ⟨t, ht⟩ : ∃ t : Fin cfg0.N, t.val = (i 0).val / 32 := ⟨⟨(i 0).val / 32, by omega⟩, rfl⟩
  refine ⟨t, flush0_5 _, ?_⟩
  obtain ⟨-, -, h0, h1, -⟩ := idx_facts t
  obtain ⟨s0, s1⟩ := size_facts t
  show i ∈ ((View.whole main_v0_3).slice (win0_5.rect t)).set
  rw [View.set_slice_whole, Rect.mem_set_unit]
  intro a
  match a with
  | ⟨0, _⟩ =>
    show win0_5.index t 0 * 32 ≤ (i 0).val ∧ (i 0).val < win0_5.index t 0 * 32 + win0_5.xsize (grid0.coords t) 0
    rw [h0, s0, ht]; omega
  | ⟨1, _⟩ =>
    show win0_5.index t 1 * 128 ≤ (i 1).val ∧ (i 1).val < win0_5.index t 1 * 128 + win0_5.xsize (grid0.coords t) 1
    rw [h1, s1]; omega

/-- The tensor scale's one element is written back at the last point. -/
theorem cover_st (i : S1x1.Idx) : ∃ t : Fin cfg0.N, (cfg0.win 6).flush t = true ∧ i ∈ ((cfg0.win 6).blk t).view.set := by
  have hi0 : (i 0).val < 1 := (i 0).isLt
  have hi1 : (i 1).val < 1 := (i 1).isLt
  have hN : cfg0.N = 22 := N_0
  obtain ⟨t, ht⟩ : ∃ t : Fin cfg0.N, t.val = 21 := ⟨⟨21, by omega⟩, rfl⟩
  refine ⟨t, (flush0_6 t).2 (by rw [ht]), ?_⟩
  obtain ⟨-, -, -, -, h0, h1⟩ := idx_facts t
  show i ∈ ((View.whole main_v0_4).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [h0]; omega
  | ⟨1, _⟩ =>
    show win0_6.index t 1 * 1 ≤ (i 1).val ∧ (i 1).val < win0_6.index t 1 * 1 + 1
    rw [h1]; omega

/-- The run: the codes' and the scales' arrays end at their values, the arguments unchanged, every counter at zero. -/
theorem run : θ_run defs (onTc (τ := τ) (main (F := Ideal))) ⟨m, fun _ => 0, ρ⟩ fun r => (∀ c : Dev nD,
      r.2.mem ((c : Thread nD τ).loc main_v0_1) = ckVal m c
      ∧ r.2.mem ((c : Thread nD τ).loc main_v0_2) = cnVal m c
      ∧ r.2.mem ((c : Thread nD τ).loc main_v0_3) = sbVal m c
      ∧ r.2.mem ((c : Thread nD τ).loc main_v0_4) = stVal m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c =>
      ⟨((Dat.toRForget_arrAt_iff (dat := dats m 0 c) (fgt := fgt) (w := 3) rfl _ _).1 ((h.1 c).1 3)).trans ((dats m 0 c).arrAt_eq_of_cover 3 _ (fun t _ => flushed_ck m c t) cover_ck),
       ((Dat.toRForget_arrAt_iff (dat := dats m 0 c) (fgt := fgt) (w := 4) rfl _ _).1 ((h.1 c).1 4)).trans ((dats m 0 c).arrAt_eq_of_cover 4 _ (fun t _ => flushed_cn m c t) cover_cn),
       ((Dat.toRForget_arrAt_iff (dat := dats m 0 c) (fgt := fgt) (w := 5) rfl _ _).1 ((h.1 c).1 5)).trans ((dats m 0 c).arrAt_eq_of_cover 5 _ (fun t _ => flushed_sb m c t) cover_sb),
       ((Dat.toRForget_arrAt_iff (dat := dats m 0 c) (fgt := fgt) (w := 6) rfl _ _).1 ((h.1 c).1 6)).trans ((dats m 0 c).arrAt_eq_of_cover 6 _ (fun t _ => flushed_st m c t) cover_st),
       (h.1.arr_in c 0 rfl).trans (A_eq m c 0), (h.1.arr_in c 1 rfl).trans (A_eq m c 1)⟩, h.2⟩)
    (run_frame m ρ)

end Cert.QuantIdeal.Scales
end
-- ==== Proof.QuantRefCodes.lean ====
/-
  What the reference's body computes for the two results of codes, element by element: both codes of a byte, each from its
  element of the weight and its block's maximum.
-/
module

public import proofs.«01_k».proof.Proof.QuantIdealValue
public import proofs.«01_k».proof.Proof.Gen.RefQuantIdeal.Frame
public import Idealize.ShloMosaic.Lib.Pointwise

@[expose] public section

set_option maxRecDepth 16384

noncomputable section

namespace Cert.Proof.Quant

open Cert.RefQuantIdeal Cert.RefQuantIdeal.Gen Idealize.ShloMosaic Idealize.ShloMosaic.TcCoe Idealize.SL.Sem
open Cert.QuantIdeal.Scales (bscale dOf)
open Cert.Codes (clip quot rnib rq ridx)

theorem hz : (![0, 0] : Fin 2 → Nat) = fun _ => 0 := funext fun a => by fin_cases a <;> rfl

/-- The one element of the tensor scale, read at every index. -/
theorem scalar_apply (h : Shape.Broadcasts (⟨2, ![1, 1]⟩ : Shape) S11008x1024) (s : S1x1.Idx → EReal) (i : S11008x1024.Idx) : broadcastTo S11008x1024 s h i = s (ix2 0 0) := by
  refine congrArg s (Shape.idx_ext₂ ?_ ?_) <;> rfl
theorem scalar_apply' (h : Shape.Broadcasts (⟨2, ![1, 1]⟩ : Shape) S2048x5504) (s : S1x1.Idx → EReal) (i : S2048x5504.Idx) : broadcastTo S2048x5504 s h i = s (ix2 0 0) := by
  refine congrArg s (Shape.idx_ext₂ ?_ ?_) <;> rfl

/-- A byte of two codes. -/
def two (a b : EReal) : BitVec 8 := BitVec.setWidth 8 (IntOp.ori (rnib a) (IntOp.shli .vector (rnib b) 4#32))

section Rows

variable (v0 : Vec Ideal S688x2048 .f32) (s : FVec Ideal S1x1 .f32) (w : Vec Ideal S11008x1024 .bf16) (e : Vec Ideal S11008x1024 .f32) (i : S11008x1024.Idx)

theorem pay4_apply : k0_pay4 v0 e i = dOf (k0_pay2 v0 (ix2 0 0)) (e i) := by
  have h (s : FVec Ideal S1x1 .f32) : FloatOps.mulf (FloatOps.minimumf (FloatOps.divf (e i) (broadcastTo S11008x1024 (mulf s (broadcast S1x1 (Scalar.ofBits (F := Ideal) .f32 0x40C00000#32))) broadcasts_S1x1_S11008x1024 i)) (Ideal.ofBits .f32 0x43E00000#32)) (broadcastTo S11008x1024 s broadcasts_S1x1_S11008x1024 i)
      = dOf (s (ix2 0 0)) (e i) := by
    rw [scalar_apply, scalar_apply]; rfl
  rw [← h]
  unfold k0_pay4
  rw [shapeCast_self]
  rfl

/-- The first code of a byte along a row: -/
theorem even_value : k0_pay8 (k0_pay4 v0 e) (k0_pay5 w) (k0_pay6 v0 e) k0_pay7 i = clip (quot (w i) (dOf (k0_pay2 v0 (ix2 0 0)) (e i))) := by
  rw [← pay4_apply]
  unfold k0_pay8 k0_pay5 k0_pay6 k0_pay7
  rw [shapeCast_self]
  generalize k0_pay4 v0 e = d
  rfl

theorem even_code (a b : FVec Ideal S11008x1024 .f32) (c : IVec S11008x1024 1) (d : FVec Ideal S11008x1024 .f32) :
    k0_pay11 (k0_pay9 a b c d) (k0_pay10 a b c d) i = rnib (k0_pay8 a b c d i) := by
  unfold k0_pay11 k0_pay9 k0_pay10
  generalize k0_pay8 a b c d = v
  rfl

/-- the second, -/
theorem odd_value : k0_pay12 s w e i = clip (quot (w i) (dOf (s (ix2 0 0)) (e i))) := by
  have h : FloatOps.mulf (FloatOps.minimumf (FloatOps.divf (e i) (broadcastTo S11008x1024 (mulf s (broadcast S1x1 (Scalar.ofBits (F := Ideal) .f32 0x40C00000#32))) broadcasts_S1x1_S11008x1024 i)) (Ideal.ofBits .f32 0x43E00000#32)) (broadcastTo S11008x1024 s broadcasts_S1x1_S11008x1024 i)
      = dOf (s (ix2 0 0)) (e i) := by
    rw [scalar_apply, scalar_apply]; rfl
  rw [← h]
  unfold k0_pay12
  rw [shapeCast_self, shapeCast_self]
  rfl

theorem odd_byte (A : IVec S11008x1024 32) :
    k0_pay19 A (k0_pay12 s w e) (k0_pay14 s w e) (k0_pay15 s w e) (k0_pay16 s w e) (k0_pay17 s w e) (k0_pay18 s w e) i
      = BitVec.setWidth 8 (IntOp.ori (A i) (IntOp.shli .vector (rnib (k0_pay12 s w e i)) 4#32)) := by
  unfold k0_pay19 k0_pay14 k0_pay15 k0_pay16 k0_pay17 k0_pay18
  unfold k0_pay13
  generalize k0_pay12 s w e = v
  rfl

end Rows

section Columns

variable (s : FVec Ideal S1x1 .f32) (w : Vec Ideal S2048x5504 .bf16) (e : Vec Ideal S2048x5504 .f32) (i : S2048x5504.Idx)

/-- and the same along a column. -/
theorem even_value' : k0_pay22 s (k0_pay20 w) (k0_pay21 s e) i = clip (quot (w i) (dOf (s (ix2 0 0)) (e i))) := by
  have h : FloatOps.mulf (FloatOps.minimumf (FloatOps.divf (e i) (broadcastTo S2048x5504 (mulf s (broadcast S1x1 (Scalar.ofBits (F := Ideal) .f32 0x40C00000#32))) broadcasts_S1x1_S2048x5504 i)) (Ideal.ofBits .f32 0x43E00000#32)) (broadcastTo S2048x5504 s broadcasts_S1x1_S2048x5504 i)
      = dOf (s (ix2 0 0)) (e i) := by
    rw [scalar_apply', scalar_apply']; rfl
  rw [← h]
  unfold k0_pay22 k0_pay20 k0_pay21
  rw [shapeCast_self, shapeCast_self]
  rfl

theorem even_code' (a : FVec Ideal S2048x5504 .bf16) (b : FVec Ideal S2048x5504 .fp8e4m3) :
    k0_pay29 (k0_pay22 s a b) (k0_pay24 s a b) (k0_pay25 s a b) (k0_pay26 s a b) (k0_pay27 s a b) (k0_pay28 s a b) (Scalar.ofBits (F := Ideal) .f32 0x40800000#32) i
      = rnib (k0_pay22 s a b i) := by
  unfold k0_pay29 k0_pay24 k0_pay25 k0_pay26 k0_pay27 k0_pay28
  unfold k0_pay23
  generalize k0_pay22 s a b = v
  rfl

theorem odd_value' : k0_pay30 s w e i = clip (quot (w i) (dOf (s (ix2 0 0)) (e i))) := by
  have h : FloatOps.mulf (FloatOps.minimumf (FloatOps.divf (e i) (broadcastTo S2048x5504 (mulf s (broadcast S1x1 (Scalar.ofBits (F := Ideal) .f32 0x40C00000#32))) broadcasts_S1x1_S2048x5504 i)) (Ideal.ofBits .f32 0x43E00000#32)) (broadcastTo S2048x5504 s broadcasts_S1x1_S2048x5504 i)
      = dOf (s (ix2 0 0)) (e i) := by
    rw [scalar_apply', scalar_apply']; rfl
  rw [← h]
  unfold k0_pay30
  rw [shapeCast_self, shapeCast_self]
  rfl

theorem odd_byte' (A : IVec S2048x5504 32) :
    k0_pay1 A (k0_pay30 s w e) (k0_pay31 s w e) (k0_pay32 s w e) (k0_pay33 s w e) (k0_pay34 (F := Ideal)) i
      = BitVec.setWidth 8 (IntOp.ori (A i) (IntOp.shli .vector (rnib (k0_pay30 s w e i)) 4#32)) := by
  unfold k0_pay1 k0_pay32 k0_pay33 k0_pay34
  unfold k0_pay31
  generalize k0_pay30 s w e = v
  rfl

end Columns

/-- The two results of codes as the body leaves them. -/
theorem ck_block (x0 : Vec Ideal S688x2048 .f32) (x1 : Vec Ideal S688x128 .f32) (x2 x3 : Vec Ideal S11008x1024 .f32) (x4 x5 : Vec Ideal S11008x1024 .bf16)
    (x6 : Vec Ideal S2048x5504 .f32) (x7 x8 : Vec Ideal S2048x5504 .bf16) (i : S11008x1024.Idx) :
    out0_9 (F := Ideal) x0 x1 x2 x3 x4 x5 x6 x7 x8 i
      = two (clip (quot (x4 i) (dOf (k0_pay2 x0 (ix2 0 0)) (x2 i)))) (clip (quot (x5 i) (dOf (k0_pay2 x0 (ix2 0 0)) (x3 i)))) := by
  unfold out0_9 k0_pay39 k0_pay38 k0_pay37 k0_pay36 k0_pay35
  rw [View.canon_unit_zero hz, View.ld_unit_zero hz, View.ld_unit_zero hz, View.ld_unit_zero hz, View.ld_unit_zero hz, View.ld_unit_zero hz]
  rw [odd_byte, even_code, even_value, odd_value]
  rfl

theorem cn_block (x0 : Vec Ideal S688x2048 .f32) (x1 : Vec Ideal S688x128 .f32) (x2 x3 : Vec Ideal S11008x1024 .f32) (x4 x5 : Vec Ideal S11008x1024 .bf16)
    (x6 : Vec Ideal S2048x5504 .f32) (x7 x8 : Vec Ideal S2048x5504 .bf16) (i : S2048x5504.Idx) :
    out0_10 (F := Ideal) x0 x1 x2 x3 x4 x5 x6 x7 x8 i
      = two (clip (quot (x7 i) (dOf (k0_pay2 x0 (ix2 0 0)) (x6 i)))) (clip (quot (x8 i) (dOf (k0_pay2 x0 (ix2 0 0)) (x6 i)))) := by
  unfold out0_10 k0_pay41 k0_pay40 k0_pay35
  rw [View.canon_unit_zero hz, View.ld_unit_zero hz, View.ld_unit_zero hz, View.ld_unit_zero hz, View.ld_unit_zero hz]
  rw [odd_byte', even_code', even_value', odd_value']
  rfl

/-- The kernel's byte is the reference's. -/
theorem pair_eq (a b d d' : EReal) : Cert.QuantIdeal.Codes.pair (a * Cert.Codes.recip d) (b * Cert.Codes.recip d') = two (clip (quot a d)) (clip (quot b d')) := by
  unfold Cert.QuantIdeal.Codes.pair two
  rw [Cert.Codes.code_eq, Cert.Codes.code_eq]
  rfl

end Cert.Proof.Quant
end
-- ==== Proof.QuantEquation.lean ====
/-
  The equation of the codes and the two scales: the reference's maximum of the block maxima, its scales and its codes, read
  element by element, are what the quantising call leaves.
-/
module

public import proofs.«01_k».proof.Defs
public import proofs.«01_k».proof.Proof.QuantIdealEnd
public import proofs.«01_k».proof.Proof.QuantRefCodes
public import proofs.«01_k».proof.Proof.Gen.RefQuantIdeal.Frame
public import Idealize.ShloMosaic.Lib.Claim
public import Idealize.ShloMosaic.Lib.Bf16Pair

@[expose] public section

set_option maxRecDepth 16384

noncomputable section

namespace Cert.Proof.Quant

open Cert.RefQuantIdeal Idealize.ShloMosaic Idealize.ShloMosaic.TcCoe Idealize.SL.Sem
open Cert.RefQuantIdeal.Gen
open Idealize.ShloMosaic.Pipeline (Dat Window)
open Cert.QuantIdeal.Scales (bscale tscale amaxOf stOut rAll ckF cnF)

variable (m : (ℓ : Loc nD τ sig) → Buf (Elt Ideal) ℓ) (g : Dev nD → PrngReg)

/-- The reference's operands: the rows the weight has, of these every sixteenth lane, each block's maximum at its own rows
    and at its own pairs of rows, and the weight's even and odd columns and rows. -/
def rows (x : S704x2048.Idx → EReal) : Vec Ideal S688x2048 .f32 := extractStridedSlice S688x2048 ![0, 0] x slices_S704x2048_S688x2048_0_0
def lanes (x : S704x2048.Idx → EReal) : Vec Ideal S688x128 .f32 := Host.slice S688x128 ![0, 0] ![1, 16] (rows x) slicesBy_S688x2048_S688x128_0s1_0s16
def rep (x : S704x2048.Idx → EReal) : Vec Ideal S11008x2048 .f32 :=
  shapeCast S11008x2048 (broadcastInDim S688x16x2048 ![0, 2] bcast_S688x2048_S688x16x2048_0_2 (rows x)) shapeCasts_S688x16x2048_S11008x2048
def blkE (x : S704x2048.Idx → EReal) : Vec Ideal S11008x1024 .f32 := Host.slice S11008x1024 ![0, 0] ![1, 2] (rep x) slicesBy_S11008x2048_S11008x1024_0s1_0s2
def blkO (x : S704x2048.Idx → EReal) : Vec Ideal S11008x1024 .f32 := Host.slice S11008x1024 ![0, 1] ![1, 2] (rep x) slicesBy_S11008x2048_S11008x1024_0s1_1s2
def wE (w : S11008x2048.Idx → EReal) : Vec Ideal S11008x1024 .bf16 := Host.slice S11008x1024 ![0, 0] ![1, 2] w slicesBy_S11008x2048_S11008x1024_0s1_0s2
def wO (w : S11008x2048.Idx → EReal) : Vec Ideal S11008x1024 .bf16 := Host.slice S11008x1024 ![0, 1] ![1, 2] w slicesBy_S11008x2048_S11008x1024_0s1_1s2
def blkC (x : S704x2048.Idx → EReal) : Vec Ideal S2048x5504 .f32 :=
  shapeCast S2048x5504 (broadcastInDim S2048x688x8 ![0, 1] bcast_S2048x688_S2048x688x8_0_1 (transpose S2048x688 [1, 0] (rows x) transposes_S688x2048_S2048x688_1_0)) shapeCasts_S2048x688x8_S2048x5504
def wCE (w : S11008x2048.Idx → EReal) : Vec Ideal S2048x5504 .bf16 :=
  transpose S2048x5504 [1, 0] (Host.slice S5504x2048 ![0, 0] ![2, 1] w slicesBy_S11008x2048_S5504x2048_0s2_0s1) transposes_S5504x2048_S2048x5504_1_0
def wCO (w : S11008x2048.Idx → EReal) : Vec Ideal S2048x5504 .bf16 :=
  transpose S2048x5504 [1, 0] (Host.slice S5504x2048 ![1, 0] ![2, 1] w slicesBy_S11008x2048_S5504x2048_1s2_0s1) transposes_S5504x2048_S2048x5504_1_0

theorem V_0 (c : Dev nD) : V m c main_v0 = rows (m ((c : Thread nD τ).loc main_arg0)) := by
  unfold V
  after_results <;> rfl
theorem V_1 (c : Dev nD) : V m c main_v6 = lanes (m ((c : Thread nD τ).loc main_arg0)) := by
  unfold V
  after_results <;> rfl
theorem V_2 (c : Dev nD) : V m c main_v7 = blkE (m ((c : Thread nD τ).loc main_arg0)) := by
  unfold V
  after_results <;> rfl
theorem V_3 (c : Dev nD) : V m c main_v8 = blkO (m ((c : Thread nD τ).loc main_arg0)) := by
  unfold V
  after_results <;> rfl
theorem V_4 (c : Dev nD) : V m c main_v9 = wE (m ((c : Thread nD τ).loc main_arg1)) := by
  unfold V
  after_results <;> rfl
theorem V_5 (c : Dev nD) : V m c main_v10 = wO (m ((c : Thread nD τ).loc main_arg1)) := by
  unfold V
  after_results <;> rfl
theorem V_6 (c : Dev nD) : V m c main_v5 = blkC (m ((c : Thread nD τ).loc main_arg0)) := by
  unfold V
  after_results <;> rfl
theorem V_7 (c : Dev nD) : V m c main_v12 = wCE (m ((c : Thread nD τ).loc main_arg1)) := by
  unfold V
  after_results <;> rfl
theorem V_8 (c : Dev nD) : V m c main_v14 = wCO (m ((c : Thread nD τ).loc main_arg1)) := by
  unfold V
  after_results <;> rfl

theorem rows_apply (x : S704x2048.Idx → EReal) (r : Fin 688) (l : Fin 2048) : rows x (ix2 r l) = x (ix2 ⟨r.val, r.isLt.trans (by decide)⟩ l) := by
  refine extractStridedSlice_apply _ _ _ _ _ fun a => ?_
  match a with
  | ⟨0, _⟩ => show r.val = 0 + r.val; omega
  | ⟨1, _⟩ => show l.val = 0 + l.val; omega

theorem lanes_apply (x : S704x2048.Idx → EReal) (r : Fin 688) (k : Fin 128) : lanes x (ix2 r k) = x (ix2 ⟨r.val, r.isLt.trans (by decide)⟩ ⟨16 * k.val, by omega⟩) := by
  refine Eq.trans ?_ (rows_apply x r ⟨16 * k.val, by omega⟩)
  unfold lanes Host.slice
  refine congrArg (rows x) (Shape.idx_ext₂ ?_ ?_)
  · show 0 + 1 * r.val = r.val; omega
  · show 0 + 16 * k.val = 16 * k.val; omega

theorem rep_apply (x : S704x2048.Idx → EReal) (r : Fin 11008) (l : Fin 2048) : rep x (ix2 r l) = x (ix2 ⟨r.val / 16, by omega⟩ l) := by
  have h1 : r.val / 16 < 688 := by omega
  have h2 : r.val % 16 < 16 := Nat.mod_lt _ (by decide)
  refine Eq.trans ?_ (rows_apply x ⟨r.val / 16, h1⟩ l)
  refine (shapeCast_apply (broadcastInDim S688x16x2048 ![0, 2] bcast_S688x2048_S688x16x2048_0_2 (rows x)) _ (ix2 r l) (ix3 (⟨r.val / 16, h1⟩ : Fin 688) (⟨r.val % 16, h2⟩ : Fin 16) l) ?_).trans ?_
  · rw [Shape.rowMajor_val_three, Shape.rowMajor_val_two]
    show (r.val / 16 * 16 + r.val % 16) * 2048 + l.val = r.val * 2048 + l.val
    omega
  · refine broadcastInDim_apply _ _ _ _ _ fun a => ?_
    match a with
    | ⟨0, _⟩ => rfl
    | ⟨1, _⟩ => rfl

theorem blkE_apply (x : S704x2048.Idx → EReal) (r : Fin 11008) (k : Fin 1024) : blkE x (ix2 r k) = x (ix2 ⟨r.val / 16, by omega⟩ ⟨2 * k.val, by omega⟩) := by
  refine Eq.trans ?_ (rep_apply x r ⟨2 * k.val, by omega⟩)
  unfold blkE Host.slice
  refine congrArg (rep x) (Shape.idx_ext₂ ?_ ?_)
  · show 0 + 1 * r.val = r.val; omega
  · show 0 + 2 * k.val = 2 * k.val; omega
theorem blkO_apply (x : S704x2048.Idx → EReal) (r : Fin 11008) (k : Fin 1024) : blkO x (ix2 r k) = x (ix2 ⟨r.val / 16, by omega⟩ ⟨2 * k.val + 1, by omega⟩) := by
  refine Eq.trans ?_ (rep_apply x r ⟨2 * k.val + 1, by omega⟩)
  unfold blkO Host.slice
  refine congrArg (rep x) (Shape.idx_ext₂ ?_ ?_)
  · show 0 + 1 * r.val = r.val; omega
  · show 1 + 2 * k.val = 2 * k.val + 1; omega
theorem wE_apply (w : S11008x2048.Idx → EReal) (r : Fin 11008) (k : Fin 1024) : wE w (ix2 r k) = w (ix2 r ⟨2 * k.val, by omega⟩) := by
  unfold wE Host.slice
  refine congrArg w (Shape.idx_ext₂ ?_ ?_)
  · show 0 + 1 * r.val = r.val; omega
  · show 0 + 2 * k.val = 2 * k.val; omega
theorem wO_apply (w : S11008x2048.Idx → EReal) (r : Fin 11008) (k : Fin 1024) : wO w (ix2 r k) = w (ix2 r ⟨2 * k.val + 1, by omega⟩) := by
  unfold wO Host.slice
  refine congrArg w (Shape.idx_ext₂ ?_ ?_)
  · show 0 + 1 * r.val = r.val; omega
  · show 1 + 2 * k.val = 2 * k.val + 1; omega

theorem blkC_apply (x : S704x2048.Idx → EReal) (l : Fin 2048) (q : Fin 5504) : blkC x (ix2 l q) = x (ix2 ⟨q.val / 8, by omega⟩ l) := by
  have h1 : q.val / 8 < 688 := by omega
  have h2 : q.val % 8 < 8 := Nat.mod_lt _ (by decide)
  refine Eq.trans ?_ (rows_apply x ⟨q.val / 8, h1⟩ l)
  refine (shapeCast_apply (broadcastInDim S2048x688x8 ![0, 1] bcast_S2048x688_S2048x688x8_0_1 (transpose S2048x688 [1, 0] (rows x) transposes_S688x2048_S2048x688_1_0)) _ (ix2 l q) (ix3 l (⟨q.val / 8, h1⟩ : Fin 688) (⟨q.val % 8, h2⟩ : Fin 8)) ?_).trans ?_
  · rw [Shape.rowMajor_val_three, Shape.rowMajor_val_two]
    show (l.val * 688 + q.val / 8) * 8 + q.val % 8 = l.val * 5504 + q.val
    omega
  · refine (broadcastInDim_apply _ _ _ _ (ix2 l (⟨q.val / 8, h1⟩ : Fin 688)) fun a => ?_).trans ?_
    · match a with
      | ⟨0, _⟩ => rfl
      | ⟨1, _⟩ => rfl
    · exact congrArg (rows x) (Shape.idx_ext₂ rfl rfl)
theorem wCE_apply (w : S11008x2048.Idx → EReal) (l : Fin 2048) (q : Fin 5504) : wCE w (ix2 l q) = w (ix2 ⟨2 * q.val, by omega⟩ l) := by
  unfold wCE Host.slice
  refine congrArg w (Shape.idx_ext₂ ?_ ?_)
  · show 0 + 2 * q.val = 2 * q.val; omega
  · show 0 + 1 * l.val = l.val; omega
theorem wCO_apply (w : S11008x2048.Idx → EReal) (l : Fin 2048) (q : Fin 5504) : wCO w (ix2 l q) = w (ix2 ⟨2 * q.val + 1, by omega⟩ l) := by
  unfold wCO Host.slice
  refine congrArg w (Shape.idx_ext₂ ?_ ?_)
  · show 1 + 2 * q.val = 2 * q.val + 1; omega
  · show 0 + 1 * l.val = l.val; omega

/-- The rows read by the kernel are the reference's. -/
theorem rows_eq (x : S704x2048.Idx → EReal) : View.ld (x : Vec Ideal S704x2048 .f32) rAll = rows x := by
  refine funext fun (i : S688x2048.Idx) => ?_
  obtain ⟨r, l, rfl⟩ : ∃ (r : Fin 688) (l : Fin 2048), i = ix2 r l := ⟨i 0, i 1, eq_ix2 i⟩
  rw [rows_apply]
  show x (rAll.idx (ix2 r l)) = _
  refine congrArg x (Shape.idx_ext₂ ?_ ?_)
  · show 0 + 1 * r.val = r.val; omega
  · show 0 + 1 * l.val = l.val; omega

/-- The tensor scale. -/
theorem st_eq (x : S704x2048.Idx → EReal) : k0_pay2 (F := Ideal) (rows x) = stOut (amaxOf (F := Ideal) x) := by
  unfold amaxOf stOut
  rw [rows_eq]
  unfold k0_pay2 Cert.QuantIdeal.Gen.k0_pay836 Cert.QuantIdeal.Gen.k0_pay837
  simp only [shapeCast_self]

/-- The block scales. -/
theorem sb_eq (x : S704x2048.Idx → EReal) (r : Fin 688) (k : Fin 128) :
    k0_pay3 (F := Ideal) (rows x) (lanes x) (ix2 r k)
      = bscale (tscale (amaxOf (F := Ideal) x (ix2 0 0))) (x (ix2 ⟨r.val, r.isLt.trans (by decide)⟩ ⟨16 * k.val, by omega⟩)) := by
  rw [← lanes_apply x r k, ← Cert.QuantIdeal.Scales.stOut_apply, ← st_eq]
  have h (s : FVec Ideal S1x1 .f32) : FloatOps.minimumf (FloatOps.divf (lanes x (ix2 r k)) (broadcastTo S688x128 (mulf s (broadcast S1x1 (Scalar.ofBits (F := Ideal) .f32 0x40C00000#32))) broadcasts_S1x1_S688x128 (ix2 r k))) (Ideal.ofBits .f32 0x43E00000#32)
      = bscale (s (ix2 0 0)) (lanes x (ix2 r k)) := by
    have hs (v : S1x1.Idx → EReal) : broadcastTo S688x128 v broadcasts_S1x1_S688x128 (ix2 r k) = v (ix2 0 0) := by
      refine congrArg v (Shape.idx_ext₂ ?_ ?_) <;> rfl
    rw [hs]; rfl
  rw [← h]
  unfold k0_pay3
  rw [shapeCast_self]
  rfl

theorem idx_0 : ∀ t : Fin cfg0.N, win0_0.index t 0 = 0 ∧ win0_0.index t 1 = 0 := (by decide +kernel : ∀ t : Fin grid0.N, win0_0.index t 0 = 0 ∧ win0_0.index t 1 = 0)
theorem idx_1 : ∀ t : Fin cfg0.N, win0_1.index t 0 = 0 ∧ win0_1.index t 1 = 0 := (by decide +kernel : ∀ t : Fin grid0.N, win0_1.index t 0 = 0 ∧ win0_1.index t 1 = 0)
theorem idx_2 : ∀ t : Fin cfg0.N, win0_2.index t 0 = 0 ∧ win0_2.index t 1 = 0 := (by decide +kernel : ∀ t : Fin grid0.N, win0_2.index t 0 = 0 ∧ win0_2.index t 1 = 0)
theorem idx_3 : ∀ t : Fin cfg0.N, win0_3.index t 0 = 0 ∧ win0_3.index t 1 = 0 := (by decide +kernel : ∀ t : Fin grid0.N, win0_3.index t 0 = 0 ∧ win0_3.index t 1 = 0)
theorem idx_4 : ∀ t : Fin cfg0.N, win0_4.index t 0 = 0 ∧ win0_4.index t 1 = 0 := (by decide +kernel : ∀ t : Fin grid0.N, win0_4.index t 0 = 0 ∧ win0_4.index t 1 = 0)
theorem idx_5 : ∀ t : Fin cfg0.N, win0_5.index t 0 = 0 ∧ win0_5.index t 1 = 0 := (by decide +kernel : ∀ t : Fin grid0.N, win0_5.index t 0 = 0 ∧ win0_5.index t 1 = 0)
theorem idx_6 : ∀ t : Fin cfg0.N, win0_6.index t 0 = 0 ∧ win0_6.index t 1 = 0 := (by decide +kernel : ∀ t : Fin grid0.N, win0_6.index t 0 = 0 ∧ win0_6.index t 1 = 0)
theorem idx_7 : ∀ t : Fin cfg0.N, win0_7.index t 0 = 0 ∧ win0_7.index t 1 = 0 := (by decide +kernel : ∀ t : Fin grid0.N, win0_7.index t 0 = 0 ∧ win0_7.index t 1 = 0)
theorem idx_8 : ∀ t : Fin cfg0.N, win0_8.index t 0 = 0 ∧ win0_8.index t 1 = 0 := (by decide +kernel : ∀ t : Fin grid0.N, win0_8.index t 0 = 0 ∧ win0_8.index t 1 = 0)
theorem idx_9 : ∀ t : Fin cfg0.N, win0_9.index t 0 = 0 ∧ win0_9.index t 1 = 0 := (by decide +kernel : ∀ t : Fin grid0.N, win0_9.index t 0 = 0 ∧ win0_9.index t 1 = 0)
theorem idx_10 : ∀ t : Fin cfg0.N, win0_10.index t 0 = 0 ∧ win0_10.index t 1 = 0 := (by decide +kernel : ∀ t : Fin grid0.N, win0_10.index t 0 = 0 ∧ win0_10.index t 1 = 0)
theorem idx_11 : ∀ t : Fin cfg0.N, win0_11.index t 0 = 0 ∧ win0_11.index t 1 = 0 := (by decide +kernel : ∀ t : Fin grid0.N, win0_11.index t 0 = 0 ∧ win0_11.index t 1 = 0)
theorem idx_12 : ∀ t : Fin cfg0.N, win0_12.index t 0 = 0 ∧ win0_12.index t 1 = 0 := (by decide +kernel : ∀ t : Fin grid0.N, win0_12.index t 0 = 0 ∧ win0_12.index t 1 = 0)

/-- Each operand is one block. -/
theorem iblk_0 (c : Dev nD) (t : Fin cfg0.N) : iblk m c 0 t = rows (m ((c : Thread nD τ).loc main_arg0)) := by
  refine funext fun y => ?_
  obtain ⟨h0, h1⟩ := idx_0 t
  rw [← V_0]
  show V m c main_v0 ((win0_0.rect t).emb y) = V m c main_v0 y
  refine congrArg _ (Shape.idx_ext₂ ?_ ?_)
  · rw [Window.rect_emb_val win0_0 t y 0, h0]; show 0 * 688 + (y 0).val = (y 0).val; omega
  · rw [Window.rect_emb_val win0_0 t y 1, h1]; show 0 * 2048 + (y 1).val = (y 1).val; omega
theorem iblk_1 (c : Dev nD) (t : Fin cfg0.N) : iblk m c 1 t = lanes (m ((c : Thread nD τ).loc main_arg0)) := by
  refine funext fun y => ?_
  obtain ⟨h0, h1⟩ := idx_1 t
  rw [← V_1]
  show V m c main_v6 ((win0_1.rect t).emb y) = V m c main_v6 y
  refine congrArg _ (Shape.idx_ext₂ ?_ ?_)
  · rw [Window.rect_emb_val win0_1 t y 0, h0]; show 0 * 688 + (y 0).val = (y 0).val; omega
  · rw [Window.rect_emb_val win0_1 t y 1, h1]; show 0 * 128 + (y 1).val = (y 1).val; omega
theorem iblk_2 (c : Dev nD) (t : Fin cfg0.N) : iblk m c 2 t = blkE (m ((c : Thread nD τ).loc main_arg0)) := by
  refine funext fun y => ?_
  obtain ⟨h0, h1⟩ := idx_2 t
  rw [← V_2]
  show V m c main_v7 ((win0_2.rect t).emb y) = V m c main_v7 y
  refine congrArg _ (Shape.idx_ext₂ ?_ ?_)
  · rw [Window.rect_emb_val win0_2 t y 0, h0]; show 0 * 11008 + (y 0).val = (y 0).val; omega
  · rw [Window.rect_emb_val win0_2 t y 1, h1]; show 0 * 1024 + (y 1).val = (y 1).val; omega
theorem iblk_3 (c : Dev nD) (t : Fin cfg0.N) : iblk m c 3 t = blkO (m ((c : Thread nD τ).loc main_arg0)) := by
  refine funext fun y => ?_
  obtain ⟨h0, h1⟩ := idx_3 t
  rw [← V_3]
  show V m c main_v8 ((win0_3.rect t).emb y) = V m c main_v8 y
  refine congrArg _ (Shape.idx_ext₂ ?_ ?_)
  · rw [Window.rect_emb_val win0_3 t y 0, h0]; show 0 * 11008 + (y 0).val = (y 0).val; omega
  · rw [Window.rect_emb_val win0_3 t y 1, h1]; show 0 * 1024 + (y 1).val = (y 1).val; omega
theorem iblk_4 (c : Dev nD) (t : Fin cfg0.N) : iblk m c 4 t = wE (m ((c : Thread nD τ).loc main_arg1)) := by
  refine funext fun y => ?_
  obtain ⟨h0, h1⟩ := idx_4 t
  rw [← V_4]
  show V m c main_v9 ((win0_4.rect t).emb y) = V m c main_v9 y
  refine congrArg _ (Shape.idx_ext₂ ?_ ?_)
  · rw [Window.rect_emb_val win0_4 t y 0, h0]; show 0 * 11008 + (y 0).val = (y 0).val; omega
  · rw [Window.rect_emb_val win0_4 t y 1, h1]; show 0 * 1024 + (y 1).val = (y 1).val; omega
theorem iblk_5 (c : Dev nD) (t : Fin cfg0.N) : iblk m c 5 t = wO (m ((c : Thread nD τ).loc main_arg1)) := by
  refine funext fun y => ?_
  obtain ⟨h0, h1⟩ := idx_5 t
  rw [← V_5]
  show V m c main_v10 ((win0_5.rect t).emb y) = V m c main_v10 y
  refine congrArg _ (Shape.idx_ext₂ ?_ ?_)
  · rw [Window.rect_emb_val win0_5 t y 0, h0]; show 0 * 11008 + (y 0).val = (y 0).val; omega
  · rw [Window.rect_emb_val win0_5 t y 1, h1]; show 0 * 1024 + (y 1).val = (y 1).val; omega
theorem iblk_6 (c : Dev nD) (t : Fin cfg0.N) : iblk m c 6 t = blkC (m ((c : Thread nD τ).loc main_arg0)) := by
  refine funext fun y => ?_
  obtain ⟨h0, h1⟩ := idx_6 t
  rw [← V_6]
  show V m c main_v5 ((win0_6.rect t).emb y) = V m c main_v5 y
  refine congrArg _ (Shape.idx_ext₂ ?_ ?_)
  · rw [Window.rect_emb_val win0_6 t y 0, h0]; show 0 * 2048 + (y 0).val = (y 0).val; omega
  · rw [Window.rect_emb_val win0_6 t y 1, h1]; show 0 * 5504 + (y 1).val = (y 1).val; omega
theorem iblk_7 (c : Dev nD) (t : Fin cfg0.N) : iblk m c 7 t = wCE (m ((c : Thread nD τ).loc main_arg1)) := by
  refine funext fun y => ?_
  obtain ⟨h0, h1⟩ := idx_7 t
  rw [← V_7]
  show V m c main_v12 ((win0_7.rect t).emb y) = V m c main_v12 y
  refine congrArg _ (Shape.idx_ext₂ ?_ ?_)
  · rw [Window.rect_emb_val win0_7 t y 0, h0]; show 0 * 2048 + (y 0).val = (y 0).val; omega
  · rw [Window.rect_emb_val win0_7 t y 1, h1]; show 0 * 5504 + (y 1).val = (y 1).val; omega
theorem iblk_8 (c : Dev nD) (t : Fin cfg0.N) : iblk m c 8 t = wCO (m ((c : Thread nD τ).loc main_arg1)) := by
  refine funext fun y => ?_
  obtain ⟨h0, h1⟩ := idx_8 t
  rw [← V_8]
  show V m c main_v14 ((win0_8.rect t).emb y) = V m c main_v14 y
  refine congrArg _ (Shape.idx_ext₂ ?_ ?_)
  · rw [Window.rect_emb_val win0_8 t y 0, h0]; show 0 * 2048 + (y 0).val = (y 0).val; omega
  · rw [Window.rect_emb_val win0_8 t y 1, h1]; show 0 * 5504 + (y 1).val = (y 1).val; omega

/-- What the reference's one point leaves in each result's block. -/
theorem out_ck (x : S704x2048.Idx → EReal) (w : S11008x2048.Idx → EReal) : out0_9 (F := Ideal) (rows x) (lanes x) (blkE x) (blkO x) (wE w) (wO w) (blkC x) (wCE w) (wCO w) = ckF x w := by
  refine funext fun (i : S11008x1024.Idx) => ?_
  obtain ⟨r, k, rfl⟩ : ∃ (r : Fin 11008) (k : Fin 1024), i = ix2 r k := ⟨i 0, i 1, eq_ix2 i⟩
  rw [ck_block, st_eq, Cert.QuantIdeal.Scales.stOut_apply, wE_apply, wO_apply, blkE_apply, blkO_apply]
  unfold ckF
  exact (pair_eq _ _ _ _).symm
theorem out_cn (x : S704x2048.Idx → EReal) (w : S11008x2048.Idx → EReal) : out0_10 (F := Ideal) (rows x) (lanes x) (blkE x) (blkO x) (wE w) (wO w) (blkC x) (wCE w) (wCO w) = cnF x w := by
  refine funext fun (i : S2048x5504.Idx) => ?_
  obtain ⟨l, q, rfl⟩ : ∃ (l : Fin 2048) (q : Fin 5504), i = ix2 l q := ⟨i 0, i 1, eq_ix2 i⟩
  rw [cn_block, st_eq, Cert.QuantIdeal.Scales.stOut_apply, wCE_apply, wCO_apply, blkC_apply]
  unfold cnF
  exact (pair_eq _ _ _ _).symm

/-- The two scales, as functions of the block maxima. -/
def sb (x : S704x2048.Idx → EReal) : S688x128.Idx → EReal := fun i =>
  bscale (tscale (amaxOf (F := Ideal) x (ix2 0 0))) (x (ix2 ⟨(i 0).val, (i 0).isLt.trans (by decide)⟩ ⟨16 * (i 1).val, by
    have h : (i 1).val < 128 := (i 1).isLt; omega⟩))
def st (x : S704x2048.Idx → EReal) : S1x1.Idx → EReal := stOut (amaxOf (F := Ideal) x)

theorem out_sb (x : S704x2048.Idx → EReal) (w : S11008x2048.Idx → EReal) : out0_11 (F := Ideal) (rows x) (lanes x) (blkE x) (blkO x) (wE w) (wO w) (blkC x) (wCE w) (wCO w) = sb x := by
  unfold out0_11
  rw [View.ld_unit_zero hz, View.ld_unit_zero hz, View.canon_unit_zero hz]
  refine funext fun (i : S688x128.Idx) => ?_
  obtain ⟨r, k, rfl⟩ : ∃ (r : Fin 688) (k : Fin 128), i = ix2 r k := ⟨i 0, i 1, eq_ix2 i⟩
  exact sb_eq x r k
theorem out_st (x : S704x2048.Idx → EReal) (w : S11008x2048.Idx → EReal) : out0_12 (F := Ideal) (rows x) (lanes x) (blkE x) (blkO x) (wE w) (wO w) (blkC x) (wCE w) (wCO w) = st x := by
  unfold out0_12
  rw [View.ld_unit_zero hz, View.canon_unit_zero hz, st_eq]
  rfl

theorem arr_ck (c : Dev nD) : (dats (F := Ideal) m 0 c).arrAt 9 cfg0.N = ckF (m ((c : Thread nD τ).loc main_arg0)) (m ((c : Thread nD τ).loc main_arg1)) := by
  refine (dats m 0 c).arrAt_eq_of_cover 9 _ (fun t _ => ?_) fun i => ?_
  · show (cfg0.win 9).cut (grid0.coords t) ((dats m 0 c).after 9 t) = _
    rw [after0_9, iblk_0, iblk_1, iblk_2, iblk_3, iblk_4, iblk_5, iblk_6, iblk_7, iblk_8, out_ck]
    refine funext fun y => ?_
    obtain ⟨h0, h1⟩ := idx_9 t
    show (ckF (m ((c : Thread nD τ).loc main_arg0)) (m ((c : Thread nD τ).loc main_arg1))) y = (ckF (m ((c : Thread nD τ).loc main_arg0)) (m ((c : Thread nD τ).loc main_arg1))) ((win0_9.rect t).emb y)
    refine congrArg _ (Shape.idx_ext₂ ?_ ?_).symm
    · rw [Window.rect_emb_val win0_9 t y 0, h0]; show 0 * 11008 + (y 0).val = (y 0).val; omega
    · rw [Window.rect_emb_val win0_9 t y 1, h1]; show 0 * 1024 + (y 1).val = (y 1).val; omega
  · obtain ⟨t, -⟩ : ∃ t : Fin cfg0.N, t.val = 0 := ⟨⟨0, by decide⟩, rfl⟩
    refine ⟨t, flush0_9 t, ?_⟩
    have hi0 : (i 0).val < 11008 := (i 0).isLt
    have hi1 : (i 1).val < 1024 := (i 1).isLt
    obtain ⟨h0, h1⟩ := idx_9 t
    show i ∈ ((View.whole main_v15_0).slice (win0_9.rect t)).set
    rw [View.set_slice_whole, Rect.mem_set_unit]
    intro a
    match a with
    | ⟨0, _⟩ => show win0_9.index t 0 * 11008 ≤ (i 0).val ∧ (i 0).val < win0_9.index t 0 * 11008 + 11008; rw [h0]; omega
    | ⟨1, _⟩ => show win0_9.index t 1 * 1024 ≤ (i 1).val ∧ (i 1).val < win0_9.index t 1 * 1024 + 1024; rw [h1]; omega

theorem arr_cn (c : Dev nD) : (dats (F := Ideal) m 0 c).arrAt 10 cfg0.N = cnF (m ((c : Thread nD τ).loc main_arg0)) (m ((c : Thread nD τ).loc main_arg1)) := by
  refine (dats m 0 c).arrAt_eq_of_cover 10 _ (fun t _ => ?_) fun i => ?_
  · show (cfg0.win 10).cut (grid0.coords t) ((dats m 0 c).after 10 t) = _
    rw [after0_10, iblk_0, iblk_1, iblk_2, iblk_3, iblk_4, iblk_5, iblk_6, iblk_7, iblk_8, out_cn]
    refine funext fun y => ?_
    obtain ⟨h0, h1⟩ := idx_10 t
    show (cnF (m ((c : Thread nD τ).loc main_arg0)) (m ((c : Thread nD τ).loc main_arg1))) y = (cnF (m ((c : Thread nD τ).loc main_arg0)) (m ((c : Thread nD τ).loc main_arg1))) ((win0_10.rect t).emb y)
    refine congrArg _ (Shape.idx_ext₂ ?_ ?_).symm
    · rw [Window.rect_emb_val win0_10 t y 0, h0]; show 0 * 2048 + (y 0).val = (y 0).val; omega
    · rw [Window.rect_emb_val win0_10 t y 1, h1]; show 0 * 5504 + (y 1).val = (y 1).val; omega
  · obtain ⟨t, -⟩ : ∃ t : Fin cfg0.N, t.val = 0 := ⟨⟨0, by decide⟩, rfl⟩
    refine ⟨t, flush0_10 t, ?_⟩
    have hi0 : (i 0).val < 2048 := (i 0).isLt
    have hi1 : (i 1).val < 5504 := (i 1).isLt
    obtain ⟨h0, h1⟩ := idx_10 t
    show i ∈ ((View.whole main_v15_1).slice (win0_10.rect t)).set
    rw [View.set_slice_whole, Rect.mem_set_unit]
    intro a
    match a with
    | ⟨0, _⟩ => show win0_10.index t 0 * 2048 ≤ (i 0).val ∧ (i 0).val < win0_10.index t 0 * 2048 + 2048; rw [h0]; omega
    | ⟨1, _⟩ => show win0_10.index t 1 * 5504 ≤ (i 1).val ∧ (i 1).val < win0_10.index t 1 * 5504 + 5504; rw [h1]; omega

theorem arr_sb (c : Dev nD) : (dats (F := Ideal) m 0 c).arrAt 11 cfg0.N = sb (m ((c : Thread nD τ).loc main_arg0)) := by
  refine (dats m 0 c).arrAt_eq_of_cover 11 _ (fun t _ => ?_) fun i => ?_
  · show (cfg0.win 11).cut (grid0.coords t) ((dats m 0 c).after 11 t) = _
    rw [after0_11, iblk_0, iblk_1, iblk_2, iblk_3, iblk_4, iblk_5, iblk_6, iblk_7, iblk_8, out_sb]
    refine funext fun y => ?_
    obtain ⟨h0, h1⟩ := idx_11 t
    show (sb (m ((c : Thread nD τ).loc main_arg0))) y = (sb (m ((c : Thread nD τ).loc main_arg0))) ((win0_11.rect t).emb y)
    refine congrArg _ (Shape.idx_ext₂ ?_ ?_).symm
    · rw [Window.rect_emb_val win0_11 t y 0, h0]; show 0 * 688 + (y 0).val = (y 0).val; omega
    · rw [Window.rect_emb_val win0_11 t y 1, h1]; show 0 * 128 + (y 1).val = (y 1).val; omega
  · obtain ⟨t, -⟩ : ∃ t : Fin cfg0.N, t.val = 0 := ⟨⟨0, by decide⟩, rfl⟩
    refine ⟨t, flush0_11 t, ?_⟩
    have hi0 : (i 0).val < 688 := (i 0).isLt
    have hi1 : (i 1).val < 128 := (i 1).isLt
    obtain ⟨h0, h1⟩ := idx_11 t
    show i ∈ ((View.whole main_v15_2).slice (win0_11.rect t)).set
    rw [View.set_slice_whole, Rect.mem_set_unit]
    intro a
    match a with
    | ⟨0, _⟩ => show win0_11.index t 0 * 688 ≤ (i 0).val ∧ (i 0).val < win0_11.index t 0 * 688 + 688; rw [h0]; omega
    | ⟨1, _⟩ => show win0_11.index t 1 * 128 ≤ (i 1).val ∧ (i 1).val < win0_11.index t 1 * 128 + 128; rw [h1]; omega

theorem arr_st (c : Dev nD) : (dats (F := Ideal) m 0 c).arrAt 12 cfg0.N = st (m ((c : Thread nD τ).loc main_arg0)) := by
  refine (dats m 0 c).arrAt_eq_of_cover 12 _ (fun t _ => ?_) fun i => ?_
  · show (cfg0.win 12).cut (grid0.coords t) ((dats m 0 c).after 12 t) = _
    rw [after0_12, iblk_0, iblk_1, iblk_2, iblk_3, iblk_4, iblk_5, iblk_6, iblk_7, iblk_8, out_st]
    refine funext fun y => ?_
    obtain ⟨h0, h1⟩ := idx_12 t
    show (st (m ((c : Thread nD τ).loc main_arg0))) y = (st (m ((c : Thread nD τ).loc main_arg0))) ((win0_12.rect t).emb y)
    refine congrArg _ (Shape.idx_ext₂ ?_ ?_).symm
    · rw [Window.rect_emb_val win0_12 t y 0, h0]; show 0 * 1 + (y 0).val = (y 0).val; omega
    · rw [Window.rect_emb_val win0_12 t y 1, h1]; show 0 * 1 + (y 1).val = (y 1).val; omega
  · obtain ⟨t, -⟩ : ∃ t : Fin cfg0.N, t.val = 0 := ⟨⟨0, by decide⟩, rfl⟩
    refine ⟨t, flush0_12 t, ?_⟩
    have hi0 : (i 0).val < 1 := (i 0).isLt
    have hi1 : (i 1).val < 1 := (i 1).isLt
    obtain ⟨h0, h1⟩ := idx_12 t
    show i ∈ ((View.whole main_v15_3).slice (win0_12.rect t)).set
    rw [View.set_slice_whole, Rect.mem_set_unit]
    intro a
    match a with
    | ⟨0, _⟩ => show win0_12.index t 0 * 1 ≤ (i 0).val ∧ (i 0).val < win0_12.index t 0 * 1 + 1; rw [h0]; omega
    | ⟨1, _⟩ => show win0_12.index t 1 * 1 ≤ (i 1).val ∧ (i 1).val < win0_12.index t 1 * 1 + 1; rw [h1]; omega

/-- The reference's run: its result arrays at these values, the arguments unchanged. -/
theorem run_ref (ρ : Dev nD → PrngReg) : θ_run (Cert.RefQuantIdeal.defs (F := Ideal)) (onTc (τ := τ) (Cert.RefQuantIdeal.main (F := Ideal))) ⟨m, fun _ => 0, ρ⟩ fun r => ∀ c : Dev nD,
      r.2.mem ((c : Thread nD τ).loc main_v15_0) = (dats m 0 c).arrAt 9 cfg0.N
      ∧ r.2.mem ((c : Thread nD τ).loc main_v15_1) = (dats m 0 c).arrAt 10 cfg0.N
      ∧ r.2.mem ((c : Thread nD τ).loc main_v15_2) = (dats m 0 c).arrAt 11 cfg0.N
      ∧ r.2.mem ((c : Thread nD τ).loc main_v15_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1) :=
  (θ_run (Cert.RefQuantIdeal.defs (F := Ideal)) _ _).mono (fun r h c => ⟨(h c).1 9, (h c).1 10, (h c).1 11, (h c).1 12,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (Cert.RefQuantIdeal.Gen.run_main (F := Ideal) m ρ)

/-- `Cert.algebraic_QuantIdeal_RefQuantIdeal`: from equal arguments both run and end with equal results. -/
theorem algebraic : Cert.algebraic_QuantIdeal_RefQuantIdeal (hQuantIdeal := Cert.QuantIdeal.Gen.facts) (hRefQuantIdeal := Cert.RefQuantIdeal.Gen.facts) := by
  intro m g m' g' _ hargs
  refine ⟨fun c => Cert.QuantIdeal.Scales.ckVal m c, fun c => Cert.QuantIdeal.Scales.cnVal m c, fun c => Cert.QuantIdeal.Scales.sbVal m c, fun c => Cert.QuantIdeal.Scales.stVal m c,
    (θ_run (Cert.QuantIdeal.defs (F := Ideal)) _ _).mono (fun _ h => h.1) (Cert.QuantIdeal.Scales.run m g), ?_⟩
  refine (θ_run (Cert.RefQuantIdeal.defs (F := Ideal)) _ _).mono (fun r h c => ?_) (run_ref m' g')
  obtain ⟨hk, hn, hb, ht, h0, h1⟩ := h c
  refine ⟨hk.trans ?_, hn.trans ?_, hb.trans ?_, ht.trans ?_, h0, h1⟩
  · rw [arr_ck, (hargs c).1, (hargs c).2]; rfl
  · rw [arr_cn, (hargs c).1, (hargs c).2]; rfl
  · rw [arr_sb, (hargs c).1]; rfl
  · rw [arr_st, (hargs c).1]; rfl

/-- The idealised kernel's frame. -/
theorem frame : Cert.quiescent_QuantIdeal (hQuantIdeal := Cert.QuantIdeal.Gen.facts) := by
  intro m g _
  exact (θ_run (Cert.QuantIdeal.defs (F := Ideal)) _ _).mono (fun _ h => ⟨fun c => (h.1 c).2.2.2.2, h.2⟩) (Cert.QuantIdeal.Scales.run m g)

/-- The reference's frame. -/
theorem refFrame : Cert.quiescent_RefQuantIdeal (hRefQuantIdeal := Cert.RefQuantIdeal.Gen.facts) :=
  fun m g _ => Cert.RefQuantIdeal.Gen.frame (F := Ideal) m g

/-- The idealisation's rule: a 32-bit word of two bf16 halves read as the pair it is. -/
theorem preserves : Cert.preserves_Quant_QuantIdeal :=
  ⟨IdealRules.bf16_pair.statement _ _ (by decide), IdealRules.bf16_pair.packStatement _⟩

end Cert.Proof.Quant
end
-- ==== Proof.lean ====
/- The claims: for the forward product, the input-gradient product, the block maxima and the quantiser's codes and scales, the kernel, its
   ideal program and the ideal reference keep their arguments and end with every counter at zero, and the two ideal programs agree. -/
module

public import proofs.«01_k».proof.Defs
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.RefFwdIdeal
public import proofs.«01_k».proof.Proof.Gen.RefFwdIdeal.Run
public import proofs.«01_k».proof.Proof.Gen.Dgrad
public import proofs.«01_k».proof.Proof.Gen.Dgrad.Skeleton
public import proofs.«01_k».proof.Proof.Gen.Dgrad.Launch
public import proofs.«01_k».proof.Proof.Gen.Dgrad.Points
public import proofs.«01_k».proof.Proof.Gen.Dgrad.Frame
public import proofs.«01_k».proof.Proof.Gen.DgradIdeal
public import proofs.«01_k».proof.Proof.Gen.DgradIdeal.Skeleton
public import proofs.«01_k».proof.Proof.Gen.DgradIdeal.Launch
public import proofs.«01_k».proof.Proof.Gen.DgradIdeal.Points
public import proofs.«01_k».proof.Proof.Gen.DgradIdeal.Frame
public import proofs.«01_k».proof.Proof.Gen.DgradIdeal.Value
public import proofs.«01_k».proof.Proof.Gen.RefDgradIdeal
public import proofs.«01_k».proof.Proof.Gen.RefDgradIdeal.Run
public import proofs.«01_k».proof.Proof.Gen.Amax
public import proofs.«01_k».proof.Proof.Gen.Amax.Skeleton
public import proofs.«01_k».proof.Proof.Gen.Amax.Launch
public import proofs.«01_k».proof.Proof.Gen.Amax.Points
public import proofs.«01_k».proof.Proof.Gen.Amax.Frame
public import proofs.«01_k».proof.Proof.Gen.AmaxIdeal
public import proofs.«01_k».proof.Proof.Gen.AmaxIdeal.Skeleton
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.RefAmaxIdeal
public import proofs.«01_k».proof.Proof.Gen.RefAmaxIdeal.Run
public import proofs.«01_k».proof.Proof.Gen.Quant
public import proofs.«01_k».proof.Proof.Gen.Quant.Skeleton
public import proofs.«01_k».proof.Proof.Gen.Quant.Loops
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Loops
public import proofs.«01_k».proof.Proof.Gen.QuantIdeal.Launch
public import proofs.«01_k».proof.Proof.Gen.QuantIdeal.Points
public import proofs.«01_k».proof.Proof.Gen.QuantIdeal.Frame
public import proofs.«01_k».proof.Proof.Gen.RefQuantIdeal
public import proofs.«01_k».proof.Proof.Gen.RefQuantIdeal.Skeleton
public import proofs.«01_k».proof.Proof.Gen.RefQuantIdeal.Launch
public import proofs.«01_k».proof.Proof.Gen.RefQuantIdeal.Points
public import proofs.«01_k».proof.Proof.Gen.RefQuantIdeal.Frame
public import proofs.«01_k».proof.Proof.FwdEquation
public import proofs.«01_k».proof.Proof.DgradEquation
public import proofs.«01_k».proof.Proof.AmaxFrame
public import proofs.«01_k».proof.Proof.AmaxEquation
public import proofs.«01_k».proof.Proof.QuantFrame
public import proofs.«01_k».proof.Proof.QuantEquation
public import Idealize.ShloMosaic.Adequacy
public import Idealize.ShloMosaic.Init

@[expose] public section

noncomputable section

namespace Cert.Proof

open Idealize.ShloMosaic Idealize.SL.Sem Cert.Fwd

/-- All the claims about the two products, the block maxima, the codes and the scales: frames, the idealised programs, and equality with the references. -/
theorem claim : Cert.Claim :=
  ⟨Cert.Fwd.Gen.facts, Cert.FwdIdeal.Gen.facts, Cert.RefFwdIdeal.Gen.facts, Cert.Dgrad.Gen.facts, Cert.DgradIdeal.Gen.facts, Cert.RefDgradIdeal.Gen.facts,
    Cert.Amax.Gen.facts, Cert.AmaxIdeal.Gen.facts, Cert.RefAmaxIdeal.Gen.facts,
    Cert.Quant.Gen.facts, Cert.QuantIdeal.Gen.facts, Cert.RefQuantIdeal.Gen.facts,
    fun m ρ _ => Cert.Fwd.Gen.frame m ρ, fun m ρ _ => Cert.FwdIdeal.Gen.frame m ρ, Fwd.refFrame,
    fun m ρ _ => Cert.Dgrad.Gen.frame m ρ, fun m ρ _ => Cert.DgradIdeal.Gen.frame m ρ, Dgrad.refFrame,
    fun m ρ _ => Cert.Amax.Blocks.frame m ρ, Amax.frame, Amax.refFrame,
    fun m ρ _ => Cert.Quant.Scales.frame m ρ, Quant.frame, Quant.refFrame,
    trivial, Fwd.algebraic, trivial, Dgrad.algebraic, trivial, Amax.algebraic, Quant.preserves, Quant.algebraic⟩

end Cert.Proof

end
